-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_ok_scale [hPre_ok_scale : Cert.Pre_ok_scale.Facts] (m : (ℓ : Loc Cert.DownIdeal.nD Cert.DownIdeal.τ Cert.DownIdeal.sig) → Buf (Elt Ideal) ℓ) : Prop :=
  ∀ c : Dev Cert.DownIdeal.nD,
    (Cert.Pre_ok_scale.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_ok_scale [hPre_ok_scale : Cert.Pre_ok_scale.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_ok_scale.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_ProjV [hPre_ok_ids_v : Cert.Pre_ok_ids_v.Facts] (m : (ℓ : Loc Cert.ProjV.nD Cert.ProjV.τ Cert.ProjV.sig) → Buf (Elt Bits) ℓ) : Prop :=
  ∀ c : Dev Cert.ProjV.nD,
    (Cert.Pre_ok_ids_v.fn (F := Bits) (m ((c.tc : Thread Cert.ProjV.nD Cert.ProjV.τ).loc Cert.ProjV.main_arg0)) (m ((c.tc : Thread Cert.ProjV.nD Cert.ProjV.τ).loc Cert.ProjV.main_arg1)) (m ((c.tc : Thread Cert.ProjV.nD Cert.ProjV.τ).loc Cert.ProjV.main_arg2)) (m ((c.tc : Thread Cert.ProjV.nD Cert.ProjV.τ).loc Cert.ProjV.main_arg3)) (m ((c.tc : Thread Cert.ProjV.nD Cert.ProjV.τ).loc Cert.ProjV.main_arg4)) (m ((c.tc : Thread Cert.ProjV.nD Cert.ProjV.τ).loc Cert.ProjV.main_arg5)) (m ((c.tc : Thread Cert.ProjV.nD Cert.ProjV.τ).loc Cert.ProjV.main_arg6))) = (fun _ => 1#1)

def Pre_ProjVIdeal [hPre_ok_ids_v : Cert.Pre_ok_ids_v.Facts] (m : (ℓ : Loc Cert.ProjVIdeal.nD Cert.ProjVIdeal.τ Cert.ProjVIdeal.sig) → Buf (Elt Ideal) ℓ) : Prop :=
  ∀ c : Dev Cert.ProjVIdeal.nD,
    (Cert.Pre_ok_ids_v.fn (F := Ideal) (m ((c.tc : Thread Cert.ProjVIdeal.nD Cert.ProjVIdeal.τ).loc Cert.ProjVIdeal.main_arg0)) (m ((c.tc : Thread Cert.ProjVIdeal.nD Cert.ProjVIdeal.τ).loc Cert.ProjVIdeal.main_arg1)) (m ((c.tc : Thread Cert.ProjVIdeal.nD Cert.ProjVIdeal.τ).loc Cert.ProjVIdeal.main_arg2)) (m ((c.tc : Thread Cert.ProjVIdeal.nD Cert.ProjVIdeal.τ).loc Cert.ProjVIdeal.main_arg3)) (m ((c.tc : Thread Cert.ProjVIdeal.nD Cert.ProjVIdeal.τ).loc Cert.ProjVIdeal.main_arg4)) (m ((c.tc : Thread Cert.ProjVIdeal.nD Cert.ProjVIdeal.τ).loc Cert.ProjVIdeal.main_arg5)) (m ((c.tc : Thread Cert.ProjVIdeal.nD Cert.ProjVIdeal.τ).loc Cert.ProjVIdeal.main_arg6))) = (fun _ => 1#1)

def Pre_ProjVRefIdeal [hPre_ok_ids_v : Cert.Pre_ok_ids_v.Facts] (m : (ℓ : Loc Cert.ProjVRefIdeal.nD Cert.ProjVRefIdeal.τ Cert.ProjVRefIdeal.sig) → Buf (Elt Ideal) ℓ) : Prop :=
  ∀ c : Dev Cert.ProjVRefIdeal.nD,
    (Cert.Pre_ok_ids_v.fn (F := Ideal) (m ((c.tc : Thread Cert.ProjVRefIdeal.nD Cert.ProjVRefIdeal.τ).loc Cert.ProjVRefIdeal.main_arg0)) (m ((c.tc : Thread Cert.ProjVRefIdeal.nD Cert.ProjVRefIdeal.τ).loc Cert.ProjVRefIdeal.main_arg1)) (m ((c.tc : Thread Cert.ProjVRefIdeal.nD Cert.ProjVRefIdeal.τ).loc Cert.ProjVRefIdeal.main_arg2)) (m ((c.tc : Thread Cert.ProjVRefIdeal.nD Cert.ProjVRefIdeal.τ).loc Cert.ProjVRefIdeal.main_arg3)) (m ((c.tc : Thread Cert.ProjVRefIdeal.nD Cert.ProjVRefIdeal.τ).loc Cert.ProjVRefIdeal.main_arg4)) (m ((c.tc : Thread Cert.ProjVRefIdeal.nD Cert.ProjVRefIdeal.τ).loc Cert.ProjVRefIdeal.main_arg5)) (m ((c.tc : Thread Cert.ProjVRefIdeal.nD Cert.ProjVRefIdeal.τ).loc Cert.ProjVRefIdeal.main_arg6))) = (fun _ => 1#1)

def Pre_ProjK [hPre_ok_ids_qk : Cert.Pre_ok_ids_qk.Facts] (m : (ℓ : Loc Cert.ProjK.nD Cert.ProjK.τ Cert.ProjK.sig) → Buf (Elt Bits) ℓ) : Prop :=
  ∀ c : Dev Cert.ProjK.nD,
    (Cert.Pre_ok_ids_qk.fn (F := Bits) (m ((c.tc : Thread Cert.ProjK.nD Cert.ProjK.τ).loc Cert.ProjK.main_arg0)) (m ((c.tc : Thread Cert.ProjK.nD Cert.ProjK.τ).loc Cert.ProjK.main_arg1)) (m ((c.tc : Thread Cert.ProjK.nD Cert.ProjK.τ).loc Cert.ProjK.main_arg2)) (m ((c.tc : Thread Cert.ProjK.nD Cert.ProjK.τ).loc Cert.ProjK.main_arg3)) (m ((c.tc : Thread Cert.ProjK.nD Cert.ProjK.τ).loc Cert.ProjK.main_arg4)) (m ((c.tc : Thread Cert.ProjK.nD Cert.ProjK.τ).loc Cert.ProjK.main_arg5)) (m ((c.tc : Thread Cert.ProjK.nD Cert.ProjK.τ).loc Cert.ProjK.main_arg6)) (m ((c.tc : Thread Cert.ProjK.nD Cert.ProjK.τ).loc Cert.ProjK.main_arg7)) (m ((c.tc : Thread Cert.ProjK.nD Cert.ProjK.τ).loc Cert.ProjK.main_arg8))) = (fun _ => 1#1)

def Pre_ProjKIdeal [hPre_ok_ids_qk : Cert.Pre_ok_ids_qk.Facts] (m : (ℓ : Loc Cert.ProjKIdeal.nD Cert.ProjKIdeal.τ Cert.ProjKIdeal.sig) → Buf (Elt Ideal) ℓ) : Prop :=
  ∀ c : Dev Cert.ProjKIdeal.nD,
    (Cert.Pre_ok_ids_qk.fn (F := Ideal) (m ((c.tc : Thread Cert.ProjKIdeal.nD Cert.ProjKIdeal.τ).loc Cert.ProjKIdeal.main_arg0)) (m ((c.tc : Thread Cert.ProjKIdeal.nD Cert.ProjKIdeal.τ).loc Cert.ProjKIdeal.main_arg1)) (m ((c.tc : Thread Cert.ProjKIdeal.nD Cert.ProjKIdeal.τ).loc Cert.ProjKIdeal.main_arg2)) (m ((c.tc : Thread Cert.ProjKIdeal.nD Cert.ProjKIdeal.τ).loc Cert.ProjKIdeal.main_arg3)) (m ((c.tc : Thread Cert.ProjKIdeal.nD Cert.ProjKIdeal.τ).loc Cert.ProjKIdeal.main_arg4)) (m ((c.tc : Thread Cert.ProjKIdeal.nD Cert.ProjKIdeal.τ).loc Cert.ProjKIdeal.main_arg5)) (m ((c.tc : Thread Cert.ProjKIdeal.nD Cert.ProjKIdeal.τ).loc Cert.ProjKIdeal.main_arg6)) (m ((c.tc : Thread Cert.ProjKIdeal.nD Cert.ProjKIdeal.τ).loc Cert.ProjKIdeal.main_arg7)) (m ((c.tc : Thread Cert.ProjKIdeal.nD Cert.ProjKIdeal.τ).loc Cert.ProjKIdeal.main_arg8))) = (fun _ => 1#1)

def Pre_ProjKRefIdeal [hPre_ok_ids_qk : Cert.Pre_ok_ids_qk.Facts] (m : (ℓ : Loc Cert.ProjKRefIdeal.nD Cert.ProjKRefIdeal.τ Cert.ProjKRefIdeal.sig) → Buf (Elt Ideal) ℓ) : Prop :=
  ∀ c : Dev Cert.ProjKRefIdeal.nD,
    (Cert.Pre_ok_ids_qk.fn (F := Ideal) (m ((c.tc : Thread Cert.ProjKRefIdeal.nD Cert.ProjKRefIdeal.τ).loc Cert.ProjKRefIdeal.main_arg0)) (m ((c.tc : Thread Cert.ProjKRefIdeal.nD Cert.ProjKRefIdeal.τ).loc Cert.ProjKRefIdeal.main_arg1)) (m ((c.tc : Thread Cert.ProjKRefIdeal.nD Cert.ProjKRefIdeal.τ).loc Cert.ProjKRefIdeal.main_arg2)) (m ((c.tc : Thread Cert.ProjKRefIdeal.nD Cert.ProjKRefIdeal.τ).loc Cert.ProjKRefIdeal.main_arg3)) (m ((c.tc : Thread Cert.ProjKRefIdeal.nD Cert.ProjKRefIdeal.τ).loc Cert.ProjKRefIdeal.main_arg4)) (m ((c.tc : Thread Cert.ProjKRefIdeal.nD Cert.ProjKRefIdeal.τ).loc Cert.ProjKRefIdeal.main_arg5)) (m ((c.tc : Thread Cert.ProjKRefIdeal.nD Cert.ProjKRefIdeal.τ).loc Cert.ProjKRefIdeal.main_arg6)) (m ((c.tc : Thread Cert.ProjKRefIdeal.nD Cert.ProjKRefIdeal.τ).loc Cert.ProjKRefIdeal.main_arg7)) (m ((c.tc : Thread Cert.ProjKRefIdeal.nD Cert.ProjKRefIdeal.τ).loc Cert.ProjKRefIdeal.main_arg8))) = (fun _ => 1#1)

def Pre_ProjQ [hPre_ok_ids_qk : Cert.Pre_ok_ids_qk.Facts] (m : (ℓ : Loc Cert.ProjQ.nD Cert.ProjQ.τ Cert.ProjQ.sig) → Buf (Elt Bits) ℓ) : Prop :=
  ∀ c : Dev Cert.ProjQ.nD,
    (Cert.Pre_ok_ids_qk.fn (F := Bits) (m ((c.tc : Thread Cert.ProjQ.nD Cert.ProjQ.τ).loc Cert.ProjQ.main_arg0)) (m ((c.tc : Thread Cert.ProjQ.nD Cert.ProjQ.τ).loc Cert.ProjQ.main_arg1)) (m ((c.tc : Thread Cert.ProjQ.nD Cert.ProjQ.τ).loc Cert.ProjQ.main_arg2)) (m ((c.tc : Thread Cert.ProjQ.nD Cert.ProjQ.τ).loc Cert.ProjQ.main_arg3)) (m ((c.tc : Thread Cert.ProjQ.nD Cert.ProjQ.τ).loc Cert.ProjQ.main_arg4)) (m ((c.tc : Thread Cert.ProjQ.nD Cert.ProjQ.τ).loc Cert.ProjQ.main_arg5)) (m ((c.tc : Thread Cert.ProjQ.nD Cert.ProjQ.τ).loc Cert.ProjQ.main_arg6)) (m ((c.tc : Thread Cert.ProjQ.nD Cert.ProjQ.τ).loc Cert.ProjQ.main_arg7)) (m ((c.tc : Thread Cert.ProjQ.nD Cert.ProjQ.τ).loc Cert.ProjQ.main_arg8))) = (fun _ => 1#1)

def Pre_ProjQIdeal [hPre_ok_ids_qk : Cert.Pre_ok_ids_qk.Facts] (m : (ℓ : Loc Cert.ProjQIdeal.nD Cert.ProjQIdeal.τ Cert.ProjQIdeal.sig) → Buf (Elt Ideal) ℓ) : Prop :=
  ∀ c : Dev Cert.ProjQIdeal.nD,
    (Cert.Pre_ok_ids_qk.fn (F := Ideal) (m ((c.tc : Thread Cert.ProjQIdeal.nD Cert.ProjQIdeal.τ).loc Cert.ProjQIdeal.main_arg0)) (m ((c.tc : Thread Cert.ProjQIdeal.nD Cert.ProjQIdeal.τ).loc Cert.ProjQIdeal.main_arg1)) (m ((c.tc : Thread Cert.ProjQIdeal.nD Cert.ProjQIdeal.τ).loc Cert.ProjQIdeal.main_arg2)) (m ((c.tc : Thread Cert.ProjQIdeal.nD Cert.ProjQIdeal.τ).loc Cert.ProjQIdeal.main_arg3)) (m ((c.tc : Thread Cert.ProjQIdeal.nD Cert.ProjQIdeal.τ).loc Cert.ProjQIdeal.main_arg4)) (m ((c.tc : Thread Cert.ProjQIdeal.nD Cert.ProjQIdeal.τ).loc Cert.ProjQIdeal.main_arg5)) (m ((c.tc : Thread Cert.ProjQIdeal.nD Cert.ProjQIdeal.τ).loc Cert.ProjQIdeal.main_arg6)) (m ((c.tc : Thread Cert.ProjQIdeal.nD Cert.ProjQIdeal.τ).loc Cert.ProjQIdeal.main_arg7)) (m ((c.tc : Thread Cert.ProjQIdeal.nD Cert.ProjQIdeal.τ).loc Cert.ProjQIdeal.main_arg8))) = (fun _ => 1#1)

def Pre_ProjQRefIdeal [hPre_ok_ids_qk : Cert.Pre_ok_ids_qk.Facts] (m : (ℓ : Loc Cert.ProjQRefIdeal.nD Cert.ProjQRefIdeal.τ Cert.ProjQRefIdeal.sig) → Buf (Elt Ideal) ℓ) : Prop :=
  ∀ c : Dev Cert.ProjQRefIdeal.nD,
    (Cert.Pre_ok_ids_qk.fn (F := Ideal) (m ((c.tc : Thread Cert.ProjQRefIdeal.nD Cert.ProjQRefIdeal.τ).loc Cert.ProjQRefIdeal.main_arg0)) (m ((c.tc : Thread Cert.ProjQRefIdeal.nD Cert.ProjQRefIdeal.τ).loc Cert.ProjQRefIdeal.main_arg1)) (m ((c.tc : Thread Cert.ProjQRefIdeal.nD Cert.ProjQRefIdeal.τ).loc Cert.ProjQRefIdeal.main_arg2)) (m ((c.tc : Thread Cert.ProjQRefIdeal.nD Cert.ProjQRefIdeal.τ).loc Cert.ProjQRefIdeal.main_arg3)) (m ((c.tc : Thread Cert.ProjQRefIdeal.nD Cert.ProjQRefIdeal.τ).loc Cert.ProjQRefIdeal.main_arg4)) (m ((c.tc : Thread Cert.ProjQRefIdeal.nD Cert.ProjQRefIdeal.τ).loc Cert.ProjQRefIdeal.main_arg5)) (m ((c.tc : Thread Cert.ProjQRefIdeal.nD Cert.ProjQRefIdeal.τ).loc Cert.ProjQRefIdeal.main_arg6)) (m ((c.tc : Thread Cert.ProjQRefIdeal.nD Cert.ProjQRefIdeal.τ).loc Cert.ProjQRefIdeal.main_arg7)) (m ((c.tc : Thread Cert.ProjQRefIdeal.nD Cert.ProjQRefIdeal.τ).loc Cert.ProjQRefIdeal.main_arg8))) = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_ok_scale [hDownIdeal : Cert.DownIdeal.Facts] [hPre_ok_scale : Cert.Pre_ok_scale.Facts] : Prop :=
  ∀ (m : (ℓ : Loc Cert.DownIdeal.nD Cert.DownIdeal.τ Cert.DownIdeal.sig) → Buf (Elt Ideal) ℓ) (g : Dev Cert.DownIdeal.nD → PrngReg), Pre_DownIdeal_ok_scale m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_ok_scale [hDownRefIdeal : Cert.DownRefIdeal.Facts] [hPre_ok_scale : Cert.Pre_ok_scale.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_ok_scale m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_ProjV [hProjV : Cert.ProjV.Facts] [hPre_ok_ids_v : Cert.Pre_ok_ids_v.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1)
      ∧ r.2.mem ((c.tc : Thread Cert.ProjV.nD Cert.ProjV.τ).loc Cert.ProjV.main_arg2) = m ((c.tc : Thread Cert.ProjV.nD Cert.ProjV.τ).loc Cert.ProjV.main_arg2)
      ∧ r.2.mem ((c.tc : Thread Cert.ProjV.nD Cert.ProjV.τ).loc Cert.ProjV.main_arg3) = m ((c.tc : Thread Cert.ProjV.nD Cert.ProjV.τ).loc Cert.ProjV.main_arg3)
      ∧ r.2.mem ((c.tc : Thread Cert.ProjV.nD Cert.ProjV.τ).loc Cert.ProjV.main_arg4) = m ((c.tc : Thread Cert.ProjV.nD Cert.ProjV.τ).loc Cert.ProjV.main_arg4)
      ∧ r.2.mem ((c.tc : Thread Cert.ProjV.nD Cert.ProjV.τ).loc Cert.ProjV.main_arg5) = m ((c.tc : Thread Cert.ProjV.nD Cert.ProjV.τ).loc Cert.ProjV.main_arg5)
      ∧ r.2.mem ((c.tc : Thread Cert.ProjV.nD Cert.ProjV.τ).loc Cert.ProjV.main_arg6) = m ((c.tc : Thread Cert.ProjV.nD Cert.ProjV.τ).loc Cert.ProjV.main_arg6))
      ∧ r.2.sem = fun _ => 0)

def quiescent_ProjVIdeal [hProjVIdeal : Cert.ProjVIdeal.Facts] [hPre_ok_ids_v : Cert.Pre_ok_ids_v.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
      ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2)
      ∧ r.2.mem ((c.tc : Thread Cert.ProjVIdeal.nD Cert.ProjVIdeal.τ).loc Cert.ProjVIdeal.main_arg3) = m ((c.tc : Thread Cert.ProjVIdeal.nD Cert.ProjVIdeal.τ).loc Cert.ProjVIdeal.main_arg3)
      ∧ r.2.mem ((c.tc : Thread Cert.ProjVIdeal.nD Cert.ProjVIdeal.τ).loc Cert.ProjVIdeal.main_arg4) = m ((c.tc : Thread Cert.ProjVIdeal.nD Cert.ProjVIdeal.τ).loc Cert.ProjVIdeal.main_arg4)
      ∧ r.2.mem ((c.tc : Thread Cert.ProjVIdeal.nD Cert.ProjVIdeal.τ).loc Cert.ProjVIdeal.main_arg5) = m ((c.tc : Thread Cert.ProjVIdeal.nD Cert.ProjVIdeal.τ).loc Cert.ProjVIdeal.main_arg5)
      ∧ r.2.mem ((c.tc : Thread Cert.ProjVIdeal.nD Cert.ProjVIdeal.τ).loc Cert.ProjVIdeal.main_arg6) = m ((c.tc : Thread Cert.ProjVIdeal.nD Cert.ProjVIdeal.τ).loc Cert.ProjVIdeal.main_arg6))
      ∧ r.2.sem = fun _ => 0)

def quiescent_ProjVRefIdeal [hProjVRefIdeal : Cert.ProjVRefIdeal.Facts] [hPre_ok_ids_v : Cert.Pre_ok_ids_v.Facts] : Prop :=
  ∀ (m : (ℓ : Loc Cert.ProjVRefIdeal.nD Cert.ProjVRefIdeal.τ Cert.ProjVRefIdeal.sig) → Buf (Elt Ideal) ℓ) (g : Dev Cert.ProjVRefIdeal.nD → PrngReg), Pre_ProjVRefIdeal m →
    θ_run (Cert.ProjVRefIdeal.defs (F := Ideal)) (onTc (τ := Cert.ProjVRefIdeal.τ) (Cert.ProjVRefIdeal.main (F := Ideal))) ⟨m, fun _ => 0, g⟩ (fun r => (∀ c : Dev Cert.ProjVRefIdeal.nD,
      r.2.mem ((c.tc : Thread Cert.ProjVRefIdeal.nD Cert.ProjVRefIdeal.τ).loc Cert.ProjVRefIdeal.main_arg0) = m ((c.tc : Thread Cert.ProjVRefIdeal.nD Cert.ProjVRefIdeal.τ).loc Cert.ProjVRefIdeal.main_arg0)
      ∧ r.2.mem ((c.tc : Thread Cert.ProjVRefIdeal.nD Cert.ProjVRefIdeal.τ).loc Cert.ProjVRefIdeal.main_arg1) = m ((c.tc : Thread Cert.ProjVRefIdeal.nD Cert.ProjVRefIdeal.τ).loc Cert.ProjVRefIdeal.main_arg1)
      ∧ r.2.mem ((c.tc : Thread Cert.ProjVRefIdeal.nD Cert.ProjVRefIdeal.τ).loc Cert.ProjVRefIdeal.main_arg2) = m ((c.tc : Thread Cert.ProjVRefIdeal.nD Cert.ProjVRefIdeal.τ).loc Cert.ProjVRefIdeal.main_arg2)
      ∧ r.2.mem ((c.tc : Thread Cert.ProjVRefIdeal.nD Cert.ProjVRefIdeal.τ).loc Cert.ProjVRefIdeal.main_arg3) = m ((c.tc : Thread Cert.ProjVRefIdeal.nD Cert.ProjVRefIdeal.τ).loc Cert.ProjVRefIdeal.main_arg3)
      ∧ r.2.mem ((c.tc : Thread Cert.ProjVRefIdeal.nD Cert.ProjVRefIdeal.τ).loc Cert.ProjVRefIdeal.main_arg4) = m ((c.tc : Thread Cert.ProjVRefIdeal.nD Cert.ProjVRefIdeal.τ).loc Cert.ProjVRefIdeal.main_arg4)
      ∧ r.2.mem ((c.tc : Thread Cert.ProjVRefIdeal.nD Cert.ProjVRefIdeal.τ).loc Cert.ProjVRefIdeal.main_arg5) = m ((c.tc : Thread Cert.ProjVRefIdeal.nD Cert.ProjVRefIdeal.τ).loc Cert.ProjVRefIdeal.main_arg5)
      ∧ r.2.mem ((c.tc : Thread Cert.ProjVRefIdeal.nD Cert.ProjVRefIdeal.τ).loc Cert.ProjVRefIdeal.main_arg6) = m ((c.tc : Thread Cert.ProjVRefIdeal.nD Cert.ProjVRefIdeal.τ).loc Cert.ProjVRefIdeal.main_arg6))
      ∧ r.2.sem = fun _ => 0)

def quiescent_ProjK [hProjK : Cert.ProjK.Facts] [hPre_ok_ids_qk : Cert.Pre_ok_ids_qk.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2)
      ∧ r.2.mem ((c.tc : Thread Cert.ProjK.nD Cert.ProjK.τ).loc Cert.ProjK.main_arg3) = m ((c.tc : Thread Cert.ProjK.nD Cert.ProjK.τ).loc Cert.ProjK.main_arg3)
      ∧ r.2.mem ((c.tc : Thread Cert.ProjK.nD Cert.ProjK.τ).loc Cert.ProjK.main_arg4) = m ((c.tc : Thread Cert.ProjK.nD Cert.ProjK.τ).loc Cert.ProjK.main_arg4)
      ∧ r.2.mem ((c.tc : Thread Cert.ProjK.nD Cert.ProjK.τ).loc Cert.ProjK.main_arg5) = m ((c.tc : Thread Cert.ProjK.nD Cert.ProjK.τ).loc Cert.ProjK.main_arg5)
      ∧ r.2.mem ((c.tc : Thread Cert.ProjK.nD Cert.ProjK.τ).loc Cert.ProjK.main_arg6) = m ((c.tc : Thread Cert.ProjK.nD Cert.ProjK.τ).loc Cert.ProjK.main_arg6)
      ∧ r.2.mem ((c.tc : Thread Cert.ProjK.nD Cert.ProjK.τ).loc Cert.ProjK.main_arg7) = m ((c.tc : Thread Cert.ProjK.nD Cert.ProjK.τ).loc Cert.ProjK.main_arg7)
      ∧ r.2.mem ((c.tc : Thread Cert.ProjK.nD Cert.ProjK.τ).loc Cert.ProjK.main_arg8) = m ((c.tc : Thread Cert.ProjK.nD Cert.ProjK.τ).loc Cert.ProjK.main_arg8))
      ∧ r.2.sem = fun _ => 0)

def quiescent_ProjKIdeal [hProjKIdeal : Cert.ProjKIdeal.Facts] [hPre_ok_ids_qk : Cert.Pre_ok_ids_qk.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
      ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
      ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4)
      ∧ r.2.mem ((c.tc : Thread Cert.ProjKIdeal.nD Cert.ProjKIdeal.τ).loc Cert.ProjKIdeal.main_arg5) = m ((c.tc : Thread Cert.ProjKIdeal.nD Cert.ProjKIdeal.τ).loc Cert.ProjKIdeal.main_arg5)
      ∧ r.2.mem ((c.tc : Thread Cert.ProjKIdeal.nD Cert.ProjKIdeal.τ).loc Cert.ProjKIdeal.main_arg6) = m ((c.tc : Thread Cert.ProjKIdeal.nD Cert.ProjKIdeal.τ).loc Cert.ProjKIdeal.main_arg6)
      ∧ r.2.mem ((c.tc : Thread Cert.ProjKIdeal.nD Cert.ProjKIdeal.τ).loc Cert.ProjKIdeal.main_arg7) = m ((c.tc : Thread Cert.ProjKIdeal.nD Cert.ProjKIdeal.τ).loc Cert.ProjKIdeal.main_arg7)
      ∧ r.2.mem ((c.tc : Thread Cert.ProjKIdeal.nD Cert.ProjKIdeal.τ).loc Cert.ProjKIdeal.main_arg8) = m ((c.tc : Thread Cert.ProjKIdeal.nD Cert.ProjKIdeal.τ).loc Cert.ProjKIdeal.main_arg8))
      ∧ r.2.sem = fun _ => 0)

def quiescent_ProjKRefIdeal [hProjKRefIdeal : Cert.ProjKRefIdeal.Facts] [hPre_ok_ids_qk : Cert.Pre_ok_ids_qk.Facts] : Prop :=
  ∀ (m : (ℓ : Loc Cert.ProjKRefIdeal.nD Cert.ProjKRefIdeal.τ Cert.ProjKRefIdeal.sig) → Buf (Elt Ideal) ℓ) (g : Dev Cert.ProjKRefIdeal.nD → PrngReg), Pre_ProjKRefIdeal m →
    θ_run (Cert.ProjKRefIdeal.defs (F := Ideal)) (onTc (τ := Cert.ProjKRefIdeal.τ) (Cert.ProjKRefIdeal.main (F := Ideal))) ⟨m, fun _ => 0, g⟩ (fun r => (∀ c : Dev Cert.ProjKRefIdeal.nD,
      r.2.mem ((c.tc : Thread Cert.ProjKRefIdeal.nD Cert.ProjKRefIdeal.τ).loc Cert.ProjKRefIdeal.main_arg0) = m ((c.tc : Thread Cert.ProjKRefIdeal.nD Cert.ProjKRefIdeal.τ).loc Cert.ProjKRefIdeal.main_arg0)
      ∧ r.2.mem ((c.tc : Thread Cert.ProjKRefIdeal.nD Cert.ProjKRefIdeal.τ).loc Cert.ProjKRefIdeal.main_arg1) = m ((c.tc : Thread Cert.ProjKRefIdeal.nD Cert.ProjKRefIdeal.τ).loc Cert.ProjKRefIdeal.main_arg1)
      ∧ r.2.mem ((c.tc : Thread Cert.ProjKRefIdeal.nD Cert.ProjKRefIdeal.τ).loc Cert.ProjKRefIdeal.main_arg2) = m ((c.tc : Thread Cert.ProjKRefIdeal.nD Cert.ProjKRefIdeal.τ).loc Cert.ProjKRefIdeal.main_arg2)
      ∧ r.2.mem ((c.tc : Thread Cert.ProjKRefIdeal.nD Cert.ProjKRefIdeal.τ).loc Cert.ProjKRefIdeal.main_arg3) = m ((c.tc : Thread Cert.ProjKRefIdeal.nD Cert.ProjKRefIdeal.τ).loc Cert.ProjKRefIdeal.main_arg3)
      ∧ r.2.mem ((c.tc : Thread Cert.ProjKRefIdeal.nD Cert.ProjKRefIdeal.τ).loc Cert.ProjKRefIdeal.main_arg4) = m ((c.tc : Thread Cert.ProjKRefIdeal.nD Cert.ProjKRefIdeal.τ).loc Cert.ProjKRefIdeal.main_arg4)
      ∧ r.2.mem ((c.tc : Thread Cert.ProjKRefIdeal.nD Cert.ProjKRefIdeal.τ).loc Cert.ProjKRefIdeal.main_arg5) = m ((c.tc : Thread Cert.ProjKRefIdeal.nD Cert.ProjKRefIdeal.τ).loc Cert.ProjKRefIdeal.main_arg5)
      ∧ r.2.mem ((c.tc : Thread Cert.ProjKRefIdeal.nD Cert.ProjKRefIdeal.τ).loc Cert.ProjKRefIdeal.main_arg6) = m ((c.tc : Thread Cert.ProjKRefIdeal.nD Cert.ProjKRefIdeal.τ).loc Cert.ProjKRefIdeal.main_arg6)
      ∧ r.2.mem ((c.tc : Thread Cert.ProjKRefIdeal.nD Cert.ProjKRefIdeal.τ).loc Cert.ProjKRefIdeal.main_arg7) = m ((c.tc : Thread Cert.ProjKRefIdeal.nD Cert.ProjKRefIdeal.τ).loc Cert.ProjKRefIdeal.main_arg7)
      ∧ r.2.mem ((c.tc : Thread Cert.ProjKRefIdeal.nD Cert.ProjKRefIdeal.τ).loc Cert.ProjKRefIdeal.main_arg8) = m ((c.tc : Thread Cert.ProjKRefIdeal.nD Cert.ProjKRefIdeal.τ).loc Cert.ProjKRefIdeal.main_arg8))
      ∧ r.2.sem = fun _ => 0)

def quiescent_ProjQ [hProjQ : Cert.ProjQ.Facts] [hPre_ok_ids_qk : Cert.Pre_ok_ids_qk.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2)
      ∧ r.2.mem ((c.tc : Thread Cert.ProjQ.nD Cert.ProjQ.τ).loc Cert.ProjQ.main_arg3) = m ((c.tc : Thread Cert.ProjQ.nD Cert.ProjQ.τ).loc Cert.ProjQ.main_arg3)
      ∧ r.2.mem ((c.tc : Thread Cert.ProjQ.nD Cert.ProjQ.τ).loc Cert.ProjQ.main_arg4) = m ((c.tc : Thread Cert.ProjQ.nD Cert.ProjQ.τ).loc Cert.ProjQ.main_arg4)
      ∧ r.2.mem ((c.tc : Thread Cert.ProjQ.nD Cert.ProjQ.τ).loc Cert.ProjQ.main_arg5) = m ((c.tc : Thread Cert.ProjQ.nD Cert.ProjQ.τ).loc Cert.ProjQ.main_arg5)
      ∧ r.2.mem ((c.tc : Thread Cert.ProjQ.nD Cert.ProjQ.τ).loc Cert.ProjQ.main_arg6) = m ((c.tc : Thread Cert.ProjQ.nD Cert.ProjQ.τ).loc Cert.ProjQ.main_arg6)
      ∧ r.2.mem ((c.tc : Thread Cert.ProjQ.nD Cert.ProjQ.τ).loc Cert.ProjQ.main_arg7) = m ((c.tc : Thread Cert.ProjQ.nD Cert.ProjQ.τ).loc Cert.ProjQ.main_arg7)
      ∧ r.2.mem ((c.tc : Thread Cert.ProjQ.nD Cert.ProjQ.τ).loc Cert.ProjQ.main_arg8) = m ((c.tc : Thread Cert.ProjQ.nD Cert.ProjQ.τ).loc Cert.ProjQ.main_arg8))
      ∧ r.2.sem = fun _ => 0)

def quiescent_ProjQIdeal [hProjQIdeal : Cert.ProjQIdeal.Facts] [hPre_ok_ids_qk : Cert.Pre_ok_ids_qk.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
      ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
      ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4)
      ∧ r.2.mem ((c.tc : Thread Cert.ProjQIdeal.nD Cert.ProjQIdeal.τ).loc Cert.ProjQIdeal.main_arg5) = m ((c.tc : Thread Cert.ProjQIdeal.nD Cert.ProjQIdeal.τ).loc Cert.ProjQIdeal.main_arg5)
      ∧ r.2.mem ((c.tc : Thread Cert.ProjQIdeal.nD Cert.ProjQIdeal.τ).loc Cert.ProjQIdeal.main_arg6) = m ((c.tc : Thread Cert.ProjQIdeal.nD Cert.ProjQIdeal.τ).loc Cert.ProjQIdeal.main_arg6)
      ∧ r.2.mem ((c.tc : Thread Cert.ProjQIdeal.nD Cert.ProjQIdeal.τ).loc Cert.ProjQIdeal.main_arg7) = m ((c.tc : Thread Cert.ProjQIdeal.nD Cert.ProjQIdeal.τ).loc Cert.ProjQIdeal.main_arg7)
      ∧ r.2.mem ((c.tc : Thread Cert.ProjQIdeal.nD Cert.ProjQIdeal.τ).loc Cert.ProjQIdeal.main_arg8) = m ((c.tc : Thread Cert.ProjQIdeal.nD Cert.ProjQIdeal.τ).loc Cert.ProjQIdeal.main_arg8))
      ∧ r.2.sem = fun _ => 0)

def quiescent_ProjQRefIdeal [hProjQRefIdeal : Cert.ProjQRefIdeal.Facts] [hPre_ok_ids_qk : Cert.Pre_ok_ids_qk.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1)
      ∧ r.2.mem ((c.tc : Thread Cert.ProjQRefIdeal.nD Cert.ProjQRefIdeal.τ).loc Cert.ProjQRefIdeal.main_arg2) = m ((c.tc : Thread Cert.ProjQRefIdeal.nD Cert.ProjQRefIdeal.τ).loc Cert.ProjQRefIdeal.main_arg2)
      ∧ r.2.mem ((c.tc : Thread Cert.ProjQRefIdeal.nD Cert.ProjQRefIdeal.τ).loc Cert.ProjQRefIdeal.main_arg3) = m ((c.tc : Thread Cert.ProjQRefIdeal.nD Cert.ProjQRefIdeal.τ).loc Cert.ProjQRefIdeal.main_arg3)
      ∧ r.2.mem ((c.tc : Thread Cert.ProjQRefIdeal.nD Cert.ProjQRefIdeal.τ).loc Cert.ProjQRefIdeal.main_arg4) = m ((c.tc : Thread Cert.ProjQRefIdeal.nD Cert.ProjQRefIdeal.τ).loc Cert.ProjQRefIdeal.main_arg4)
      ∧ r.2.mem ((c.tc : Thread Cert.ProjQRefIdeal.nD Cert.ProjQRefIdeal.τ).loc Cert.ProjQRefIdeal.main_arg5) = m ((c.tc : Thread Cert.ProjQRefIdeal.nD Cert.ProjQRefIdeal.τ).loc Cert.ProjQRefIdeal.main_arg5)
      ∧ r.2.mem ((c.tc : Thread Cert.ProjQRefIdeal.nD Cert.ProjQRefIdeal.τ).loc Cert.ProjQRefIdeal.main_arg6) = m ((c.tc : Thread Cert.ProjQRefIdeal.nD Cert.ProjQRefIdeal.τ).loc Cert.ProjQRefIdeal.main_arg6)
      ∧ r.2.mem ((c.tc : Thread Cert.ProjQRefIdeal.nD Cert.ProjQRefIdeal.τ).loc Cert.ProjQRefIdeal.main_arg7) = m ((c.tc : Thread Cert.ProjQRefIdeal.nD Cert.ProjQRefIdeal.τ).loc Cert.ProjQRefIdeal.main_arg7)
      ∧ r.2.mem ((c.tc : Thread Cert.ProjQRefIdeal.nD Cert.ProjQRefIdeal.τ).loc Cert.ProjQRefIdeal.main_arg8) = m ((c.tc : Thread Cert.ProjQRefIdeal.nD Cert.ProjQRefIdeal.τ).loc Cert.ProjQRefIdeal.main_arg8))
      ∧ r.2.sem = fun _ => 0)

def preserves_Down_DownIdeal : Prop :=
  True

def algebraic_DownIdeal_DownRefIdeal_pre_ok_scale [hDownIdeal : Cert.DownIdeal.Facts] [hDownRefIdeal : Cert.DownRefIdeal.Facts] [hPre_ok_scale : Cert.Pre_ok_scale.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_ok_scale m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_ProjV_ProjVIdeal : Prop :=
  True

def algebraic_ProjVIdeal_ProjVRefIdeal [hProjVIdeal : Cert.ProjVIdeal.Facts] [hProjVRefIdeal : Cert.ProjVRefIdeal.Facts] [hPre_ok_ids_v : Cert.Pre_ok_ids_v.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVRefIdeal.nD Cert.ProjVRefIdeal.τ Cert.ProjVRefIdeal.sig) → Buf (Elt Ideal) ℓ) (g' : Dev Cert.ProjVRefIdeal.nD → PrngReg), Pre_ProjVIdeal m →
    (∀ c : Dev Cert.ProjVIdeal.nD,
      m' ((c.tc : Thread Cert.ProjVRefIdeal.nD Cert.ProjVRefIdeal.τ).loc Cert.ProjVRefIdeal.main_arg0) = m ((c.tc : Thread Cert.ProjVIdeal.nD Cert.ProjVIdeal.τ).loc Cert.ProjVIdeal.main_arg0)
      ∧ m' ((c.tc : Thread Cert.ProjVRefIdeal.nD Cert.ProjVRefIdeal.τ).loc Cert.ProjVRefIdeal.main_arg1) = m ((c.tc : Thread Cert.ProjVIdeal.nD Cert.ProjVIdeal.τ).loc Cert.ProjVIdeal.main_arg1)
      ∧ m' ((c.tc : Thread Cert.ProjVRefIdeal.nD Cert.ProjVRefIdeal.τ).loc Cert.ProjVRefIdeal.main_arg2) = m ((c.tc : Thread Cert.ProjVIdeal.nD Cert.ProjVIdeal.τ).loc Cert.ProjVIdeal.main_arg2)
      ∧ m' ((c.tc : Thread Cert.ProjVRefIdeal.nD Cert.ProjVRefIdeal.τ).loc Cert.ProjVRefIdeal.main_arg3) = m ((c.tc : Thread Cert.ProjVIdeal.nD Cert.ProjVIdeal.τ).loc Cert.ProjVIdeal.main_arg3)
      ∧ m' ((c.tc : Thread Cert.ProjVRefIdeal.nD Cert.ProjVRefIdeal.τ).loc Cert.ProjVRefIdeal.main_arg4) = m ((c.tc : Thread Cert.ProjVIdeal.nD Cert.ProjVIdeal.τ).loc Cert.ProjVIdeal.main_arg4)
      ∧ m' ((c.tc : Thread Cert.ProjVRefIdeal.nD Cert.ProjVRefIdeal.τ).loc Cert.ProjVRefIdeal.main_arg5) = m ((c.tc : Thread Cert.ProjVIdeal.nD Cert.ProjVIdeal.τ).loc Cert.ProjVIdeal.main_arg5)
      ∧ m' ((c.tc : Thread Cert.ProjVRefIdeal.nD Cert.ProjVRefIdeal.τ).loc Cert.ProjVRefIdeal.main_arg6) = m ((c.tc : Thread Cert.ProjVIdeal.nD Cert.ProjVIdeal.τ).loc Cert.ProjVIdeal.main_arg6)) →
    ∃ (v0 : (c : Dev Cert.ProjVIdeal.nD) → Buf (Elt Ideal) ((c.tc : Thread Cert.ProjVIdeal.nD Cert.ProjVIdeal.τ).loc Cert.ProjVIdeal.main_v1_0)) (v1 : (c : Dev Cert.ProjVIdeal.nD) → Buf (Elt Ideal) ((c.tc : Thread Cert.ProjVIdeal.nD Cert.ProjVIdeal.τ).loc Cert.ProjVIdeal.main_v1_1)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v1_0) = v0 c
          ∧ r.2.mem ((c.tc : Thread Cert.ProjVIdeal.nD Cert.ProjVIdeal.τ).loc Cert.ProjVIdeal.main_v1_1) = v1 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1)
          ∧ r.2.mem ((c.tc : Thread Cert.ProjVIdeal.nD Cert.ProjVIdeal.τ).loc Cert.ProjVIdeal.main_arg2) = m ((c.tc : Thread Cert.ProjVIdeal.nD Cert.ProjVIdeal.τ).loc Cert.ProjVIdeal.main_arg2)
          ∧ r.2.mem ((c.tc : Thread Cert.ProjVIdeal.nD Cert.ProjVIdeal.τ).loc Cert.ProjVIdeal.main_arg3) = m ((c.tc : Thread Cert.ProjVIdeal.nD Cert.ProjVIdeal.τ).loc Cert.ProjVIdeal.main_arg3)
          ∧ r.2.mem ((c.tc : Thread Cert.ProjVIdeal.nD Cert.ProjVIdeal.τ).loc Cert.ProjVIdeal.main_arg4) = m ((c.tc : Thread Cert.ProjVIdeal.nD Cert.ProjVIdeal.τ).loc Cert.ProjVIdeal.main_arg4)
          ∧ r.2.mem ((c.tc : Thread Cert.ProjVIdeal.nD Cert.ProjVIdeal.τ).loc Cert.ProjVIdeal.main_arg5) = m ((c.tc : Thread Cert.ProjVIdeal.nD Cert.ProjVIdeal.τ).loc Cert.ProjVIdeal.main_arg5)
          ∧ r.2.mem ((c.tc : Thread Cert.ProjVIdeal.nD Cert.ProjVIdeal.τ).loc Cert.ProjVIdeal.main_arg6) = m ((c.tc : Thread Cert.ProjVIdeal.nD Cert.ProjVIdeal.τ).loc Cert.ProjVIdeal.main_arg6))
      ∧ θ_run (Cert.ProjVRefIdeal.defs (F := Ideal)) (onTc (τ := Cert.ProjVRefIdeal.τ) (Cert.ProjVRefIdeal.main (F := Ideal))) ⟨m', fun _ => 0, g'⟩ (fun r => ∀ c : Dev Cert.ProjVRefIdeal.nD,
          r.2.mem ((c.tc : Thread Cert.ProjVRefIdeal.nD Cert.ProjVRefIdeal.τ).loc Cert.ProjVRefIdeal.main_v1_0) = v0 c
          ∧ r.2.mem ((c.tc : Thread Cert.ProjVRefIdeal.nD Cert.ProjVRefIdeal.τ).loc Cert.ProjVRefIdeal.main_v1_1) = v1 c
          ∧ r.2.mem ((c.tc : Thread Cert.ProjVRefIdeal.nD Cert.ProjVRefIdeal.τ).loc Cert.ProjVRefIdeal.main_arg0) = m' ((c.tc : Thread Cert.ProjVRefIdeal.nD Cert.ProjVRefIdeal.τ).loc Cert.ProjVRefIdeal.main_arg0)
          ∧ r.2.mem ((c.tc : Thread Cert.ProjVRefIdeal.nD Cert.ProjVRefIdeal.τ).loc Cert.ProjVRefIdeal.main_arg1) = m' ((c.tc : Thread Cert.ProjVRefIdeal.nD Cert.ProjVRefIdeal.τ).loc Cert.ProjVRefIdeal.main_arg1)
          ∧ r.2.mem ((c.tc : Thread Cert.ProjVRefIdeal.nD Cert.ProjVRefIdeal.τ).loc Cert.ProjVRefIdeal.main_arg2) = m' ((c.tc : Thread Cert.ProjVRefIdeal.nD Cert.ProjVRefIdeal.τ).loc Cert.ProjVRefIdeal.main_arg2)
          ∧ r.2.mem ((c.tc : Thread Cert.ProjVRefIdeal.nD Cert.ProjVRefIdeal.τ).loc Cert.ProjVRefIdeal.main_arg3) = m' ((c.tc : Thread Cert.ProjVRefIdeal.nD Cert.ProjVRefIdeal.τ).loc Cert.ProjVRefIdeal.main_arg3)
          ∧ r.2.mem ((c.tc : Thread Cert.ProjVRefIdeal.nD Cert.ProjVRefIdeal.τ).loc Cert.ProjVRefIdeal.main_arg4) = m' ((c.tc : Thread Cert.ProjVRefIdeal.nD Cert.ProjVRefIdeal.τ).loc Cert.ProjVRefIdeal.main_arg4)
          ∧ r.2.mem ((c.tc : Thread Cert.ProjVRefIdeal.nD Cert.ProjVRefIdeal.τ).loc Cert.ProjVRefIdeal.main_arg5) = m' ((c.tc : Thread Cert.ProjVRefIdeal.nD Cert.ProjVRefIdeal.τ).loc Cert.ProjVRefIdeal.main_arg5)
          ∧ r.2.mem ((c.tc : Thread Cert.ProjVRefIdeal.nD Cert.ProjVRefIdeal.τ).loc Cert.ProjVRefIdeal.main_arg6) = m' ((c.tc : Thread Cert.ProjVRefIdeal.nD Cert.ProjVRefIdeal.τ).loc Cert.ProjVRefIdeal.main_arg6))

def preserves_ProjK_ProjKIdeal : Prop :=
  True

def algebraic_ProjKIdeal_ProjKRefIdeal [hProjKIdeal : Cert.ProjKIdeal.Facts] [hProjKRefIdeal : Cert.ProjKRefIdeal.Facts] [hPre_ok_ids_qk : Cert.Pre_ok_ids_qk.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjKRefIdeal.nD Cert.ProjKRefIdeal.τ Cert.ProjKRefIdeal.sig) → Buf (Elt Ideal) ℓ) (g' : Dev Cert.ProjKRefIdeal.nD → PrngReg), Pre_ProjKIdeal m →
    (∀ c : Dev Cert.ProjKIdeal.nD,
      m' ((c.tc : Thread Cert.ProjKRefIdeal.nD Cert.ProjKRefIdeal.τ).loc Cert.ProjKRefIdeal.main_arg0) = m ((c.tc : Thread Cert.ProjKIdeal.nD Cert.ProjKIdeal.τ).loc Cert.ProjKIdeal.main_arg0)
      ∧ m' ((c.tc : Thread Cert.ProjKRefIdeal.nD Cert.ProjKRefIdeal.τ).loc Cert.ProjKRefIdeal.main_arg1) = m ((c.tc : Thread Cert.ProjKIdeal.nD Cert.ProjKIdeal.τ).loc Cert.ProjKIdeal.main_arg1)
      ∧ m' ((c.tc : Thread Cert.ProjKRefIdeal.nD Cert.ProjKRefIdeal.τ).loc Cert.ProjKRefIdeal.main_arg2) = m ((c.tc : Thread Cert.ProjKIdeal.nD Cert.ProjKIdeal.τ).loc Cert.ProjKIdeal.main_arg2)
      ∧ m' ((c.tc : Thread Cert.ProjKRefIdeal.nD Cert.ProjKRefIdeal.τ).loc Cert.ProjKRefIdeal.main_arg3) = m ((c.tc : Thread Cert.ProjKIdeal.nD Cert.ProjKIdeal.τ).loc Cert.ProjKIdeal.main_arg3)
      ∧ m' ((c.tc : Thread Cert.ProjKRefIdeal.nD Cert.ProjKRefIdeal.τ).loc Cert.ProjKRefIdeal.main_arg4) = m ((c.tc : Thread Cert.ProjKIdeal.nD Cert.ProjKIdeal.τ).loc Cert.ProjKIdeal.main_arg4)
      ∧ m' ((c.tc : Thread Cert.ProjKRefIdeal.nD Cert.ProjKRefIdeal.τ).loc Cert.ProjKRefIdeal.main_arg5) = m ((c.tc : Thread Cert.ProjKIdeal.nD Cert.ProjKIdeal.τ).loc Cert.ProjKIdeal.main_arg5)
      ∧ m' ((c.tc : Thread Cert.ProjKRefIdeal.nD Cert.ProjKRefIdeal.τ).loc Cert.ProjKRefIdeal.main_arg6) = m ((c.tc : Thread Cert.ProjKIdeal.nD Cert.ProjKIdeal.τ).loc Cert.ProjKIdeal.main_arg6)
      ∧ m' ((c.tc : Thread Cert.ProjKRefIdeal.nD Cert.ProjKRefIdeal.τ).loc Cert.ProjKRefIdeal.main_arg7) = m ((c.tc : Thread Cert.ProjKIdeal.nD Cert.ProjKIdeal.τ).loc Cert.ProjKIdeal.main_arg7)
      ∧ m' ((c.tc : Thread Cert.ProjKRefIdeal.nD Cert.ProjKRefIdeal.τ).loc Cert.ProjKRefIdeal.main_arg8) = m ((c.tc : Thread Cert.ProjKIdeal.nD Cert.ProjKIdeal.τ).loc Cert.ProjKIdeal.main_arg8)) →
    ∃ (v0 : (c : Dev Cert.ProjKIdeal.nD) → Buf (Elt Ideal) ((c.tc : Thread Cert.ProjKIdeal.nD Cert.ProjKIdeal.τ).loc Cert.ProjKIdeal.main_v3_0)) (v1 : (c : Dev Cert.ProjKIdeal.nD) → Buf (Elt Ideal) ((c.tc : Thread Cert.ProjKIdeal.nD Cert.ProjKIdeal.τ).loc Cert.ProjKIdeal.main_v3_1)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v3_0) = v0 c
          ∧ r.2.mem ((c.tc : Thread Cert.ProjKIdeal.nD Cert.ProjKIdeal.τ).loc Cert.ProjKIdeal.main_v3_1) = v1 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2)
          ∧ r.2.mem ((c.tc : Thread Cert.ProjKIdeal.nD Cert.ProjKIdeal.τ).loc Cert.ProjKIdeal.main_arg3) = m ((c.tc : Thread Cert.ProjKIdeal.nD Cert.ProjKIdeal.τ).loc Cert.ProjKIdeal.main_arg3)
          ∧ r.2.mem ((c.tc : Thread Cert.ProjKIdeal.nD Cert.ProjKIdeal.τ).loc Cert.ProjKIdeal.main_arg4) = m ((c.tc : Thread Cert.ProjKIdeal.nD Cert.ProjKIdeal.τ).loc Cert.ProjKIdeal.main_arg4)
          ∧ r.2.mem ((c.tc : Thread Cert.ProjKIdeal.nD Cert.ProjKIdeal.τ).loc Cert.ProjKIdeal.main_arg5) = m ((c.tc : Thread Cert.ProjKIdeal.nD Cert.ProjKIdeal.τ).loc Cert.ProjKIdeal.main_arg5)
          ∧ r.2.mem ((c.tc : Thread Cert.ProjKIdeal.nD Cert.ProjKIdeal.τ).loc Cert.ProjKIdeal.main_arg6) = m ((c.tc : Thread Cert.ProjKIdeal.nD Cert.ProjKIdeal.τ).loc Cert.ProjKIdeal.main_arg6)
          ∧ r.2.mem ((c.tc : Thread Cert.ProjKIdeal.nD Cert.ProjKIdeal.τ).loc Cert.ProjKIdeal.main_arg7) = m ((c.tc : Thread Cert.ProjKIdeal.nD Cert.ProjKIdeal.τ).loc Cert.ProjKIdeal.main_arg7)
          ∧ r.2.mem ((c.tc : Thread Cert.ProjKIdeal.nD Cert.ProjKIdeal.τ).loc Cert.ProjKIdeal.main_arg8) = m ((c.tc : Thread Cert.ProjKIdeal.nD Cert.ProjKIdeal.τ).loc Cert.ProjKIdeal.main_arg8))
      ∧ θ_run (Cert.ProjKRefIdeal.defs (F := Ideal)) (onTc (τ := Cert.ProjKRefIdeal.τ) (Cert.ProjKRefIdeal.main (F := Ideal))) ⟨m', fun _ => 0, g'⟩ (fun r => ∀ c : Dev Cert.ProjKRefIdeal.nD,
          r.2.mem ((c.tc : Thread Cert.ProjKRefIdeal.nD Cert.ProjKRefIdeal.τ).loc Cert.ProjKRefIdeal.main_v1_0) = v0 c
          ∧ r.2.mem ((c.tc : Thread Cert.ProjKRefIdeal.nD Cert.ProjKRefIdeal.τ).loc Cert.ProjKRefIdeal.main_v1_1) = v1 c
          ∧ r.2.mem ((c.tc : Thread Cert.ProjKRefIdeal.nD Cert.ProjKRefIdeal.τ).loc Cert.ProjKRefIdeal.main_arg0) = m' ((c.tc : Thread Cert.ProjKRefIdeal.nD Cert.ProjKRefIdeal.τ).loc Cert.ProjKRefIdeal.main_arg0)
          ∧ r.2.mem ((c.tc : Thread Cert.ProjKRefIdeal.nD Cert.ProjKRefIdeal.τ).loc Cert.ProjKRefIdeal.main_arg1) = m' ((c.tc : Thread Cert.ProjKRefIdeal.nD Cert.ProjKRefIdeal.τ).loc Cert.ProjKRefIdeal.main_arg1)
          ∧ r.2.mem ((c.tc : Thread Cert.ProjKRefIdeal.nD Cert.ProjKRefIdeal.τ).loc Cert.ProjKRefIdeal.main_arg2) = m' ((c.tc : Thread Cert.ProjKRefIdeal.nD Cert.ProjKRefIdeal.τ).loc Cert.ProjKRefIdeal.main_arg2)
          ∧ r.2.mem ((c.tc : Thread Cert.ProjKRefIdeal.nD Cert.ProjKRefIdeal.τ).loc Cert.ProjKRefIdeal.main_arg3) = m' ((c.tc : Thread Cert.ProjKRefIdeal.nD Cert.ProjKRefIdeal.τ).loc Cert.ProjKRefIdeal.main_arg3)
          ∧ r.2.mem ((c.tc : Thread Cert.ProjKRefIdeal.nD Cert.ProjKRefIdeal.τ).loc Cert.ProjKRefIdeal.main_arg4) = m' ((c.tc : Thread Cert.ProjKRefIdeal.nD Cert.ProjKRefIdeal.τ).loc Cert.ProjKRefIdeal.main_arg4)
          ∧ r.2.mem ((c.tc : Thread Cert.ProjKRefIdeal.nD Cert.ProjKRefIdeal.τ).loc Cert.ProjKRefIdeal.main_arg5) = m' ((c.tc : Thread Cert.ProjKRefIdeal.nD Cert.ProjKRefIdeal.τ).loc Cert.ProjKRefIdeal.main_arg5)
          ∧ r.2.mem ((c.tc : Thread Cert.ProjKRefIdeal.nD Cert.ProjKRefIdeal.τ).loc Cert.ProjKRefIdeal.main_arg6) = m' ((c.tc : Thread Cert.ProjKRefIdeal.nD Cert.ProjKRefIdeal.τ).loc Cert.ProjKRefIdeal.main_arg6)
          ∧ r.2.mem ((c.tc : Thread Cert.ProjKRefIdeal.nD Cert.ProjKRefIdeal.τ).loc Cert.ProjKRefIdeal.main_arg7) = m' ((c.tc : Thread Cert.ProjKRefIdeal.nD Cert.ProjKRefIdeal.τ).loc Cert.ProjKRefIdeal.main_arg7)
          ∧ r.2.mem ((c.tc : Thread Cert.ProjKRefIdeal.nD Cert.ProjKRefIdeal.τ).loc Cert.ProjKRefIdeal.main_arg8) = m' ((c.tc : Thread Cert.ProjKRefIdeal.nD Cert.ProjKRefIdeal.τ).loc Cert.ProjKRefIdeal.main_arg8))

def preserves_ProjQ_ProjQIdeal : Prop :=
  True

def algebraic_ProjQIdeal_ProjQRefIdeal [hProjQIdeal : Cert.ProjQIdeal.Facts] [hProjQRefIdeal : Cert.ProjQRefIdeal.Facts] [hPre_ok_ids_qk : Cert.Pre_ok_ids_qk.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)
      ∧ m' ((c.tc : Thread Cert.ProjQRefIdeal.nD Cert.ProjQRefIdeal.τ).loc Cert.ProjQRefIdeal.main_arg2) = m ((c.tc : Thread Cert.ProjQIdeal.nD Cert.ProjQIdeal.τ).loc Cert.ProjQIdeal.main_arg2)
      ∧ m' ((c.tc : Thread Cert.ProjQRefIdeal.nD Cert.ProjQRefIdeal.τ).loc Cert.ProjQRefIdeal.main_arg3) = m ((c.tc : Thread Cert.ProjQIdeal.nD Cert.ProjQIdeal.τ).loc Cert.ProjQIdeal.main_arg3)
      ∧ m' ((c.tc : Thread Cert.ProjQRefIdeal.nD Cert.ProjQRefIdeal.τ).loc Cert.ProjQRefIdeal.main_arg4) = m ((c.tc : Thread Cert.ProjQIdeal.nD Cert.ProjQIdeal.τ).loc Cert.ProjQIdeal.main_arg4)
      ∧ m' ((c.tc : Thread Cert.ProjQRefIdeal.nD Cert.ProjQRefIdeal.τ).loc Cert.ProjQRefIdeal.main_arg5) = m ((c.tc : Thread Cert.ProjQIdeal.nD Cert.ProjQIdeal.τ).loc Cert.ProjQIdeal.main_arg5)
      ∧ m' ((c.tc : Thread Cert.ProjQRefIdeal.nD Cert.ProjQRefIdeal.τ).loc Cert.ProjQRefIdeal.main_arg6) = m ((c.tc : Thread Cert.ProjQIdeal.nD Cert.ProjQIdeal.τ).loc Cert.ProjQIdeal.main_arg6)
      ∧ m' ((c.tc : Thread Cert.ProjQRefIdeal.nD Cert.ProjQRefIdeal.τ).loc Cert.ProjQRefIdeal.main_arg7) = m ((c.tc : Thread Cert.ProjQIdeal.nD Cert.ProjQIdeal.τ).loc Cert.ProjQIdeal.main_arg7)
      ∧ m' ((c.tc : Thread Cert.ProjQRefIdeal.nD Cert.ProjQRefIdeal.τ).loc Cert.ProjQRefIdeal.main_arg8) = m ((c.tc : Thread Cert.ProjQIdeal.nD Cert.ProjQIdeal.τ).loc Cert.ProjQIdeal.main_arg8)) →
    ∃ (v0 : (c : Dev Cert.ProjQIdeal.nD) → Buf (Elt Ideal) ((c.tc : Thread Cert.ProjQIdeal.nD Cert.ProjQIdeal.τ).loc Cert.ProjQIdeal.main_v3)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v3) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2)
          ∧ r.2.mem ((c.tc : Thread Cert.ProjQIdeal.nD Cert.ProjQIdeal.τ).loc Cert.ProjQIdeal.main_arg3) = m ((c.tc : Thread Cert.ProjQIdeal.nD Cert.ProjQIdeal.τ).loc Cert.ProjQIdeal.main_arg3)
          ∧ r.2.mem ((c.tc : Thread Cert.ProjQIdeal.nD Cert.ProjQIdeal.τ).loc Cert.ProjQIdeal.main_arg4) = m ((c.tc : Thread Cert.ProjQIdeal.nD Cert.ProjQIdeal.τ).loc Cert.ProjQIdeal.main_arg4)
          ∧ r.2.mem ((c.tc : Thread Cert.ProjQIdeal.nD Cert.ProjQIdeal.τ).loc Cert.ProjQIdeal.main_arg5) = m ((c.tc : Thread Cert.ProjQIdeal.nD Cert.ProjQIdeal.τ).loc Cert.ProjQIdeal.main_arg5)
          ∧ r.2.mem ((c.tc : Thread Cert.ProjQIdeal.nD Cert.ProjQIdeal.τ).loc Cert.ProjQIdeal.main_arg6) = m ((c.tc : Thread Cert.ProjQIdeal.nD Cert.ProjQIdeal.τ).loc Cert.ProjQIdeal.main_arg6)
          ∧ r.2.mem ((c.tc : Thread Cert.ProjQIdeal.nD Cert.ProjQIdeal.τ).loc Cert.ProjQIdeal.main_arg7) = m ((c.tc : Thread Cert.ProjQIdeal.nD Cert.ProjQIdeal.τ).loc Cert.ProjQIdeal.main_arg7)
          ∧ r.2.mem ((c.tc : Thread Cert.ProjQIdeal.nD Cert.ProjQIdeal.τ).loc Cert.ProjQIdeal.main_arg8) = m ((c.tc : Thread Cert.ProjQIdeal.nD Cert.ProjQIdeal.τ).loc Cert.ProjQIdeal.main_arg8))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v1) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1)
          ∧ r.2.mem ((c.tc : Thread Cert.ProjQRefIdeal.nD Cert.ProjQRefIdeal.τ).loc Cert.ProjQRefIdeal.main_arg2) = m' ((c.tc : Thread Cert.ProjQRefIdeal.nD Cert.ProjQRefIdeal.τ).loc Cert.ProjQRefIdeal.main_arg2)
          ∧ r.2.mem ((c.tc : Thread Cert.ProjQRefIdeal.nD Cert.ProjQRefIdeal.τ).loc Cert.ProjQRefIdeal.main_arg3) = m' ((c.tc : Thread Cert.ProjQRefIdeal.nD Cert.ProjQRefIdeal.τ).loc Cert.ProjQRefIdeal.main_arg3)
          ∧ r.2.mem ((c.tc : Thread Cert.ProjQRefIdeal.nD Cert.ProjQRefIdeal.τ).loc Cert.ProjQRefIdeal.main_arg4) = m' ((c.tc : Thread Cert.ProjQRefIdeal.nD Cert.ProjQRefIdeal.τ).loc Cert.ProjQRefIdeal.main_arg4)
          ∧ r.2.mem ((c.tc : Thread Cert.ProjQRefIdeal.nD Cert.ProjQRefIdeal.τ).loc Cert.ProjQRefIdeal.main_arg5) = m' ((c.tc : Thread Cert.ProjQRefIdeal.nD Cert.ProjQRefIdeal.τ).loc Cert.ProjQRefIdeal.main_arg5)
          ∧ r.2.mem ((c.tc : Thread Cert.ProjQRefIdeal.nD Cert.ProjQRefIdeal.τ).loc Cert.ProjQRefIdeal.main_arg6) = m' ((c.tc : Thread Cert.ProjQRefIdeal.nD Cert.ProjQRefIdeal.τ).loc Cert.ProjQRefIdeal.main_arg6)
          ∧ r.2.mem ((c.tc : Thread Cert.ProjQRefIdeal.nD Cert.ProjQRefIdeal.τ).loc Cert.ProjQRefIdeal.main_arg7) = m' ((c.tc : Thread Cert.ProjQRefIdeal.nD Cert.ProjQRefIdeal.τ).loc Cert.ProjQRefIdeal.main_arg7)
          ∧ r.2.mem ((c.tc : Thread Cert.ProjQRefIdeal.nD Cert.ProjQRefIdeal.τ).loc Cert.ProjQRefIdeal.main_arg8) = m' ((c.tc : Thread Cert.ProjQRefIdeal.nD Cert.ProjQRefIdeal.τ).loc Cert.ProjQRefIdeal.main_arg8))

def Claim : Prop :=
  ∃ (hDown : Cert.Down.Facts) (hDownIdeal : Cert.DownIdeal.Facts) (hDownRefIdeal : Cert.DownRefIdeal.Facts) (hProjV : Cert.ProjV.Facts) (hProjVIdeal : Cert.ProjVIdeal.Facts) (hProjVRefIdeal : Cert.ProjVRefIdeal.Facts) (hProjK : Cert.ProjK.Facts) (hProjKIdeal : Cert.ProjKIdeal.Facts) (hProjKRefIdeal : Cert.ProjKRefIdeal.Facts) (hProjQ : Cert.ProjQ.Facts) (hProjQIdeal : Cert.ProjQIdeal.Facts) (hProjQRefIdeal : Cert.ProjQRefIdeal.Facts) (hPre_ok_scale : Cert.Pre_ok_scale.Facts) (hPre_ok_ids_v : Cert.Pre_ok_ids_v.Facts) (hPre_ok_ids_qk : Cert.Pre_ok_ids_qk.Facts),
    quiescent_Down (hDown := hDown)
    ∧ quiescent_DownIdeal (hDownIdeal := hDownIdeal)
    ∧ quiescent_DownIdeal_pre_ok_scale (hDownIdeal := hDownIdeal) (hPre_ok_scale := hPre_ok_scale)
    ∧ quiescent_DownRefIdeal (hDownRefIdeal := hDownRefIdeal)
    ∧ quiescent_DownRefIdeal_pre_ok_scale (hDownRefIdeal := hDownRefIdeal) (hPre_ok_scale := hPre_ok_scale)
    ∧ quiescent_ProjV (hProjV := hProjV) (hPre_ok_ids_v := hPre_ok_ids_v)
    ∧ quiescent_ProjVIdeal (hProjVIdeal := hProjVIdeal) (hPre_ok_ids_v := hPre_ok_ids_v)
    ∧ quiescent_ProjVRefIdeal (hProjVRefIdeal := hProjVRefIdeal) (hPre_ok_ids_v := hPre_ok_ids_v)
    ∧ quiescent_ProjK (hProjK := hProjK) (hPre_ok_ids_qk := hPre_ok_ids_qk)
    ∧ quiescent_ProjKIdeal (hProjKIdeal := hProjKIdeal) (hPre_ok_ids_qk := hPre_ok_ids_qk)
    ∧ quiescent_ProjKRefIdeal (hProjKRefIdeal := hProjKRefIdeal) (hPre_ok_ids_qk := hPre_ok_ids_qk)
    ∧ quiescent_ProjQ (hProjQ := hProjQ) (hPre_ok_ids_qk := hPre_ok_ids_qk)
    ∧ quiescent_ProjQIdeal (hProjQIdeal := hProjQIdeal) (hPre_ok_ids_qk := hPre_ok_ids_qk)
    ∧ quiescent_ProjQRefIdeal (hProjQRefIdeal := hProjQRefIdeal) (hPre_ok_ids_qk := hPre_ok_ids_qk)
    ∧ preserves_Down_DownIdeal
    ∧ algebraic_DownIdeal_DownRefIdeal_pre_ok_scale (hDownIdeal := hDownIdeal) (hDownRefIdeal := hDownRefIdeal) (hPre_ok_scale := hPre_ok_scale)
    ∧ preserves_ProjV_ProjVIdeal
    ∧ algebraic_ProjVIdeal_ProjVRefIdeal (hProjVIdeal := hProjVIdeal) (hProjVRefIdeal := hProjVRefIdeal) (hPre_ok_ids_v := hPre_ok_ids_v)
    ∧ preserves_ProjK_ProjKIdeal
    ∧ algebraic_ProjKIdeal_ProjKRefIdeal (hProjKIdeal := hProjKIdeal) (hProjKRefIdeal := hProjKRefIdeal) (hPre_ok_ids_qk := hPre_ok_ids_qk)
    ∧ preserves_ProjQ_ProjQIdeal
    ∧ algebraic_ProjQIdeal_ProjQRefIdeal (hProjQIdeal := hProjQIdeal) (hProjQRefIdeal := hProjQRefIdeal) (hPre_ok_ids_qk := hPre_ok_ids_qk)
-- ==== Pre_ok_ids_qk.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S3072x112 : Shape := ⟨2, ![3072, 112]⟩
abbrev S_ : Shape := ⟨0, ![]⟩

class Facts : Prop where
  bcast_S_S12 : S_.BroadcastsInDim S12 (![] : Fin 0 → Fin S12.rank)

variable [Facts]

def fn {F : FTy → Type} [FloatOps F] (main_arg0 : IVec S12 32) (main_arg1 : IVec S3072x7168 8) (main_arg2 : FVec F S3072x1 .f32) (main_arg3 : IVec S3584x21504 8) (main_arg4 : FVec F S56x21504 .f32) (main_arg5 : FVec F S3072x384 .bf16) (main_arg6 : FVec F S2x3x128x7168 .bf16) (main_arg7 : FVec F S3072x112 .f32) (main_arg8 : FVec F S3072x112 .f32) : IVec S12 1 :=
  let main_c : IVec S_ 32 := constantI S_ 32 0#32
  let main_v0 : IVec S12 32 := broadcastInDim S12 ![] bcast_S_S12 main_c
  let main_v1 : IVec S12 1 := cmpi .sge main_arg0 main_v0
  let main_c_0 : IVec S_ 32 := constantI S_ 32 2#32
  let main_v2 : IVec S12 32 := broadcastInDim S12 ![] bcast_S_S12 main_c_0
  let main_v3 : IVec S12 1 := cmpi .slt main_arg0 main_v2
  let main_v4 : IVec S12 1 := andi main_v1 main_v3
  main_v4
-- ==== Pre_ok_ids_v.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S_ : Shape := ⟨0, ![]⟩

class Facts : Prop where
  bcast_S_S12 : S_.BroadcastsInDim S12 (![] : Fin 0 → Fin S12.rank)

variable [Facts]

def fn {F : FTy → Type} [FloatOps F] (main_arg0 : IVec S12 32) (main_arg1 : IVec S3072x7168 8) (main_arg2 : FVec F S3072x1 .f32) (main_arg3 : IVec S3584x21504 8) (main_arg4 : FVec F S56x21504 .f32) (main_arg5 : FVec F S3072x384 .bf16) (main_arg6 : FVec F S2x3x128x7168 .bf16) : IVec S12 1 :=
  let main_c : IVec S_ 32 := constantI S_ 32 0#32
  let main_v0 : IVec S12 32 := broadcastInDim S12 ![] bcast_S_S12 main_c
  let main_v1 : IVec S12 1 := cmpi .sge main_arg0 main_v0
  let main_c_0 : IVec S_ 32 := constantI S_ 32 2#32
  let main_v2 : IVec S12 32 := broadcastInDim S12 ![] bcast_S_S12 main_c_0
  let main_v3 : IVec S12 1 := cmpi .slt main_arg0 main_v2
  let main_v4 : IVec S12 1 := andi main_v1 main_v3
  main_v4
-- ==== Pre_ok_scale.lean ====
abbrev S3072x14336 : Shape := ⟨2, ![3072, 14336]⟩
abbrev S3072x1 : Shape := ⟨2, ![3072, 1]⟩
abbrev S7168x3584 : Shape := ⟨2, ![7168, 3584]⟩
abbrev S112x3584 : Shape := ⟨2, ![112, 3584]⟩
abbrev S_ : Shape := ⟨0, ![]⟩

class Facts : Prop where
  bcast_S_S3072x1 : S_.BroadcastsInDim S3072x1 (![] : Fin 0 → Fin S3072x1.rank)

variable [Facts]

def fn {F : FTy → Type} [FloatOps F] (main_arg0 : FVec F S3072x14336 .f32) (main_arg1 : FVec F S3072x1 .f32) (main_arg2 : IVec S7168x3584 8) (main_arg3 : FVec F S112x3584 .f32) : IVec S3072x1 1 :=
  let main_cst : FVec F S_ .f32 := constant S_ .f32 0x00000000#32
  let main_v0 : FVec F S3072x1 .f32 := broadcastInDim S3072x1 ![] bcast_S_S3072x1 main_cst
  let main_v1 : IVec S3072x1 1 := cmpf .une main_arg1 main_v0
  main_v1
-- ==== Down.lean ====
abbrev S3072x14336 : Shape := ⟨2, ![3072, 14336]⟩
abbrev S3072x1 : Shape := ⟨2, ![3072, 1]⟩
abbrev S7168x3584 : Shape := ⟨2, ![7168, 3584]⟩
abbrev S112x3584 : Shape := ⟨2, ![112, 3584]⟩
abbrev S3072x3584 : Shape := ⟨2, ![3072, 3584]⟩
abbrev S1024x1024 : Shape := ⟨2, ![1024, 1024]⟩
abbrev S1024x1 : Shape := ⟨2, ![1024, 1]⟩
abbrev S1024x3584 : Shape := ⟨2, ![1024, 3584]⟩
abbrev S8x3584 : Shape := ⟨2, ![8, 3584]⟩
abbrev S128x3584 : Shape := ⟨2, ![128, 3584]⟩
abbrev S32x3584 : Shape := ⟨2, ![32, 3584]⟩
abbrev S1x3584 : Shape := ⟨2, ![1, 3584]⟩

abbrev nBuf : Space → Nat
  | .hbm => 6
  | .vmem => 13
  | .smem => 0
  | _ => 0

abbrev bufTy : (tb : Table) → Fin (tcTables nBuf tb) → BufTy
  | .hbm, ⟨0, _⟩ => ⟨S3072x14336, .f32⟩
  | .hbm, ⟨1, _⟩ => ⟨S3072x1, .f32⟩
  | .hbm, ⟨2, _⟩ => ⟨S7168x3584, .i8⟩
  | .hbm, ⟨3, _⟩ => ⟨S112x3584, .f32⟩
  | .hbm, ⟨4, _⟩ => ⟨S3072x14336, .i8⟩
  | .hbm, ⟨5, _⟩ => ⟨S3072x3584, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x3584, .i8⟩
  | .local _ .vmem, ⟨5, _⟩ => ⟨S1024x3584, .i8⟩
  | .local _ .vmem, ⟨6, _⟩ => ⟨S8x3584, .f32⟩
  | .local _ .vmem, ⟨7, _⟩ => ⟨S8x3584, .f32⟩
  | .local _ .vmem, ⟨8, _⟩ => ⟨S1024x1024, .i8⟩
  | .local _ .vmem, ⟨9, _⟩ => ⟨S1024x1024, .i8⟩
  | .local _ .vmem, ⟨10, _⟩ => ⟨S1024x3584, .f32⟩
  | .local _ .vmem, ⟨11, _⟩ => ⟨S1024x3584, .f32⟩
  | .local _ .vmem, ⟨12, _⟩ => ⟨S1024x3584, .bf16⟩
  | _, _ => ⟨S3072x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.remsi arg1 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S3072x14336 : Shape := ⟨2, ![3072, 14336]⟩
abbrev S3072x1 : Shape := ⟨2, ![3072, 1]⟩
abbrev S7168x3584 : Shape := ⟨2, ![7168, 3584]⟩
abbrev S112x3584 : Shape := ⟨2, ![112, 3584]⟩
abbrev S3072x3584 : Shape := ⟨2, ![3072, 3584]⟩
abbrev S3072x7168 : Shape := ⟨2, ![3072, 7168]⟩
abbrev S56x3584 : Shape := ⟨2, ![56, 3584]⟩
abbrev S56x1x3584 : Shape := ⟨3, ![56, 1, 3584]⟩
abbrev S56x128x3584 : Shape := ⟨3, ![56, 128, 3584]⟩

abbrev nBuf : Space → Nat
  | .hbm => 6
  | .vmem => 6
  | .smem => 0
  | _ => 0

abbrev bufTy : (tb : Table) → Fin (tcTables nBuf tb) → BufTy
  | .hbm, ⟨0, _⟩ => ⟨S3072x14336, .f32⟩
  | .hbm, ⟨1, _⟩ => ⟨S3072x1, .f32⟩
  | .hbm, ⟨2, _⟩ => ⟨S7168x3584, .i8⟩
  | .hbm, ⟨3, _⟩ => ⟨S112x3584, .f32⟩
  | .hbm, ⟨4, _⟩ => ⟨S3072x14336, .i8⟩
  | .hbm, ⟨5, _⟩ => ⟨S3072x3584, .f32⟩
  | .local _ .vmem, ⟨0, _⟩ => ⟨S3072x14336, .f32⟩
  | .local _ .vmem, ⟨1, _⟩ => ⟨S3072x1, .f32⟩
  | .local _ .vmem, ⟨2, _⟩ => ⟨S7168x3584, .i8⟩
  | .local _ .vmem, ⟨3, _⟩ => ⟨S112x3584, .f32⟩
  | .local _ .vmem, ⟨4, _⟩ => ⟨S3072x14336, .i8⟩
  | .local _ .vmem, ⟨5, _⟩ => ⟨S3072x3584, .f32⟩
  | _, _ => ⟨S3072x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x14336 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x14336 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ProjV.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S_ : Shape := ⟨0, ![]⟩
abbrev S3072x896 : Shape := ⟨2, ![3072, 896]⟩
abbrev S12x1x7168 : Shape := ⟨3, ![12, 1, 7168]⟩
abbrev S256x7168 : Shape := ⟨2, ![256, 7168]⟩
abbrev S256x1 : Shape := ⟨2, ![256, 1]⟩
abbrev S3584x1792 : Shape := ⟨2, ![3584, 1792]⟩
abbrev S56x1792 : Shape := ⟨2, ![56, 1792]⟩
abbrev S256x128 : Shape := ⟨2, ![256, 128]⟩
abbrev S2x1x128x1792 : Shape := ⟨4, ![2, 1, 128, 1792]⟩
abbrev S256x896 : Shape := ⟨2, ![256, 896]⟩
abbrev S256x1792 : Shape := ⟨2, ![256, 1792]⟩
abbrev S1x1x1792 : Shape := ⟨3, ![1, 1, 1792]⟩
abbrev S7168x1792 : Shape := ⟨2, ![7168, 1792]⟩
abbrev S28x1792 : Shape := ⟨2, ![28, 1792]⟩
abbrev S128x1792 : Shape := ⟨2, ![128, 1792]⟩
abbrev S32x1792 : Shape := ⟨2, ![32, 1792]⟩
abbrev S1x1792 : Shape := ⟨2, ![1, 1792]⟩
abbrev S1 : Shape := ⟨1, ![1]⟩
abbrev S1x1x128x1792 : Shape := ⟨4, ![1, 1, 128, 1792]⟩
abbrev S1792 : Shape := ⟨1, ![1792]⟩
abbrev S8x1792 : Shape := ⟨2, ![8, 1792]⟩
abbrev S8 : Shape := ⟨1, ![8]⟩
abbrev S8x1 : Shape := ⟨2, ![8, 1]⟩

abbrev nBuf : Space → Nat
  | .hbm => 10
  | .vmem => 21
  | .smem => 1
  | _ => 0

abbrev bufTy : (tb : Table) → Fin (tcTables nBuf tb) → BufTy
  | .hbm, ⟨0, _⟩ => ⟨S3072x7168, .i8⟩
  | .hbm, ⟨1, _⟩ => ⟨S3072x1, .f32⟩
  | .hbm, ⟨2, _⟩ => ⟨S3584x21504, .i8⟩
  | .hbm, ⟨3, _⟩ => ⟨S56x21504, .f32⟩
  | .hbm, ⟨4, _⟩ => ⟨S3072x384, .bf16⟩
  | .hbm, ⟨5, _⟩ => ⟨S2x3x128x7168, .bf16⟩
  | .hbm, ⟨6, _⟩ => ⟨S_, .f32⟩
  | .hbm, ⟨7, _⟩ => ⟨S3072x896, .f32⟩
  | .hbm, ⟨8, _⟩ => ⟨S3072x7168, .fp8e4m3⟩
  | .hbm, ⟨9, _⟩ => ⟨S12x1x7168, .f32⟩
  | .local _ .vmem, ⟨0, _⟩ => ⟨S256x7168, .i8⟩
  | .local _ .vmem, ⟨1, _⟩ => ⟨S256x7168, .i8⟩
  | .local _ .vmem, ⟨2, _⟩ => ⟨S256x1, .f32⟩
  | .local _ .vmem, ⟨3, _⟩ => ⟨S256x1, .f32⟩
  | .local _ .vmem, ⟨4, _⟩ => ⟨S3584x1792, .i8⟩
  | .local _ .vmem, ⟨5, _⟩ => ⟨S3584x1792, .i8⟩
  | .local _ .vmem, ⟨6, _⟩ => ⟨S56x1792, .f32⟩
  | .local _ .vmem, ⟨7, _⟩ => ⟨S56x1792, .f32⟩
  | .local _ .vmem, ⟨8, _⟩ => ⟨S256x128, .bf16⟩
  | .local _ .vmem, ⟨9, _⟩ => ⟨S256x128, .bf16⟩
  | .local _ .vmem, ⟨10, _⟩ => ⟨S2x1x128x1792, .bf16⟩
  | .local _ .vmem, ⟨11, _⟩ => ⟨S2x1x128x1792, .bf16⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x1792, .fp8e4m3⟩
  | .local _ .vmem, ⟨17, _⟩ => ⟨S256x1792, .fp8e4m3⟩
  | .local _ .vmem, ⟨18, _⟩ => ⟨S1x1x1792, .f32⟩
  | .local _ .vmem, ⟨19, _⟩ => ⟨S1x1x1792, .f32⟩
  | .local _ .vmem, ⟨20, _⟩ => ⟨S7168x1792, .bf16⟩
  | .local _ .smem, ⟨0, _⟩ => ⟨S12, .i32⟩
  | _, _ => ⟨S3072x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_cst : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 12], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v8 : Index := Scalar.indexCast arg1
  ![v8.toNat]
def k0_off2 (v9 : BitVec 32) : Fin 4 → Nat :=
  let v10 : Index := Scalar.indexCast v9
  let c0_6 : Index := 0#32
  let c0_7 : Index := 0#32
  let c0_8 : Index := 0#32
  ![v10.toNat, 0, 0, 0]

def k0_chk1 (v9 : BitVec 32) : Prop :=
  (∀ a, (k0_off2 v9) a + S1x1x128x1792.size a ≤ S2x1x128x1792.size a)
theorem k0_off2_inb : ∀ (v9 : BitVec 32) (k0_hw1 : k0_chk1 v9), ∀ a, (k0_off2 v9) a + S1x1x128x1792.size a ≤ S2x1x128x1792.size a := fun v9 k0_hw1 => k0_hw1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S256x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x1792 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S56x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x128x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1792 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjVRefIdeal.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S12x1x1 : Shape := ⟨3, ![12, 1, 1]⟩
abbrev S12x1x7168 : Shape := ⟨3, ![12, 1, 7168]⟩
abbrev S3584x7168 : Shape := ⟨2, ![3584, 7168]⟩
abbrev S56x7168 : Shape := ⟨2, ![56, 7168]⟩
abbrev S3072x3584 : Shape := ⟨2, ![3072, 3584]⟩
abbrev S28x7168 : Shape := ⟨2, ![28, 7168]⟩
abbrev S28x1x7168 : Shape := ⟨3, ![28, 1, 7168]⟩
abbrev S28x128x7168 : Shape := ⟨3, ![28, 128, 7168]⟩
abbrev S3072x128 : Shape := ⟨2, ![3072, 128]⟩
abbrev S1x1x128x7168 : Shape := ⟨4, ![1, 1, 128, 7168]⟩
abbrev S128x7168 : Shape := ⟨2, ![128, 7168]⟩
abbrev S1x128x7168 : Shape := ⟨3, ![1, 128, 7168]⟩
abbrev S12x128x7168 : Shape := ⟨3, ![12, 128, 7168]⟩
abbrev S12x256x128 : Shape := ⟨3, ![12, 256, 128]⟩
abbrev S12x256x7168 : Shape := ⟨3, ![12, 256, 7168]⟩
abbrev S12x256x32x224 : Shape := ⟨4, ![12, 256, 32, 224]⟩
abbrev S12x32 : Shape := ⟨2, ![12, 32]⟩
abbrev S12x1x32x1 : Shape := ⟨4, ![12, 1, 32, 1]⟩
abbrev S12x32x1 : Shape := ⟨3, ![12, 32, 1]⟩
abbrev S12x32x224 : Shape := ⟨3, ![12, 32, 224]⟩
abbrev S12x7168 : Shape := ⟨2, ![12, 7168]⟩

abbrev nBuf : Space → Nat
  | .hbm => 10
  | .vmem => 9
  | .smem => 0
  | _ => 0

abbrev bufTy : (tb : Table) → Fin (tcTables nBuf tb) → BufTy
  | .hbm, ⟨0, _⟩ => ⟨S12, .i32⟩
  | .hbm, ⟨1, _⟩ => ⟨S3072x7168, .i8⟩
  | .hbm, ⟨2, _⟩ => ⟨S3072x1, .f32⟩
  | .hbm, ⟨3, _⟩ => ⟨S3584x21504, .i8⟩
  | .hbm, ⟨4, _⟩ => ⟨S56x21504, .f32⟩
  | .hbm, ⟨5, _⟩ => ⟨S3072x384, .bf16⟩
  | .hbm, ⟨6, _⟩ => ⟨S2x3x128x7168, .bf16⟩
  | .hbm, ⟨7, _⟩ => ⟨S12x1x1, .i32⟩
  | .hbm, ⟨8, _⟩ => ⟨S3072x7168, .fp8e4m3⟩
  | .hbm, ⟨9, _⟩ => ⟨S12x1x7168, .f32⟩
  | .local _ .vmem, ⟨0, _⟩ => ⟨S12x1x1, .i32⟩
  | .local _ .vmem, ⟨1, _⟩ => ⟨S3072x7168, .i8⟩
  | .local _ .vmem, ⟨2, _⟩ => ⟨S3072x1, .f32⟩
  | .local _ .vmem, ⟨3, _⟩ => ⟨S3584x21504, .i8⟩
  | .local _ .vmem, ⟨4, _⟩ => ⟨S56x21504, .f32⟩
  | .local _ .vmem, ⟨5, _⟩ => ⟨S3072x384, .bf16⟩
  | .local _ .vmem, ⟨6, _⟩ => ⟨S2x3x128x7168, .bf16⟩
  | .local _ .vmem, ⟨7, _⟩ => ⟨S3072x7168, .fp8e4m3⟩
  | .local _ .vmem, ⟨8, _⟩ => ⟨S12x1x7168, .f32⟩
  | _, _ => ⟨S12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x21504 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x21504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x128x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x1x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ProjK.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S3072x112 : Shape := ⟨2, ![3072, 112]⟩
abbrev S3072x896 : Shape := ⟨2, ![3072, 896]⟩
abbrev S12x1x7168 : Shape := ⟨3, ![12, 1, 7168]⟩
abbrev S256x7168 : Shape := ⟨2, ![256, 7168]⟩
abbrev S256x1 : Shape := ⟨2, ![256, 1]⟩
abbrev S3584x1792 : Shape := ⟨2, ![3584, 1792]⟩
abbrev S56x1792 : Shape := ⟨2, ![56, 1792]⟩
abbrev S256x128 : Shape := ⟨2, ![256, 128]⟩
abbrev S2x1x128x1792 : Shape := ⟨4, ![2, 1, 128, 1792]⟩
abbrev S256x896 : Shape := ⟨2, ![256, 896]⟩
abbrev S256x1792 : Shape := ⟨2, ![256, 1792]⟩
abbrev S1x1x1792 : Shape := ⟨3, ![1, 1, 1792]⟩
abbrev S7168x1792 : Shape := ⟨2, ![7168, 1792]⟩
abbrev S28x1792 : Shape := ⟨2, ![28, 1792]⟩
abbrev S128x1792 : Shape := ⟨2, ![128, 1792]⟩
abbrev S32x1792 : Shape := ⟨2, ![32, 1792]⟩
abbrev S1x1792 : Shape := ⟨2, ![1, 1792]⟩
abbrev S1 : Shape := ⟨1, ![1]⟩
abbrev S1x1x128x1792 : Shape := ⟨4, ![1, 1, 128, 1792]⟩
abbrev S1792 : Shape := ⟨1, ![1792]⟩
abbrev S8x1792 : Shape := ⟨2, ![8, 1792]⟩
abbrev S8 : Shape := ⟨1, ![8]⟩
abbrev S8x1 : Shape := ⟨2, ![8, 1]⟩

abbrev nBuf : Space → Nat
  | .hbm => 13
  | .vmem => 21
  | .smem => 1
  | _ => 0

abbrev bufTy : (tb : Table) → Fin (tcTables nBuf tb) → BufTy
  | .hbm, ⟨0, _⟩ => ⟨S3072x7168, .i8⟩
  | .hbm, ⟨1, _⟩ => ⟨S3072x1, .f32⟩
  | .hbm, ⟨2, _⟩ => ⟨S3584x21504, .i8⟩
  | .hbm, ⟨3, _⟩ => ⟨S56x21504, .f32⟩
  | .hbm, ⟨4, _⟩ => ⟨S3072x384, .bf16⟩
  | .hbm, ⟨5, _⟩ => ⟨S2x3x128x7168, .bf16⟩
  | .hbm, ⟨6, _⟩ => ⟨S3072x112, .f32⟩
  | .hbm, ⟨7, _⟩ => ⟨S3072x112, .f32⟩
  | .hbm, ⟨8, _⟩ => ⟨S3072x896, .f32⟩
  | .hbm, ⟨9, _⟩ => ⟨S3072x112, .f32⟩
  | .hbm, ⟨10, _⟩ => ⟨S3072x896, .f32⟩
  | .hbm, ⟨11, _⟩ => ⟨S3072x7168, .fp8e4m3⟩
  | .hbm, ⟨12, _⟩ => ⟨S12x1x7168, .f32⟩
  | .local _ .vmem, ⟨0, _⟩ => ⟨S256x7168, .i8⟩
  | .local _ .vmem, ⟨1, _⟩ => ⟨S256x7168, .i8⟩
  | .local _ .vmem, ⟨2, _⟩ => ⟨S256x1, .f32⟩
  | .local _ .vmem, ⟨3, _⟩ => ⟨S256x1, .f32⟩
  | .local _ .vmem, ⟨4, _⟩ => ⟨S3584x1792, .i8⟩
  | .local _ .vmem, ⟨5, _⟩ => ⟨S3584x1792, .i8⟩
  | .local _ .vmem, ⟨6, _⟩ => ⟨S56x1792, .f32⟩
  | .local _ .vmem, ⟨7, _⟩ => ⟨S56x1792, .f32⟩
  | .local _ .vmem, ⟨8, _⟩ => ⟨S256x128, .bf16⟩
  | .local _ .vmem, ⟨9, _⟩ => ⟨S256x128, .bf16⟩
  | .local _ .vmem, ⟨10, _⟩ => ⟨S2x1x128x1792, .bf16⟩
  | .local _ .vmem, ⟨11, _⟩ => ⟨S2x1x128x1792, .bf16⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x1792, .fp8e4m3⟩
  | .local _ .vmem, ⟨17, _⟩ => ⟨S256x1792, .fp8e4m3⟩
  | .local _ .vmem, ⟨18, _⟩ => ⟨S1x1x1792, .f32⟩
  | .local _ .vmem, ⟨19, _⟩ => ⟨S1x1x1792, .f32⟩
  | .local _ .vmem, ⟨20, _⟩ => ⟨S7168x1792, .bf16⟩
  | .local _ .smem, ⟨0, _⟩ => ⟨S12, .i32⟩
  | _, _ => ⟨S3072x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 12], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v8 : Index := Scalar.indexCast arg1
  ![v8.toNat]
def k0_off2 (v9 : BitVec 32) : Fin 4 → Nat :=
  let v10 : Index := Scalar.indexCast v9
  let c0_6 : Index := 0#32
  let c0_7 : Index := 0#32
  let c0_8 : Index := 0#32
  ![v10.toNat, 0, 0, 0]

def k0_chk1 (v9 : BitVec 32) : Prop :=
  (∀ a, (k0_off2 v9) a + S1x1x128x1792.size a ≤ S2x1x128x1792.size a)
theorem k0_off2_inb : ∀ (v9 : BitVec 32) (k0_hw1 : k0_chk1 v9), ∀ a, (k0_off2 v9) a + S1x1x128x1792.size a ≤ S2x1x128x1792.size a := fun v9 k0_hw1 => k0_hw1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S256x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x1792 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S56x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x128x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1792 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjKRefIdeal.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S3072x112 : Shape := ⟨2, ![3072, 112]⟩
abbrev S12x1x1 : Shape := ⟨3, ![12, 1, 1]⟩
abbrev S12x1x7168 : Shape := ⟨3, ![12, 1, 7168]⟩
abbrev S3584x7168 : Shape := ⟨2, ![3584, 7168]⟩
abbrev S56x7168 : Shape := ⟨2, ![56, 7168]⟩
abbrev S3072x3584 : Shape := ⟨2, ![3072, 3584]⟩
abbrev S28x7168 : Shape := ⟨2, ![28, 7168]⟩
abbrev S28x1x7168 : Shape := ⟨3, ![28, 1, 7168]⟩
abbrev S28x128x7168 : Shape := ⟨3, ![28, 128, 7168]⟩
abbrev S3072x128 : Shape := ⟨2, ![3072, 128]⟩
abbrev S1x1x128x7168 : Shape := ⟨4, ![1, 1, 128, 7168]⟩
abbrev S128x7168 : Shape := ⟨2, ![128, 7168]⟩
abbrev S1x128x7168 : Shape := ⟨3, ![1, 128, 7168]⟩
abbrev S12x128x7168 : Shape := ⟨3, ![12, 128, 7168]⟩
abbrev S12x256x128 : Shape := ⟨3, ![12, 256, 128]⟩
abbrev S12x256x7168 : Shape := ⟨3, ![12, 256, 7168]⟩
abbrev S12x256x32x224 : Shape := ⟨4, ![12, 256, 32, 224]⟩
abbrev S12x256x1x112 : Shape := ⟨4, ![12, 256, 1, 112]⟩
abbrev S12x256x32x112 : Shape := ⟨4, ![12, 256, 32, 112]⟩
abbrev S12x32 : Shape := ⟨2, ![12, 32]⟩
abbrev S12x1x32x1 : Shape := ⟨4, ![12, 1, 32, 1]⟩
abbrev S12x32x1 : Shape := ⟨3, ![12, 32, 1]⟩
abbrev S12x32x224 : Shape := ⟨3, ![12, 32, 224]⟩
abbrev S12x7168 : Shape := ⟨2, ![12, 7168]⟩

abbrev nBuf : Space → Nat
  | .hbm => 12
  | .vmem => 11
  | .smem => 0
  | _ => 0

abbrev bufTy : (tb : Table) → Fin (tcTables nBuf tb) → BufTy
  | .hbm, ⟨0, _⟩ => ⟨S12, .i32⟩
  | .hbm, ⟨1, _⟩ => ⟨S3072x7168, .i8⟩
  | .hbm, ⟨2, _⟩ => ⟨S3072x1, .f32⟩
  | .hbm, ⟨3, _⟩ => ⟨S3584x21504, .i8⟩
  | .hbm, ⟨4, _⟩ => ⟨S56x21504, .f32⟩
  | .hbm, ⟨5, _⟩ => ⟨S3072x384, .bf16⟩
  | .hbm, ⟨6, _⟩ => ⟨S2x3x128x7168, .bf16⟩
  | .hbm, ⟨7, _⟩ => ⟨S3072x112, .f32⟩
  | .hbm, ⟨8, _⟩ => ⟨S3072x112, .f32⟩
  | .hbm, ⟨9, _⟩ => ⟨S12x1x1, .i32⟩
  | .hbm, ⟨10, _⟩ => ⟨S3072x7168, .fp8e4m3⟩
  | .hbm, ⟨11, _⟩ => ⟨S12x1x7168, .f32⟩
  | .local _ .vmem, ⟨0, _⟩ => ⟨S12x1x1, .i32⟩
  | .local _ .vmem, ⟨1, _⟩ => ⟨S3072x7168, .i8⟩
  | .local _ .vmem, ⟨2, _⟩ => ⟨S3072x1, .f32⟩
  | .local _ .vmem, ⟨3, _⟩ => ⟨S3584x21504, .i8⟩
  | .local _ .vmem, ⟨4, _⟩ => ⟨S56x21504, .f32⟩
  | .local _ .vmem, ⟨5, _⟩ => ⟨S3072x384, .bf16⟩
  | .local _ .vmem, ⟨6, _⟩ => ⟨S2x3x128x7168, .bf16⟩
  | .local _ .vmem, ⟨7, _⟩ => ⟨S3072x112, .f32⟩
  | .local _ .vmem, ⟨8, _⟩ => ⟨S3072x112, .f32⟩
  | .local _ .vmem, ⟨9, _⟩ => ⟨S3072x7168, .fp8e4m3⟩
  | .local _ .vmem, ⟨10, _⟩ => ⟨S12x1x7168, .f32⟩
  | _, _ => ⟨S12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x21504 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x21504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x128x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x112 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ProjQ.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S3072x112 : Shape := ⟨2, ![3072, 112]⟩
abbrev S3072x896 : Shape := ⟨2, ![3072, 896]⟩
abbrev S256x7168 : Shape := ⟨2, ![256, 7168]⟩
abbrev S256x1 : Shape := ⟨2, ![256, 1]⟩
abbrev S3584x1792 : Shape := ⟨2, ![3584, 1792]⟩
abbrev S56x1792 : Shape := ⟨2, ![56, 1792]⟩
abbrev S256x128 : Shape := ⟨2, ![256, 128]⟩
abbrev S2x1x128x1792 : Shape := ⟨4, ![2, 1, 128, 1792]⟩
abbrev S256x896 : Shape := ⟨2, ![256, 896]⟩
abbrev S256x1792 : Shape := ⟨2, ![256, 1792]⟩
abbrev S7168x1792 : Shape := ⟨2, ![7168, 1792]⟩
abbrev S28x1792 : Shape := ⟨2, ![28, 1792]⟩
abbrev S128x1792 : Shape := ⟨2, ![128, 1792]⟩
abbrev S32x1792 : Shape := ⟨2, ![32, 1792]⟩
abbrev S1x1792 : Shape := ⟨2, ![1, 1792]⟩
abbrev S1 : Shape := ⟨1, ![1]⟩
abbrev S1x1x128x1792 : Shape := ⟨4, ![1, 1, 128, 1792]⟩

abbrev nBuf : Space → Nat
  | .hbm => 12
  | .vmem => 19
  | .smem => 1
  | _ => 0

abbrev bufTy : (tb : Table) → Fin (tcTables nBuf tb) → BufTy
  | .hbm, ⟨0, _⟩ => ⟨S3072x7168, .i8⟩
  | .hbm, ⟨1, _⟩ => ⟨S3072x1, .f32⟩
  | .hbm, ⟨2, _⟩ => ⟨S3584x21504, .i8⟩
  | .hbm, ⟨3, _⟩ => ⟨S56x21504, .f32⟩
  | .hbm, ⟨4, _⟩ => ⟨S3072x384, .bf16⟩
  | .hbm, ⟨5, _⟩ => ⟨S2x3x128x7168, .bf16⟩
  | .hbm, ⟨6, _⟩ => ⟨S3072x112, .f32⟩
  | .hbm, ⟨7, _⟩ => ⟨S3072x112, .f32⟩
  | .hbm, ⟨8, _⟩ => ⟨S3072x896, .f32⟩
  | .hbm, ⟨9, _⟩ => ⟨S3072x112, .f32⟩
  | .hbm, ⟨10, _⟩ => ⟨S3072x896, .f32⟩
  | .hbm, ⟨11, _⟩ => ⟨S3072x7168, .bf16⟩
  | .local _ .vmem, ⟨0, _⟩ => ⟨S256x7168, .i8⟩
  | .local _ .vmem, ⟨1, _⟩ => ⟨S256x7168, .i8⟩
  | .local _ .vmem, ⟨2, _⟩ => ⟨S256x1, .f32⟩
  | .local _ .vmem, ⟨3, _⟩ => ⟨S256x1, .f32⟩
  | .local _ .vmem, ⟨4, _⟩ => ⟨S3584x1792, .i8⟩
  | .local _ .vmem, ⟨5, _⟩ => ⟨S3584x1792, .i8⟩
  | .local _ .vmem, ⟨6, _⟩ => ⟨S56x1792, .f32⟩
  | .local _ .vmem, ⟨7, _⟩ => ⟨S56x1792, .f32⟩
  | .local _ .vmem, ⟨8, _⟩ => ⟨S256x128, .bf16⟩
  | .local _ .vmem, ⟨9, _⟩ => ⟨S256x128, .bf16⟩
  | .local _ .vmem, ⟨10, _⟩ => ⟨S2x1x128x1792, .bf16⟩
  | .local _ .vmem, ⟨11, _⟩ => ⟨S2x1x128x1792, .bf16⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x1792, .bf16⟩
  | .local _ .vmem, ⟨17, _⟩ => ⟨S256x1792, .bf16⟩
  | .local _ .vmem, ⟨18, _⟩ => ⟨S7168x1792, .bf16⟩
  | .local _ .smem, ⟨0, _⟩ => ⟨S12, .i32⟩
  | _, _ => ⟨S3072x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 12], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v8 : Index := Scalar.indexCast arg1
  ![v8.toNat]
def k0_off2 (v9 : BitVec 32) : Fin 4 → Nat :=
  let v10 : Index := Scalar.indexCast v9
  let c0_6 : Index := 0#32
  let c0_7 : Index := 0#32
  let c0_8 : Index := 0#32
  ![v10.toNat, 0, 0, 0]

def k0_chk1 (v9 : BitVec 32) : Prop :=
  (∀ a, (k0_off2 v9) a + S1x1x128x1792.size a ≤ S2x1x128x1792.size a)
theorem k0_off2_inb : ∀ (v9 : BitVec 32) (k0_hw1 : k0_chk1 v9), ∀ a, (k0_off2 v9) a + S1x1x128x1792.size a ≤ S2x1x128x1792.size a := fun v9 k0_hw1 => k0_hw1

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x1792 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S56x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1x128x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjQRefIdeal.lean ====
abbrev S12 : Shape := ⟨1, ![12]⟩
abbrev S3072x7168 : Shape := ⟨2, ![3072, 7168]⟩
abbrev S3072x1 : Shape := ⟨2, ![3072, 1]⟩
abbrev S3584x21504 : Shape := ⟨2, ![3584, 21504]⟩
abbrev S56x21504 : Shape := ⟨2, ![56, 21504]⟩
abbrev S3072x384 : Shape := ⟨2, ![3072, 384]⟩
abbrev S2x3x128x7168 : Shape := ⟨4, ![2, 3, 128, 7168]⟩
abbrev S3072x112 : Shape := ⟨2, ![3072, 112]⟩
abbrev S12x1x1 : Shape := ⟨3, ![12, 1, 1]⟩
abbrev S3584x7168 : Shape := ⟨2, ![3584, 7168]⟩
abbrev S56x7168 : Shape := ⟨2, ![56, 7168]⟩
abbrev S3072x3584 : Shape := ⟨2, ![3072, 3584]⟩
abbrev S28x7168 : Shape := ⟨2, ![28, 7168]⟩
abbrev S28x1x7168 : Shape := ⟨3, ![28, 1, 7168]⟩
abbrev S28x128x7168 : Shape := ⟨3, ![28, 128, 7168]⟩
abbrev S3072x128 : Shape := ⟨2, ![3072, 128]⟩
abbrev S1x1x128x7168 : Shape := ⟨4, ![1, 1, 128, 7168]⟩
abbrev S128x7168 : Shape := ⟨2, ![128, 7168]⟩
abbrev S1x128x7168 : Shape := ⟨3, ![1, 128, 7168]⟩
abbrev S12x128x7168 : Shape := ⟨3, ![12, 128, 7168]⟩
abbrev S12x256x128 : Shape := ⟨3, ![12, 256, 128]⟩
abbrev S12x256x7168 : Shape := ⟨3, ![12, 256, 7168]⟩
abbrev S12x256x32x224 : Shape := ⟨4, ![12, 256, 32, 224]⟩
abbrev S12x256x1x112 : Shape := ⟨4, ![12, 256, 1, 112]⟩
abbrev S12x256x32x112 : Shape := ⟨4, ![12, 256, 32, 112]⟩

abbrev nBuf : Space → Nat
  | .hbm => 11
  | .vmem => 10
  | .smem => 0
  | _ => 0

abbrev bufTy : (tb : Table) → Fin (tcTables nBuf tb) → BufTy
  | .hbm, ⟨0, _⟩ => ⟨S12, .i32⟩
  | .hbm, ⟨1, _⟩ => ⟨S3072x7168, .i8⟩
  | .hbm, ⟨2, _⟩ => ⟨S3072x1, .f32⟩
  | .hbm, ⟨3, _⟩ => ⟨S3584x21504, .i8⟩
  | .hbm, ⟨4, _⟩ => ⟨S56x21504, .f32⟩
  | .hbm, ⟨5, _⟩ => ⟨S3072x384, .bf16⟩
  | .hbm, ⟨6, _⟩ => ⟨S2x3x128x7168, .bf16⟩
  | .hbm, ⟨7, _⟩ => ⟨S3072x112, .f32⟩
  | .hbm, ⟨8, _⟩ => ⟨S3072x112, .f32⟩
  | .hbm, ⟨9, _⟩ => ⟨S12x1x1, .i32⟩
  | .hbm, ⟨10, _⟩ => ⟨S3072x7168, .bf16⟩
  | .local _ .vmem, ⟨0, _⟩ => ⟨S12x1x1, .i32⟩
  | .local _ .vmem, ⟨1, _⟩ => ⟨S3072x7168, .i8⟩
  | .local _ .vmem, ⟨2, _⟩ => ⟨S3072x1, .f32⟩
  | .local _ .vmem, ⟨3, _⟩ => ⟨S3584x21504, .i8⟩
  | .local _ .vmem, ⟨4, _⟩ => ⟨S56x21504, .f32⟩
  | .local _ .vmem, ⟨5, _⟩ => ⟨S3072x384, .bf16⟩
  | .local _ .vmem, ⟨6, _⟩ => ⟨S2x3x128x7168, .bf16⟩
  | .local _ .vmem, ⟨7, _⟩ => ⟨S3072x112, .f32⟩
  | .local _ .vmem, ⟨8, _⟩ => ⟨S3072x112, .f32⟩
  | .local _ .vmem, ⟨9, _⟩ => ⟨S3072x7168, .bf16⟩
  | _, _ => ⟨S12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x21504 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x21504 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x3x128x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x112 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Quant.lean ====
/-
  Eight-bit codes over the extended reals, arrays read at natural-number positions, and contractions cut into blocks.

  `q8 x` is the code of a scaled number: rounded to the nearest whole number (ties to even) and kept within ±127. Stored
  as an eight-bit integer and read back it is itself (`sitofp_fptosi_q8`). A kernel multiplies by the reciprocal of the
  scale where its reference divides by the scale: the same for a scale that is not zero (`mul_recip`).
-/
module

public import Idealize.ShloMosaic.Lib.Pointwise
public import Idealize.ShloMosaic.Lib.ValueLayout
public import Idealize.ShloMosaic.Lib.IdealHost
public import Idealize.ShloMosaic.Lib.MatmulPlain
public import Idealize.ShloMosaic.Lib.Claim

@[expose] public section

noncomputable section

namespace Cert.W4

open Idealize.ShloMosaic

/-! ## Codes -/

/-- Round to the nearest whole number, ties to even, and keep within ±127. -/
def q8 (x : EReal) : EReal := min (((127 : ℝ)) : EReal) (max (((-127 : ℝ)) : EReal) (Ideal.liftRound Ideal.roundHalfEven x))

theorem q8_int (x : EReal) : ∃ n : ℤ, -127 ≤ n ∧ n ≤ 127 ∧ q8 x = ((n : ℝ) : EReal) := by
  unfold q8
  induction x with
  | bot =>
    refine ⟨-127, le_rfl, by norm_num, ?_⟩
    rw [Ideal.liftRound_bot, max_eq_left bot_le, min_eq_right (by exact_mod_cast (by norm_num : (-127 : ℝ) ≤ 127))]
    norm_num
  | top =>
    refine ⟨127, by norm_num, le_rfl, ?_⟩
    rw [Ideal.liftRound_top, max_eq_right le_top, min_eq_left le_top]
    norm_num
  | coe r =>
    refine ⟨min 127 (max (-127) (Ideal.roundHalfEven r)), by omega, by omega, ?_⟩
    rw [Ideal.liftRound_coe]
    push_cast
    have hm : Monotone (fun r : ℝ => (r : EReal)) := EReal.coe_strictMono.monotone
    rw [hm.map_min, hm.map_max, EReal.coe_neg]

/-- A whole number within ±127 stored as an eight-bit integer and read back is itself. -/
theorem toInt_fptosi_int (n : ℤ) (h1 : -127 ≤ n) (h2 : n ≤ 127) : (Ideal.fptosi 8 ((n : ℝ) : EReal)).toInt = n := by
  have e : Ideal.toIntClamped (-(2 ^ (8 - 1) : Nat)) ((2 ^ (8 - 1) : Nat) - 1) (((n : ℤ) : ℝ) : EReal) = n := by
    rw [Ideal.toIntClamped_coe]
    have : (if 0 ≤ ((n : ℤ) : ℝ) then ⌊((n : ℤ) : ℝ)⌋ else ⌈((n : ℤ) : ℝ)⌉) = n := by split <;> simp
    rw [this]
    norm_num
    omega
  rw [Ideal.fptosi, e]
  rw [BitVec.toInt_ofInt]
  rw [Int.bmod_def]
  omega

theorem sitofp_fptosi_q8 (x : EReal) : (((Ideal.fptosi 8 (q8 x)).toInt : ℝ) : EReal) = q8 x := by
  obtain ⟨n, h1, h2, h⟩ := q8_int x
  rw [h, toInt_fptosi_int n h1 h2]

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

theorem sitofp_127 : (((127#32 : BitVec 32).toInt : ℝ) : EReal) = ((127 : ℝ) : EReal) := by
  norm_num [show (127#32 : BitVec 32).toInt = 127 from by decide]

theorem sitofp_neg127 : (((4294967169#32 : BitVec 32).toInt : ℝ) : EReal) = ((-127 : ℝ) : EReal) := by
  norm_num [show (4294967169#32 : BitVec 32).toInt = -127 from by decide]

/-- Multiplying by the reciprocal of a scale that is not zero is dividing by it. -/
theorem mul_recip (x s : EReal) (hs : s ≠ 0) : x * Ideal.div 1 s = Ideal.div x s := by
  rw [Ideal.div, Ideal.div, if_neg hs, if_neg hs, one_mul]

/-! ## Arrays at natural-number positions -/

/-- Row `i`, column `j` of an array; zero outside it. -/
def at2 {a b : Nat} {α : Type} [Zero α] (A : (⟨2, ![a, b]⟩ : Shape).Idx → α) (i j : Nat) : α :=
  if h : i < a ∧ j < b then A (ValueIdx.ix2 ⟨i, h.1⟩ ⟨j, h.2⟩) else 0

theorem at2_eq {a b : Nat} {α : Type} [Zero α] (A : (⟨2, ![a, b]⟩ : Shape).Idx → α) (x : (⟨2, ![a, b]⟩ : Shape).Idx) (i j : Nat)
    (hi : (x 0).val = i) (hj : (x 1).val = j) : A x = at2 A i j := by
  subst hi hj
  have h0 : (x 0).val < a := (x 0).isLt
  have h1 : (x 1).val < b := (x 1).isLt
  rw [at2, dif_pos ⟨h0, h1⟩]
  congr 1
  funext c
  match c with | ⟨0, _⟩ => rfl | ⟨1, _⟩ => rfl

theorem ix2_surj {a b : Nat} (x : (⟨2, ![a, b]⟩ : Shape).Idx) : ∃ (p : Fin a) (l : Fin b), x = ValueIdx.ix2 p l :=
  ⟨x 0, x 1, by funext c; match c with | ⟨0, _⟩ => rfl | ⟨1, _⟩ => rfl⟩

theorem at2_ix2 {a b : Nat} {α : Type} [Zero α] (A : (⟨2, ![a, b]⟩ : Shape).Idx → α) (p : Fin a) (l : Fin b) :
    A (ValueIdx.ix2 p l) = at2 A p.val l.val := at2_eq A _ _ _ rfl rfl

/-- A plain matrix product over a zero accumulator, its contraction a sum over `0 … K-1` of a function of the position. -/
theorem matmul_range {M K N : ℕ} {φ₁ φ₂ : FTy} (prec : Option ContractPrecision)
    (lhs : FVec Ideal ⟨2, ![M, K]⟩ φ₁) (rhs : FVec Ideal ⟨2, ![K, N]⟩ φ₂) (r : Fin M) (c : Fin N) (f : ℕ → EReal)
    (hf : ∀ k : Fin K, (lhs (ValueIdx.ix2 r k) : EReal) * (rhs (ValueIdx.ix2 k c) : EReal) = f k.val) :
    FloatOps.matmul (DotDims.plain M K N) prec lhs rhs (constant (F := Ideal) ⟨2, ![M, N]⟩ .f32 0x00000000#32) (ValueIdx.ix2 r c)
      = ∑ k ∈ Finset.range K, f k := by
  rw [Ideal.matmul_plain_apply]
  show Ideal.ofBits .f32 0x00000000#32 + _ = _
  rw [Ideal.ofBits_zero_f32, zero_add, ← Fin.sum_univ_eq_sum_range]
  exact Finset.sum_congr rfl fun k _ => hf k

end Cert.W4
-- ==== Proof.Nibble.lean ====
/-
  Four-bit weights, two to a byte, over the extended reals.

  A byte `b` holds two signed four-bit numbers: `nib false b` (bits 0–3) and `nib true b` (bits 4–7). The kernels read
  them by looking at four bytes as one 32-bit word: shift the word left by four (low half) or not at all (high half),
  mask with `0xF0F0F0F0`, and read the bytes back as signed 8-bit numbers, each sixteen times the four-bit number; the
  scale is multiplied by 1/16 to make up for it. The references widen the byte, mask or shift it, and subtract sixteen
  from what is at least eight. Both give `nib hi b · scale`.
-/
module

public import proofs.«01_k».proof.Proof.Quant
public import Idealize.ShloMosaic.Lib.BitcastFour
public import Idealize.ShloMosaic.Lib.Pointwise
public import Idealize.ShloMosaic.Lib.ValueLayout
public import Idealize.ShloMosaic.Lib.IdealHost
public import Idealize.ShloMosaic.Lib.Claim
public import Idealize.ShloMosaic.Lib.Pipeline.Value
public import Idealize.ShloMosaic.Lib.Ring
public import Idealize.ShloMosaic.Lib.Pipeline.FrameBody
public import Idealize.ShloMosaic.Lib.Pipeline.ReadBack

@[expose] public section

set_option maxRecDepth 16384

noncomputable section

namespace Cert.W4

open Idealize.ShloMosaic

/-- The signed four-bit number in the low (`hi = false`) or high (`hi = true`) half of a byte. -/
def nib (hi : Bool) (b : BitVec 8) : ℤ :=
  let n : ℤ := if hi then ((b >>> 4).toNat : ℤ) else ((b &&& 15#8).toNat : ℤ)
  if 8 ≤ n then n - 16 else n

/-- It as an extended real. -/
def nibE (hi : Bool) (b : BitVec 8) : EReal := ((nib hi b : ℝ) : EReal)

/-! ## The kernels' reading -/

/-- The mask keeps the upper four bits of every byte. -/
theorem mask_getLsbD (i : Nat) (hi : i < 32) : (4042322160#32 : BitVec 32).getLsbD i = decide (4 ≤ i % 8) := by
  interval_cases i <;> rfl

theorem mask8_getLsbD (i : Nat) (hi : i < 8) : (240#8 : BitVec 8).getLsbD i = decide (4 ≤ i) := by
  interval_cases i <;> rfl

/-- Rows of bytes read as words, worked on word by word, read back as bytes: bit `q` of the byte at row `r` is bit
    `8 (r % 4) + q` of the worked word at row `r / 4`. -/
theorem bitcast_32_8_getLsbD_ix2 {R r n : Nat} (y : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 y h (ValueIdx.ix2 p l)).getLsbD q = (y (ValueIdx.ix2 a l)).getLsbD (8 * (p.val % 4) + q) := by
  rw [bitcast_getLsbD y h _ q hq (by decide)]
  have hrow : (⟨2, ![R, n]⟩ : Shape).row (ValueIdx.ix2 p l) = p.val := rfl
  have e1 : ((⟨2, ![R, n]⟩ : Shape).row (ValueIdx.ix2 p l) * 8 + q) % 32 = 8 * (p.val % 4) + q := by rw [hrow]; omega
  rw [e1]
  congr 2
  funext c
  match c with
  | ⟨0, _⟩ => exact Fin.ext ((h.srcIdx_row _ _ _ ⟨0, Nat.zero_lt_two⟩ rfl).trans (by rw [hrow, ha]; omega))
  | ⟨1, _⟩ => exact Fin.ext (h.srcIdx_other _ _ _ ⟨1, Nat.one_lt_two⟩ (by show ¬ 1 + 2 = 2; omega))

/-- Shift by four, mask, read back: the byte shifted by four and masked. -/
theorem byte_lo {R r n : Nat} (hR : R = 4 * r) (v : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) (y : (⟨2, ![r, n]⟩ : Shape).Idx → BitVec 32)
    (hy : ∀ i, y i = (bitcast ⟨2, ![r, n]⟩ 32 v h i <<< 4) &&& 4042322160#32) :
    bitcast ⟨2, ![R, n]⟩ 8 y h' (ValueIdx.ix2 p l) = (v (ValueIdx.ix2 p l) <<< 4) &&& 240#8 := by
  apply BitVec.eq_of_getLsbD_eq
  intro q hq
  have hp := p.isLt
  rw [bitcast_32_8_getLsbD_ix2 y h' p l q hq ⟨p.val / 4, by omega⟩ rfl, hy, BitVec.getLsbD_and, BitVec.getLsbD_and,
    mask_getLsbD _ (by omega), mask8_getLsbD q hq, BitVec.getLsbD_shiftLeft, BitVec.getLsbD_shiftLeft]
  by_cases h4 : 4 ≤ q
  · rw [bitcast_8_32_getLsbD_ix2 v h ⟨p.val / 4, by omega⟩ l (8 * (p.val % 4) + q - 4) (by omega) p (by simp only; omega)]
    have e : (8 * (p.val % 4) + q - 4) % 8 = q - 4 := by omega
    have e2 : 4 ≤ (8 * (p.val % 4) + q) % 8 := by omega
    have e3 : ¬ 8 * (p.val % 4) + q < 4 := by omega
    have e4 : 8 * (p.val % 4) + q < 32 := by omega
    have e5 : ¬ q < 4 := by omega
    have e6 : 4 ≤ q % 8 := by omega
    simp [e, e2, e3, e4, e5, e6, h4, hq]
  · have e6 : q % 8 < 4 := by omega
    simp [h4, e6]

/-- Mask without a shift, read back: the byte masked. -/
theorem byte_hi {R r n : Nat} (hR : R = 4 * r) (v : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) (y : (⟨2, ![r, n]⟩ : Shape).Idx → BitVec 32)
    (hy : ∀ i, y i = bitcast ⟨2, ![r, n]⟩ 32 v h i &&& 4042322160#32) :
    bitcast ⟨2, ![R, n]⟩ 8 y h' (ValueIdx.ix2 p l) = v (ValueIdx.ix2 p l) &&& 240#8 := by
  apply BitVec.eq_of_getLsbD_eq
  intro q hq
  have hp := p.isLt
  rw [bitcast_32_8_getLsbD_ix2 y h' p l q hq ⟨p.val / 4, by omega⟩ rfl, hy, BitVec.getLsbD_and, BitVec.getLsbD_and,
    mask_getLsbD _ (by omega), mask8_getLsbD q hq,
    bitcast_8_32_getLsbD_ix2 v h ⟨p.val / 4, by omega⟩ l (8 * (p.val % 4) + q) (by omega) p (by simp only; omega)]
  have e : (8 * (p.val % 4) + q) % 8 = q := by omega
  rw [e]

theorem byte_lo_toInt : ∀ b : BitVec 8, ((b <<< 4) &&& 240#8).toInt = 16 * nib false b := by decide +kernel
theorem byte_hi_toInt : ∀ b : BitVec 8, (b &&& 240#8).toInt = 16 * nib true b := by decide +kernel

theorem ofBits_sixteenth : Ideal.ofBits .f32 0x3D800000#32 = (((1 : ℝ) / 16 : ℝ) : EReal) := by
  simp [Ideal.ofBits, Ideal.ieee, -EReal.coe_mul]; norm_num

/-- Sixteen times the number against a sixteenth of the scale. -/
theorem scaled (n : ℤ) (s : EReal) : (((16 * n : ℤ) : ℝ) : EReal) * (s * (((1 : ℝ) / 16 : ℝ) : EReal)) = ((n : ℝ) : EReal) * s := by
  rw [mul_comm s, ← mul_assoc, ← EReal.coe_mul]
  congr 2
  push_cast
  ring

/-- The kernels' widening of `R` rows of bytes by one row of scales, over the words `y` already masked. -/
def widenW {R r n : Nat} (y : IVec ⟨2, ![r, n]⟩ 32) (s : FVec Ideal ⟨2, ![1, n]⟩ .f32)
    (h' : (⟨2, ![r, n]⟩ : Shape).Bitcasts 32 ⟨2, ![R, n]⟩ 8)
    (hs : (⟨2, ![1, n]⟩ : Shape).ShapeCasts ⟨2, ![1, n]⟩)
    (hb : (⟨2, ![1, n]⟩ : Shape).Broadcasts ⟨2, ![R, n]⟩)
    (ht : FTy.bf16.bits < FTy.f32.bits) (hc : (⟨2, ![R, n]⟩ : Shape).ShapeCasts ⟨2, ![R, n]⟩) :
    FVec Ideal ⟨2, ![R, n]⟩ .bf16 :=
  shapeCast ⟨2, ![R, n]⟩
    (mulf (sitofp .bf16 (bitcast ⟨2, ![R, n]⟩ 8 y h'))
      (truncf .bf16 (broadcastTo ⟨2, ![R, n]⟩ (shapeCast ⟨2, ![1, n]⟩
        (mulf (extf .f32 (truncf .bf16 s ht) ht) (broadcast ⟨2, ![1, n]⟩ (Scalar.ofBits (F := Ideal) .f32 0x3D800000#32)))
        hs) hb) ht)) hc

theorem broadcastTo_row {R n : Nat} {α : Type} (x : (⟨2, ![1, n]⟩ : Shape).Idx → α)
    (hb : (⟨2, ![1, n]⟩ : Shape).Broadcasts ⟨2, ![R, n]⟩) (p : Fin R) (l : Fin n) :
    broadcastTo ⟨2, ![R, n]⟩ x hb (ValueIdx.ix2 p l) = x (ValueIdx.ix2 0 l) := by
  exact ValueIdx.broadcastTo_1b_ab_apply x hb p l

theorem widenW_apply {R r n : Nat} (y : IVec ⟨2, ![r, n]⟩ 32) (s : FVec Ideal ⟨2, ![1, n]⟩ .f32)
    (h' : (⟨2, ![r, n]⟩ : Shape).Bitcasts 32 ⟨2, ![R, n]⟩ 8)
    (hs : (⟨2, ![1, n]⟩ : Shape).ShapeCasts ⟨2, ![1, n]⟩)
    (hb : (⟨2, ![1, n]⟩ : Shape).Broadcasts ⟨2, ![R, n]⟩)
    (ht : FTy.bf16.bits < FTy.f32.bits) (hc : (⟨2, ![R, n]⟩ : Shape).ShapeCasts ⟨2, ![R, n]⟩) (p : Fin R) (l : Fin n) (k : ℤ)
    (hk : (bitcast ⟨2, ![R, n]⟩ 8 y h' (ValueIdx.ix2 p l)).toInt = 16 * k) :
    widenW y s h' hs hb ht hc (ValueIdx.ix2 p l) = ((k : ℝ) : EReal) * s (ValueIdx.ix2 0 l) := by
  unfold widenW
  rw [shapeCast_self, shapeCast_self]
  show (((bitcast ⟨2, ![R, n]⟩ 8 y h' (ValueIdx.ix2 p l)).toInt : ℝ) : EReal) * broadcastTo ⟨2, ![R, n]⟩
    (mulf (extf .f32 (truncf .bf16 s ht) ht) (broadcast ⟨2, ![1, n]⟩ (Scalar.ofBits (F := Ideal) .f32 0x3D800000#32)))
    hb (ValueIdx.ix2 p l) = _
  rw [broadcastTo_row, hk]
  show _ * (s (ValueIdx.ix2 0 l) * Ideal.ofBits .f32 0x3D800000#32) = _
  rw [ofBits_sixteenth, scaled]

/-- The shifted words (the low halves). -/
theorem widen_lo {R r n : Nat} (hR : R = 4 * r) (v : IVec ⟨2, ![R, n]⟩ 8) (s : FVec Ideal ⟨2, ![1, n]⟩ .f32)
    (h : (⟨2, ![R, n]⟩ : Shape).Bitcasts 8 ⟨2, ![r, n]⟩ 32) (h' : (⟨2, ![r, n]⟩ : Shape).Bitcasts 32 ⟨2, ![R, n]⟩ 8)
    (hs : (⟨2, ![1, n]⟩ : Shape).ShapeCasts ⟨2, ![1, n]⟩) (hb : (⟨2, ![1, n]⟩ : Shape).Broadcasts ⟨2, ![R, n]⟩)
    (ht : FTy.bf16.bits < FTy.f32.bits) (hc : (⟨2, ![R, n]⟩ : Shape).ShapeCasts ⟨2, ![R, n]⟩) (p : Fin R) (l : Fin n) :
    widenW (andi (shli (bitcast ⟨2, ![r, n]⟩ 32 v h) (broadcast ⟨2, ![r, n]⟩ 4#32)) (broadcast ⟨2, ![r, n]⟩ 4042322160#32))
      s h' hs hb ht hc (ValueIdx.ix2 p l) = nibE false (v (ValueIdx.ix2 p l)) * s (ValueIdx.ix2 0 l) :=
  widenW_apply _ s h' hs hb ht hc p l _ (by
    rw [byte_lo hR v h h' p l (andi (shli (bitcast ⟨2, ![r, n]⟩ 32 v h) (broadcast ⟨2, ![r, n]⟩ 4#32)) (broadcast ⟨2, ![r, n]⟩ 4042322160#32)) fun i => rfl,
      byte_lo_toInt])

/-- The words as they are (the high halves). -/
theorem widen_hi {R r n : Nat} (hR : R = 4 * r) (v : IVec ⟨2, ![R, n]⟩ 8) (s : FVec Ideal ⟨2, ![1, n]⟩ .f32)
    (h : (⟨2, ![R, n]⟩ : Shape).Bitcasts 8 ⟨2, ![r, n]⟩ 32) (h' : (⟨2, ![r, n]⟩ : Shape).Bitcasts 32 ⟨2, ![R, n]⟩ 8)
    (hs : (⟨2, ![1, n]⟩ : Shape).ShapeCasts ⟨2, ![1, n]⟩) (hb : (⟨2, ![1, n]⟩ : Shape).Broadcasts ⟨2, ![R, n]⟩)
    (ht : FTy.bf16.bits < FTy.f32.bits) (hc : (⟨2, ![R, n]⟩ : Shape).ShapeCasts ⟨2, ![R, n]⟩) (p : Fin R) (l : Fin n) :
    widenW (andi (bitcast ⟨2, ![r, n]⟩ 32 v h) (broadcast ⟨2, ![r, n]⟩ 4042322160#32))
      s h' hs hb ht hc (ValueIdx.ix2 p l) = nibE true (v (ValueIdx.ix2 p l)) * s (ValueIdx.ix2 0 l) :=
  widenW_apply _ s h' hs hb ht hc p l _ (by
    rw [byte_hi hR v h h' p l (andi (bitcast ⟨2, ![r, n]⟩ 32 v h) (broadcast ⟨2, ![r, n]⟩ 4042322160#32)) fun i => rfl,
      byte_hi_toInt])

/-- The words shifted by nothing (the high halves, where the shift is a variable). -/
theorem widen_hi0 {R r n : Nat} (hR : R = 4 * r) (v : IVec ⟨2, ![R, n]⟩ 8) (s : FVec Ideal ⟨2, ![1, n]⟩ .f32)
    (h : (⟨2, ![R, n]⟩ : Shape).Bitcasts 8 ⟨2, ![r, n]⟩ 32) (h' : (⟨2, ![r, n]⟩ : Shape).Bitcasts 32 ⟨2, ![R, n]⟩ 8)
    (hs : (⟨2, ![1, n]⟩ : Shape).ShapeCasts ⟨2, ![1, n]⟩) (hb : (⟨2, ![1, n]⟩ : Shape).Broadcasts ⟨2, ![R, n]⟩)
    (ht : FTy.bf16.bits < FTy.f32.bits) (hc : (⟨2, ![R, n]⟩ : Shape).ShapeCasts ⟨2, ![R, n]⟩) (p : Fin R) (l : Fin n) :
    widenW (andi (shli (bitcast ⟨2, ![r, n]⟩ 32 v h) (broadcast ⟨2, ![r, n]⟩ 0#32)) (broadcast ⟨2, ![r, n]⟩ 4042322160#32))
      s h' hs hb ht hc (ValueIdx.ix2 p l) = nibE true (v (ValueIdx.ix2 p l)) * s (ValueIdx.ix2 0 l) :=
  widenW_apply _ s h' hs hb ht hc p l _ (by
    rw [byte_hi hR v h h' p l (andi (shli (bitcast ⟨2, ![r, n]⟩ 32 v h) (broadcast ⟨2, ![r, n]⟩ 0#32)) (broadcast ⟨2, ![r, n]⟩ 4042322160#32)) fun i => by
      show (bitcast ⟨2, ![r, n]⟩ 32 v h i <<< (0 : Nat)) &&& 4042322160#32 = _
      rw [BitVec.shiftLeft_zero], byte_hi_toInt])

/-- Row `y 0`, column `y 1` of weights unpacked from bytes `w`, one row of scales `s` per 128 rows. -/
def wval {N G n : Nat} (hi : Bool) (w : IVec ⟨2, ![N, n]⟩ 8) (s : FVec Ideal ⟨2, ![G, n]⟩ .f32) (hN : N ≤ 128 * G)
    (y : (⟨2, ![N, n]⟩ : Shape).Idx) : EReal :=
  nibE hi (w y) * s (ValueIdx.ix2 ⟨(y 0).val / 128, by have := (y 0).isLt; change (y 0).val < N at this; omega⟩ (y 1))

/-- Row `k`, column `c` of weights held two rows to a byte: rows below `H` in the low halves, the others in the high
    halves; one row of scales per 128 rows. -/
def wat {N G n : Nat} (H : Nat) (w : (⟨2, ![N, n]⟩ : Shape).Idx → BitVec 8) (s : (⟨2, ![G, n]⟩ : Shape).Idx → EReal) (k c : Nat) : EReal :=
  nibE (decide (H ≤ k)) (at2 w (k % H) c) * at2 s (k / 128) c

/-- One group of 128 rows, shifted by a variable word: its rows of the unpacked weights. -/
theorem group_var {N G n : Nat} (hi : Bool) (w : IVec ⟨2, ![N, n]⟩ 8) (s : FVec Ideal ⟨2, ![G, n]⟩ .f32) (hN : N ≤ 128 * G)
    (sh : BitVec 32) (hsh : sh = if hi then 0#32 else 4#32) (o k : Nat) (ho : o = 128 * k)
    (inb : ∀ a, (![o, 0] : Fin 2 → Nat) a + (![128, n] : Fin 2 → Nat) a ≤ (⟨2, ![N, n]⟩ : Shape).size a)
    (inb' : ∀ a, (![k, 0] : Fin 2 → Nat) a + (![1, n] : Fin 2 → Nat) a ≤ (⟨2, ![G, n]⟩ : Shape).size a)
    (h : (⟨2, ![128, n]⟩ : Shape).Bitcasts 8 ⟨2, ![32, n]⟩ 32) (h' : (⟨2, ![32, n]⟩ : Shape).Bitcasts 32 ⟨2, ![128, n]⟩ 8)
    (hs : (⟨2, ![1, n]⟩ : Shape).ShapeCasts ⟨2, ![1, n]⟩) (hb : (⟨2, ![1, n]⟩ : Shape).Broadcasts ⟨2, ![128, n]⟩)
    (ht : FTy.bf16.bits < FTy.f32.bits) (hc : (⟨2, ![128, n]⟩ : Shape).ShapeCasts ⟨2, ![128, n]⟩)
    (x : (⟨2, ![128, n]⟩ : Shape).Idx) :
    widenW (andi (shli (bitcast ⟨2, ![32, n]⟩ 32 (fun i => w ((Rect.unit (s := ⟨2, ![N, n]⟩) ![o, 0] ![128, n] inb).emb i) : IVec ⟨2, ![128, n]⟩ 8) h)
        (broadcast ⟨2, ![32, n]⟩ sh)) (broadcast ⟨2, ![32, n]⟩ 4042322160#32))
      (fun i => s ((Rect.unit (s := ⟨2, ![G, n]⟩) ![k, 0] ![1, n] inb').emb i) : FVec Ideal ⟨2, ![1, n]⟩ .f32) h' hs hb ht hc x
      = wval hi w s hN ((Rect.unit (s := ⟨2, ![N, n]⟩) ![o, 0] ![128, n] inb).emb x) := by
  obtain ⟨p, l, rfl⟩ : ∃ (p : Fin 128) (l : Fin n), x = ValueIdx.ix2 p l :=
    ⟨x 0, x 1, by funext a; match a with | ⟨0, _⟩ => rfl | ⟨1, _⟩ => rfl⟩
  have key : widenW (andi (shli (bitcast ⟨2, ![32, n]⟩ 32 (fun i => w ((Rect.unit (s := ⟨2, ![N, n]⟩) ![o, 0] ![128, n] inb).emb i) : IVec ⟨2, ![128, n]⟩ 8) h)
        (broadcast ⟨2, ![32, n]⟩ sh)) (broadcast ⟨2, ![32, n]⟩ 4042322160#32))
      (fun i => s ((Rect.unit (s := ⟨2, ![G, n]⟩) ![k, 0] ![1, n] inb').emb i) : FVec Ideal ⟨2, ![1, n]⟩ .f32) h' hs hb ht hc (ValueIdx.ix2 p l)
      = nibE hi (w ((Rect.unit (s := ⟨2, ![N, n]⟩) ![o, 0] ![128, n] inb).emb (ValueIdx.ix2 p l)))
        * s ((Rect.unit (s := ⟨2, ![G, n]⟩) ![k, 0] ![1, n] inb').emb (ValueIdx.ix2 0 l)) := by
    cases hi with
    | false => subst hsh; exact widen_lo (by norm_num) _ _ h h' hs hb ht hc _ _
    | true => subst hsh; exact widen_hi0 (by norm_num) _ _ h h' hs hb ht hc _ _
  rw [key]
  unfold wval
  congr 2
  have h128 := p.isLt
  funext a
  match a with
  | ⟨0, _⟩ => apply Fin.ext; show k + 1 * 0 = (o + 1 * p.val) / 128; omega
  | ⟨1, _⟩ => apply Fin.ext; show 0 + 1 * l.val = 0 + 1 * l.val; rfl

/-- A buffer written in pieces that tile it, each piece its part of one array `G`, reads back whole as `G`. -/
theorem read_pieces {sig : RefSig} {κ : Kind} {sp : Space} {S : Shape} {e : EltTy} (v : View sig κ sp S e)
    (L : List (View.Piece (Elt Ideal) S e)) {off : Fin S.rank → Nat} (hz : off = fun _ => 0)
    (inb : ∀ a, off a + S.size a ≤ S.size a) (size : Fin S.rank → Nat) (ht : View.Piece.tiledL L size = true)
    (G : S.Idx → Elt Ideal e) (h : View.PiecesOf G L) : v.readCov L (Rect.unit off S.size inb).toLoadRect = G := by
  have hc := View.cover_of_tiledL L size ht
  refine (View.readCov_eq_canon_ld v L _ hc).trans ?_
  rw [View.ld_unit_zero hz]
  funext y
  exact View.canon_apply_of_pieces G L h.mem y (hc y)

theorem hz2 : (![0, 0] : Fin 2 → Nat) = fun _ => 0 := funext fun a => by fin_cases a <;> rfl

/-! ## The references' reading -/

theorem ref_lo_toInt : ∀ b : BitVec 8,
    (Scalar.select (Scalar.cmpi .sge (IntOp.andi (b.setWidth 32) 15#32) 8#32)
      (IntOp.subi (IntOp.andi (b.setWidth 32) 15#32) 16#32) (IntOp.andi (b.setWidth 32) 15#32)).toInt = nib false b := by
  decide +kernel

theorem ref_hi_toInt : ∀ b : BitVec 8,
    (Scalar.select (Scalar.cmpi .sge (IntOp.shrsi .vector (b.setWidth 32) 4#32) 8#32)
      (IntOp.subi (IntOp.shrsi .vector (b.setWidth 32) 4#32) 16#32) (IntOp.shrsi .vector (b.setWidth 32) 4#32)).toInt = nib true b := by
  decide +kernel

end Cert.W4
-- ==== Proof.DownKernel.lean ====
/-
  The down projection kernel read over the extended reals: the weights each point unpacks, the product it accumulates over
  the fourteen column blocks of a row block, and the arrays its two results end as (`final4`, `final5`).
-/
module

public import proofs.«01_k».proof.Proof.Nibble
public import proofs.«01_k».proof.Proof.Gen.DownIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownIdeal.Val

open Cert.DownIdeal Cert.DownIdeal.Gen

variable (m : (ℓ : Loc nD τ sig) → Buf (Elt Ideal) ℓ)

/-- Which half of the bytes point `t` reads: the low half for the first seven blocks of the contraction. -/
def hi (t : Fin cfg0.N) : Bool := decide (7 ≤ t.val % 14)

theorem shift_word : ∀ t : Fin cfg0.N,
    Scalar.select (Scalar.cmpi CmpIPredicate.slt (BitVec.ofNat 32 ↑(grid0.coords t 1)) 7#32) 4#32 0#32
      = if hi t then 0#32 else 4#32 := (by decide +kernel : ∀ t : Fin grid0.N, _)

/-- The weights point `t` unpacks into its scratch. -/
def wblk (c : Dev nD) (t : Fin cfg0.N) : Vec Ideal S1024x3584 .bf16 :=
  W4.wval (hi t) (iblk m c 2 t : Vec Ideal S1024x3584 .i8) (iblk m c 3 t : Vec Ideal S8x3584 .f32) (by decide)

theorem wblk_pieces (c : Dev nD) (t : Fin cfg0.N) (sh : BitVec 32) (hsh : sh = if hi t then 0#32 else 4#32)
    (o k : Nat) (ho : o = 128 * k)
    (inb : ∀ a, (![o, 0] : Fin 2 → Nat) a + S128x3584.size a ≤ S1024x3584.size a)
    (inb' : ∀ a, (![k, 0] : Fin 2 → Nat) a + S1x3584.size a ≤ S8x3584.size a) (x : S128x3584.Idx) :
    k0_pay9 sh (View.ld (iblk m c 2 t) (Rect.unit (s := S1024x3584) ![o, 0] S128x3584.size inb))
      (View.ld (iblk m c 3 t) (Rect.unit (s := S8x3584) ![k, 0] S1x3584.size inb')) x
      = wblk m c t ((Rect.unit (s := S1024x3584) ![o, 0] S128x3584.size inb).emb x) :=
  W4.group_var (hi t) (iblk m c 2 t : Vec Ideal S1024x3584 .i8) (iblk m c 3 t : Vec Ideal S8x3584 .f32) (by decide) sh hsh o k ho inb inb' _ _ _ _ _ _ x

/-- The first point of a row block: the sum starts at zero. -/
theorem A5 (c : Dev nD) (t : Fin cfg0.N) (h0 : t.val % 14 = 0) (h1 : ¬t.val % 14 = 13) :
    (outsAt0 m c t.val t.isLt).2 = k0_pay4 (iblk m c 0 t) (iblk m c 1 t) (k0_pay3 (F := Ideal)) (wblk m c t) := by
  rw [outsAt0_A m c t h0 h1]
  dsimp only
  frame_out
  refine congrArg (k0_pay4 _ _ _) (W4.read_pieces (S := S1024x3584) _ _ W4.hz2 _ S128x3584.size ?_ (wblk m c t) ?_)
  · sl_kernel_rfl
  exact ⟨wblk_pieces m c t _ (shift_word t) 896 7 rfl _ _, wblk_pieces m c t _ (shift_word t) 768 6 rfl _ _,
    wblk_pieces m c t _ (shift_word t) 640 5 rfl _ _, wblk_pieces m c t _ (shift_word t) 512 4 rfl _ _,
    wblk_pieces m c t _ (shift_word t) 384 3 rfl _ _, wblk_pieces m c t _ (shift_word t) 256 2 rfl _ _,
    wblk_pieces m c t _ (shift_word t) 128 1 rfl _ _, wblk_pieces m c t _ (shift_word t) 0 0 rfl _ _, trivial⟩

/-- A point between: one more block of the contraction. -/
theorem B5 (c : Dev nD) (t : Fin cfg0.N) (h0 : ¬t.val % 14 = 0) (h1 : ¬t.val % 14 = 13) :
    (outsAt0 m c t.val t.isLt).2 = k0_pay4 (iblk m c 0 t) (iblk m c 1 t) (outsAt0 m c (t.val - 1) (Nat.lt_of_le_of_lt (Nat.sub_le _ _) t.isLt)).2 (wblk m c t) := by
  rw [outsAt0_B m c t h0 h1]
  dsimp only
  frame_out
  refine congrArg (k0_pay4 _ _ _) (W4.read_pieces (S := S1024x3584) _ _ W4.hz2 _ S128x3584.size ?_ (wblk m c t) ?_)
  · sl_kernel_rfl
  exact ⟨wblk_pieces m c t _ (shift_word t) 896 7 rfl _ _, wblk_pieces m c t _ (shift_word t) 768 6 rfl _ _,
    wblk_pieces m c t _ (shift_word t) 640 5 rfl _ _, wblk_pieces m c t _ (shift_word t) 512 4 rfl _ _,
    wblk_pieces m c t _ (shift_word t) 384 3 rfl _ _, wblk_pieces m c t _ (shift_word t) 256 2 rfl _ _,
    wblk_pieces m c t _ (shift_word t) 128 1 rfl _ _, wblk_pieces m c t _ (shift_word t) 0 0 rfl _ _, trivial⟩

/-- The last point of a row block: the last block of the contraction, then the rows' scales. -/
theorem C5 (c : Dev nD) (t : Fin cfg0.N) (h0 : ¬t.val % 14 = 0) (h1 : t.val % 14 = 13) :
    (outsAt0 m c t.val t.isLt).2 = k0_pay5 (k0_pay4 (iblk m c 0 t) (iblk m c 1 t) (outsAt0 m c (t.val - 1) (Nat.lt_of_le_of_lt (Nat.sub_le _ _) t.isLt)).2 (wblk m c t)) (iblk m c 1 t) := by
  rw [outsAt0_C m c t h0 h1]
  dsimp only
  frame_out
  refine congrArg (fun w => k0_pay5 (k0_pay4 _ _ _ w) _) (W4.read_pieces (S := S1024x3584) _ _ W4.hz2 _ S128x3584.size ?_ (wblk m c t) ?_)
  · sl_kernel_rfl
  exact ⟨wblk_pieces m c t _ (shift_word t) 896 7 rfl _ _, wblk_pieces m c t _ (shift_word t) 768 6 rfl _ _,
    wblk_pieces m c t _ (shift_word t) 640 5 rfl _ _, wblk_pieces m c t _ (shift_word t) 512 4 rfl _ _,
    wblk_pieces m c t _ (shift_word t) 384 3 rfl _ _, wblk_pieces m c t _ (shift_word t) 256 2 rfl _ _,
    wblk_pieces m c t _ (shift_word t) 128 1 rfl _ _, wblk_pieces m c t _ (shift_word t) 0 0 rfl _ _, trivial⟩

/-- Every point leaves the codes of its block. -/
theorem codes (c : Dev nD) (t : Fin cfg0.N) : (outsAt0 m c t.val t.isLt).1 = k0_pay2 (iblk m c 0 t) (iblk m c 1 t) := by
  by_cases h0 : t.val % 14 = 0
  · rw [outsAt0_A m c t h0 (by omega)]
    dsimp only
    frame_out
  · by_cases h1 : t.val % 14 = 13
    · rw [outsAt0_C m c t h0 h1]
      dsimp only
      frame_out
    · rw [outsAt0_B m c t h0 h1]
      dsimp only
      frame_out

/-! ## The blocks -/

theorem idx : ∀ t : Fin cfg0.N, win0_0.index t = ![t.val / 14, t.val % 14] ∧ win0_1.index t = ![t.val / 14, 0]
    ∧ win0_2.index t = ![t.val % 14 % 7, 0] ∧ win0_3.index t = ![t.val % 14, 0]
    ∧ win0_4.index t = ![t.val / 14, t.val % 14] ∧ win0_5.index t = ![t.val / 14, 0] :=
  (by decide +kernel : ∀ t : Fin grid0.N, _)

/-- The arguments, read at natural-number positions. -/
abbrev A0 (c : Dev nD) : S3072x14336.Idx → EReal := m ((c : Thread nD τ).loc main_arg0)
abbrev A1 (c : Dev nD) : S3072x1.Idx → EReal := m ((c : Thread nD τ).loc main_arg1)
abbrev A2 (c : Dev nD) : S7168x3584.Idx → BitVec 8 := m ((c : Thread nD τ).loc main_arg2)
abbrev A3 (c : Dev nD) : S112x3584.Idx → EReal := m ((c : Thread nD τ).loc main_arg3)

theorem blk0 (c : Dev nD) (t : Fin cfg0.N) (x : S1024x1024.Idx) :
    (iblk m c 0 t : Vec Ideal S1024x1024 .f32) x = W4.at2 (A0 m c) (1024 * (t.val / 14) + (x 0).val) (1024 * (t.val % 14) + (x 1).val) := by
  blk_simp [iblk, V, idx t]
  refine W4.at2_eq (A0 m c) _ _ _ ?_ ?_ <;> blk_simp [idx t] <;> omega

theorem blk1 (c : Dev nD) (t : Fin cfg0.N) (x : S1024x1.Idx) :
    (iblk m c 1 t : Vec Ideal S1024x1 .f32) x = W4.at2 (A1 m c) (1024 * (t.val / 14) + (x 0).val) 0 := by
  have h1 : (x 1).val < 1 := (x 1).isLt
  blk_simp [iblk, V, idx t]
  refine W4.at2_eq (A1 m c) _ _ _ ?_ ?_ <;> blk_simp [idx t] <;> omega

theorem blk2 (c : Dev nD) (t : Fin cfg0.N) (x : S1024x3584.Idx) :
    (iblk m c 2 t : Vec Ideal S1024x3584 .i8) x = W4.at2 (A2 m c) (1024 * (t.val % 14 % 7) + (x 0).val) (x 1).val := by
  blk_simp [iblk, V, idx t]
  refine W4.at2_eq (A2 m c) _ _ _ ?_ ?_ <;> blk_simp [idx t] <;> omega

theorem blk3 (c : Dev nD) (t : Fin cfg0.N) (x : S8x3584.Idx) :
    (iblk m c 3 t : Vec Ideal S8x3584 .f32) x = W4.at2 (A3 m c) (8 * (t.val % 14) + (x 0).val) (x 1).val := by
  blk_simp [iblk, V, idx t]
  refine W4.at2_eq (A3 m c) _ _ _ ?_ ?_ <;> blk_simp [idx t] <;> omega

/-- The unpacked weights, read off the arrays. -/
theorem wblk_apply (c : Dev nD) (t : Fin cfg0.N) (k : Fin 1024) (l : Fin 3584) :
    wblk m c t (ValueIdx.ix2 k l) = W4.wat 7168 (A2 m c) (A3 m c) (1024 * (t.val % 14) + k.val) l.val := by
  have hk := k.isLt
  unfold wblk W4.wval W4.wat
  rw [blk2, blk3]
  have e1 : hi t = decide (7168 ≤ 1024 * (t.val % 14) + k.val) := by
    unfold hi; congr 1; apply propext; omega
  rw [e1]
  have e2 : 1024 * (t.val % 14 % 7) + k.val = (1024 * (t.val % 14) + k.val) % 7168 := by omega
  have e3 : 8 * (t.val % 14) + k.val / 128 = (1024 * (t.val % 14) + k.val) / 128 := by omega
  show W4.nibE _ (W4.at2 _ (1024 * (t.val % 14 % 7) + k.val) l.val) * W4.at2 _ (8 * (t.val % 14) + k.val / 128) l.val = _
  rw [e2, e3]

/-- The code at row `R`, position `k`, as the kernel works it out. -/
def code (c : Dev nD) (R k : ℕ) : EReal := W4.q8 (W4.at2 (A0 m c) R k * Ideal.div 1 (W4.at2 (A1 m c) R 0))

theorem pay1_apply (c : Dev nD) (t : Fin cfg0.N) (p : Fin 1024) (k : Fin 1024) :
    k0_pay1 (F := Ideal) (iblk m c 0 t) (iblk m c 1 t) (ValueIdx.ix2 p k)
      = code m c (1024 * (t.val / 14) + p.val) (1024 * (t.val % 14) + k.val) := by
  unfold k0_pay1 code W4.q8
  pointwise
  rw [W4.ofBits_127, W4.ofBits_neg127, blk0, blk1]
  rfl

/-- One summand of the contraction. -/
def T (c : Dev nD) (R C k : ℕ) : EReal := code m c R k * W4.wat 7168 (A2 m c) (A3 m c) k C

theorem step_apply (c : Dev nD) (t : Fin cfg0.N) (xo : Vec Ideal S1024x3584 .f32) (p : Fin 1024) (l : Fin 3584) :
    k0_pay4 (iblk m c 0 t) (iblk m c 1 t) xo (wblk m c t) (ValueIdx.ix2 p l)
      = xo (ValueIdx.ix2 p l) + ∑ k ∈ Finset.range 1024, T m c (1024 * (t.val / 14) + p.val) l.val (1024 * (t.val % 14) + k) := by
  unfold k0_pay4
  show shapeCast S1024x3584 xo _ (ValueIdx.ix2 p l) + _ = _
  rw [shapeCast_self]
  refine congrArg (xo (ValueIdx.ix2 p l) + ·) (W4.matmul_range (φ₁ := .bf16) (φ₂ := .bf16) none (k0_pay1 (F := Ideal) (iblk m c 0 t) (iblk m c 1 t))
    (wblk m c t) p l (fun k => T m c (1024 * (t.val / 14) + p.val) l.val (1024 * (t.val % 14) + k)) fun k => ?_)
  rw [pay1_apply, wblk_apply]
  rfl

/-- After a point that is not the last of its row block: the sum over the blocks so far. -/
theorem partial_sum (c : Dev nD) (n : ℕ) (hn : n < cfg0.N) (h : n % 14 ≠ 13) (p : Fin 1024) (l : Fin 3584) :
    ((outsAt0 m c n hn).2 (ValueIdx.ix2 p l) : EReal)
      = ∑ k ∈ Finset.range (1024 * (n % 14 + 1)), T m c (1024 * (n / 14) + p.val) l.val k := by
  induction n with
  | zero =>
    rw [A5 m c ⟨0, hn⟩ rfl (by simp), step_apply]
    show Ideal.ofBits .f32 0x00000000#32 + _ = _
    rw [Ideal.ofBits_zero_f32, zero_add]
    simp
  | succ n ih =>
    by_cases h0 : (n + 1) % 14 = 0
    · rw [A5 m c ⟨n + 1, hn⟩ h0 h, step_apply]
      show Ideal.ofBits .f32 0x00000000#32 + _ = _
      rw [Ideal.ofBits_zero_f32, zero_add]
      simp [h0]
    · rw [B5 m c ⟨n + 1, hn⟩ h0 h, step_apply]
      show (outsAt0 m c n _).2 _ + _ = _
      rw [ih (Nat.lt_of_succ_lt hn) (by omega)]
      have e1 : (n + 1) / 14 = n / 14 := by omega
      have e2 : (n + 1) % 14 = n % 14 + 1 := by omega
      show _ + ∑ k ∈ Finset.range 1024, T m c (1024 * ((n + 1) / 14) + p.val) l.val (1024 * ((n + 1) % 14) + k) = _
      rw [e1, e2, show 1024 * (n % 14 + 1 + 1) = 1024 * (n % 14 + 1) + 1024 by ring, Finset.sum_range_add]

/-- After the last point of a row block: the whole contraction times the row's scale. -/
theorem last_sum (c : Dev nD) (t : Fin cfg0.N) (h : t.val % 14 = 13) (p : Fin 1024) (l : Fin 3584) :
    ((outsAt0 m c t.val t.isLt).2 (ValueIdx.ix2 p l) : EReal)
      = (∑ k ∈ Finset.range 14336, T m c (1024 * (t.val / 14) + p.val) l.val k) * W4.at2 (A1 m c) (1024 * (t.val / 14) + p.val) 0 := by
  rw [C5 m c t (by omega) h]
  unfold k0_pay5
  pointwise
  rw [blk1, step_apply, partial_sum m c (t.val - 1) _ (by omega)]
  have e1 : (t.val - 1) / 14 = t.val / 14 := by omega
  have e2 : (t.val - 1) % 14 + 1 = 13 := by omega
  rw [e1, e2, h, ← Finset.sum_range_add]
  rfl

/-! ## The result arrays -/

/-- The codes. -/
def G4 (c : Dev nD) : S3072x14336.Idx → BitVec 8 := fun x => Ideal.fptosi 8 (code m c (x 0).val (x 1).val)

/-- The product. -/
def G5 (c : Dev nD) : S3072x3584.Idx → EReal := fun x =>
  (∑ k ∈ Finset.range 14336, T m c (x 0).val (x 1).val k) * W4.at2 (A1 m c) (x 0).val 0

theorem final4 (c : Dev nD) : (dats m 0 c).arrAt 4 cfg0.N = G4 m c := by
  refine (dats m 0 c).arrAt_eq_of_covers 4 _ (by decide +kernel) fun t hf y => ?_
  blk_simp
  rw [after0_4, codes]
  obtain ⟨p, l, hy⟩ := W4.ix2_surj (a := 1024) (b := 1024) y
  subst hy
  refine (congrArg (Ideal.fptosi 8) (pay1_apply m c t p l)).trans ?_
  unfold G4
  have h0 : (ValueIdx.ix2 p l 0).val = p.val := rfl
  have h1 : (ValueIdx.ix2 p l 1).val = l.val := rfl
  congr 2 <;> blk_simp [idx t] <;> omega

theorem final5 (c : Dev nD) : (dats m 0 c).arrAt 5 cfg0.N = G5 m c := by
  refine (dats m 0 c).arrAt_eq_of_covers 5 _ (by decide +kernel) fun t hf y => ?_
  have e0 : ((win0_5.blk t).view.emb y 0).val = 1024 * (t.val / 14) + (y 0).val := by blk_simp [idx t]; omega
  have e1 : ((win0_5.blk t).view.emb y 1).val = (y 1).val := by blk_simp [idx t]
  blk_simp
  rw [after0_5]
  show _ = (∑ k ∈ Finset.range 14336, T m c ((win0_5.blk t).view.emb y 0).val ((win0_5.blk t).view.emb y 1).val k)
    * W4.at2 (A1 m c) ((win0_5.blk t).view.emb y 0).val 0
  rw [e0, e1]
  obtain ⟨p, l, hy⟩ := W4.ix2_surj (a := 1024) (b := 3584) y
  subst hy
  exact last_sum m c t ((flush0_5 t).mp hf) p l

end Cert.DownIdeal.Val
-- ==== Proof.DownRef.lean ====
/-
  The down projection reference read over the extended reals: its codes and its product at an index (`G4_apply`, `G5_apply`).
-/
module

public import proofs.«01_k».proof.Proof.Nibble
public import proofs.«01_k».proof.Proof.Gen.DownRefIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.DownRefIdeal.Val

open Cert.DownRefIdeal Cert.DownRefIdeal.Gen

/-- The code at row `R`, position `k`. -/
def code (a0 : S3072x14336.Idx → EReal) (a1 : S3072x1.Idx → EReal) (R k : ℕ) : EReal := W4.q8 (Ideal.div (W4.at2 a0 R k) (W4.at2 a1 R 0))

theorem G4_apply (a0 : Vec Ideal S3072x14336 .f32) (a1 : Vec Ideal S3072x1 .f32) (a2 : Vec Ideal S7168x3584 .i8)
    (a3 : Vec Ideal S112x3584 .f32) (x : S3072x14336.Idx) : Value.G4 a0 a1 a2 a3 x = Ideal.fptosi 8 (code a0 a1 (x 0).val (x 1).val) := by
  show k0_pay2 a0 a1 x = _
  unfold k0_pay2 code W4.q8
  pointwise
  rw [W4.sitofp_127, W4.sitofp_neg127]
  refine congrArg (fun v => Ideal.fptosi 8 (min (((127 : ℝ)) : EReal) (max (((-127 : ℝ)) : EReal) (Ideal.liftRound Ideal.roundHalfEven v)))) ?_
  exact congrArg₂ Ideal.div (W4.at2_eq a0 x _ _ rfl rfl) (W4.at2_eq a1 _ (x 0).val 0 rfl rfl)

/-- The codes read back as numbers. -/
theorem pay3_apply (a0 : Vec Ideal S3072x14336 .f32) (a1 : Vec Ideal S3072x1 .f32) (x : S3072x14336.Idx) :
    k0_pay3 a0 a1 x = code a0 a1 (x 0).val (x 1).val := by
  show (((k0_pay2 a0 a1 x).toInt : ℝ) : EReal) = _
  rw [show k0_pay2 a0 a1 x = Ideal.fptosi 8 (code a0 a1 (x 0).val (x 1).val) from G4_apply a0 a1 (fun _ => 0) (fun _ => 0) x]
  exact W4.sitofp_fptosi_q8 _

/-- One summand of the contraction. -/
def T (a0 : S3072x14336.Idx → EReal) (a1 : S3072x1.Idx → EReal) (a2 : S7168x3584.Idx → BitVec 8) (a3 : S112x3584.Idx → EReal)
    (R C k : ℕ) : EReal := code a0 a1 R k * W4.wat 7168 a2 a3 k C

theorem pay5_apply (a0 : Vec Ideal S3072x14336 .f32) (a1 : Vec Ideal S3072x1 .f32) (a2 : Vec Ideal S7168x3584 .i8)
    (a3 : Vec Ideal S112x3584 .f32) (p : Fin 3072) (l : Fin 3584) :
    k0_pay5 a0 a1 a2 a3 (ValueIdx.ix2 p l) = ∑ k ∈ Finset.range 7168, T a0 a1 a2 a3 p.val l.val k := by
  unfold k0_pay5 k0_pay4
  refine W4.matmul_range (φ₁ := .bf16) (φ₂ := .bf16) none _ _ p l (fun k => T a0 a1 a2 a3 p.val l.val k) fun k => ?_
  pointwise
  refine (congrArg₂ (HMul.hMul (α := EReal)) (pay3_apply a0 a1 _) (congrArg₂ (HMul.hMul (α := EReal))
    (congrArg (fun n : ℤ => ((n : ℝ) : EReal)) (W4.ref_lo_toInt _)) (W4.at2_eq a3 _ (k.val / 128) l.val rfl rfl))).trans ?_
  show code a0 a1 p.val k.val * (W4.nibE false (a2 (ValueIdx.ix2 k l)) * _)
    = code a0 a1 p.val k.val * (W4.nibE (decide (7168 ≤ k.val)) (W4.at2 a2 (k.val % 7168) l.val) * _)
  rw [decide_eq_false (by omega), Nat.mod_eq_of_lt k.isLt, W4.at2_ix2 a2]

theorem G5_apply (a0 : Vec Ideal S3072x14336 .f32) (a1 : Vec Ideal S3072x1 .f32) (a2 : Vec Ideal S7168x3584 .i8)
    (a3 : Vec Ideal S112x3584 .f32) (p : Fin 3072) (l : Fin 3584) :
    Value.G5 a0 a1 a2 a3 (ValueIdx.ix2 p l)
      = (∑ k ∈ Finset.range 14336, T a0 a1 a2 a3 p.val l.val k) * W4.at2 a1 p.val 0 := by
  show k0_pay1 a1 (k0_pay5 a0 a1 a2 a3) (k0_pay6 a0 a1) (k0_pay7 a2) (k0_pay8 a3) k0_pay9 (ValueIdx.ix2 p l) = _
  unfold k0_pay1 k0_pay6 k0_pay7 k0_pay8 k0_pay9 k0_pay4
  refine congrArg₂ (HMul.hMul (α := EReal)) ?_ (W4.at2_eq a1 _ p.val 0 rfl rfl)
  rw [show (14336 : ℕ) = 7168 + 7168 from rfl, Finset.sum_range_add, ← pay5_apply]
  refine congrArg (k0_pay5 a0 a1 a2 a3 (ValueIdx.ix2 p l) + ·) ?_
  refine W4.matmul_range (φ₁ := .bf16) (φ₂ := .bf16) none _ _ p l (fun k => T a0 a1 a2 a3 p.val l.val (7168 + k)) fun k => ?_
  pointwise
  refine (congrArg₂ (HMul.hMul (α := EReal)) (pay3_apply a0 a1 _) (congrArg₂ (HMul.hMul (α := EReal))
    (congrArg (fun n : ℤ => ((n : ℝ) : EReal)) (W4.ref_hi_toInt _)) (W4.at2_eq a3 _ (56 + k.val / 128) l.val rfl rfl))).trans ?_
  show code a0 a1 p.val (7168 + k.val) * (W4.nibE true (a2 (ValueIdx.ix2 k l)) * _)
    = code a0 a1 p.val (7168 + k.val) * (W4.nibE (decide (7168 ≤ 7168 + k.val)) (W4.at2 a2 ((7168 + k.val) % 7168) l.val) * W4.at2 a3 ((7168 + k.val) / 128) l.val)
  have hk := k.isLt
  rw [decide_eq_true (by omega), show (7168 + k.val) % 7168 = k.val by omega, show (7168 + k.val) / 128 = 56 + k.val / 128 by omega, W4.at2_ix2 a2]

end Cert.DownRefIdeal.Val
-- ==== Proof.DownClaim.lean ====
/- The claim about the down projection: kernel and reference end with the same codes and the same product, at every
   argument whose row scales are nonzero (the kernel multiplies by a row scale's reciprocal where the reference divides
   by the scale, and over the reals the two differ at zero only). -/
module

public import proofs.«01_k».proof.Defs
public import proofs.«01_k».proof.Proof.Gen.Pre_ok_scale
public import proofs.«01_k».proof.Proof.DownKernel
public import proofs.«01_k».proof.Proof.DownRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownClaim

attribute [local instance] Cert.Pre_ok_scale.Gen.facts

/-- The precondition read at one row: that row's scale is not zero. -/
theorem scale_ne (a0 : Vec Ideal Cert.DownIdeal.S3072x14336 .f32) (a1 : Vec Ideal Cert.DownIdeal.S3072x1 .f32)
    (a2 : Vec Ideal Cert.DownIdeal.S7168x3584 .i8) (a3 : Vec Ideal Cert.DownIdeal.S112x3584 .f32)
    (h : Cert.Pre_ok_scale.fn (F := Ideal) a0 a1 a2 a3 = fun _ => 1#1) (R : ℕ) (hR : R < 3072) : W4.at2 a1 R 0 ≠ 0 := by
  have h1 := congrFun h (ValueIdx.ix2 ⟨R, hR⟩ 0)
  unfold Cert.Pre_ok_scale.fn at h1
  rw [← W4.at2_eq a1 (ValueIdx.ix2 ⟨R, hR⟩ 0) R 0 rfl rfl]
  intro h0
  revert h1
  simp [cmpf, broadcastInDim, constant, FloatOps.cmpf, Ideal.cmp, h0]

variable (m : (ℓ : Loc Cert.DownIdeal.nD Cert.DownIdeal.τ Cert.DownIdeal.sig) → Buf (Elt Ideal) ℓ)

open Cert.DownIdeal.Val

theorem code_eq (c : Dev Cert.DownIdeal.nD) (hs : ∀ R < 3072, W4.at2 (A1 m c) R 0 ≠ 0) (R k : ℕ) (hR : R < 3072) :
    code m c R k = Cert.DownRefIdeal.Val.code (A0 m c) (A1 m c) R k := by
  unfold code Cert.DownRefIdeal.Val.code
  rw [W4.mul_recip _ _ (hs R hR)]

/-- The codes agree. -/
theorem codes_eq (c : Dev Cert.DownIdeal.nD) (hs : ∀ R < 3072, W4.at2 (A1 m c) R 0 ≠ 0) :
    Cert.DownRefIdeal.Value.G4 (F := Ideal) (A0 m c) (A1 m c) (A2 m c) (A3 m c) = G4 m c :=
  funext fun x => by
    rw [Cert.DownRefIdeal.Val.G4_apply]
    unfold G4
    rw [code_eq m c hs _ _ (x 0).isLt]

/-- The products agree. -/
theorem product_eq (c : Dev Cert.DownIdeal.nD) (hs : ∀ R < 3072, W4.at2 (A1 m c) R 0 ≠ 0) :
    Cert.DownRefIdeal.Value.G5 (F := Ideal) (A0 m c) (A1 m c) (A2 m c) (A3 m c) = G5 m c :=
  funext fun x => by
    obtain ⟨p, l, rfl⟩ := W4.ix2_surj x
    rw [Cert.DownRefIdeal.Val.G5_apply]
    refine congrArg₂ (HMul.hMul (α := EReal)) (Finset.sum_congr rfl fun k _ => ?_) rfl
    unfold Cert.DownIdeal.Val.T Cert.DownRefIdeal.Val.T
    rw [code_eq m c hs _ _ p.isLt]

theorem algebraic : Cert.algebraic_DownIdeal_DownRefIdeal_pre_ok_scale := by
  intro m g m' g' hpre hagree
  refine ⟨fun c => G4 m c, fun c => G5 m c,
    (θ_run Cert.DownIdeal.defs _ _).mono (fun r h c => ?_) (Cert.DownIdeal.Value.run_blocks (F := Ideal) m g),
    (θ_run Cert.DownRefIdeal.defs _ _).mono (fun r h c => ?_) (Cert.DownRefIdeal.Value.run (F := Ideal) m' g')⟩
  · obtain ⟨h0, h1, hk⟩ := h c
    exact ⟨h0.trans (final4 m c), h1.trans (final5 m c), hk⟩
  · obtain ⟨h0, h1, hk⟩ := h c
    obtain ⟨e0, e1, e2, e3⟩ := hagree c
    have hs := scale_ne _ _ _ _ (hpre c)
    rw [e0, e1, e2, e3] at h0 h1
    exact ⟨h0.trans (codes_eq m c hs), h1.trans (product_eq m c hs), hk⟩

end Cert.DownClaim

end
-- ==== Proof.Proj.lean ====
/-
The steps the three projections (query, key, value) share, on arrays of their shapes: unpacking a whole 7168 × 1792 weight
block from 56 groups, the projected block read at an index, and the kernel's scale per head.
-/
module

public import proofs.«01_k».proof.Proof.Nibble
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.W4

/-! ## The weight block -/

/-- The whole unpacked block: row `k` of the low codes, then of the high ones, times its group's scale. -/
def wfull {N G R n : Nat} (H : Nat) (w : (⟨2, ![N, n]⟩ : Shape).Idx → BitVec 8) (s : (⟨2, ![G, n]⟩ : Shape).Idx → EReal) :
    (⟨2, ![R, n]⟩ : Shape).Idx → EReal := fun y => wat H w s (y 0).val (y 1).val

section Group
variable {N G R n : Nat} (w : IVec ⟨2, ![N, n]⟩ 8) (s : FVec Ideal ⟨2, ![G, n]⟩ .f32)
    (o O so k g : Nat)
    (inb : ∀ a, (![o, 0] : Fin 2 → Nat) a + (![128, n] : Fin 2 → Nat) a ≤ (⟨2, ![N, n]⟩ : Shape).size a)
    (inb' : ∀ a, (![so, 0] : Fin 2 → Nat) a + (![g, n] : Fin 2 → Nat) a ≤ (⟨2, ![G, n]⟩ : Shape).size a)
    (inb'' : ∀ a, (![O, 0] : Fin 2 → Nat) a + (![128, n] : Fin 2 → Nat) a ≤ (⟨2, ![R, n]⟩ : Shape).size a)
    (hsl : (⟨2, ![g, n]⟩ : Shape).Slices ![k, 0] ⟨2, ![1, n]⟩)
    (h : (⟨2, ![128, n]⟩ : Shape).Bitcasts 8 ⟨2, ![32, n]⟩ 32) (h' : (⟨2, ![32, n]⟩ : Shape).Bitcasts 32 ⟨2, ![128, n]⟩ 8)
    (hs : (⟨2, ![1, n]⟩ : Shape).ShapeCasts ⟨2, ![1, n]⟩) (hb : (⟨2, ![1, n]⟩ : Shape).Broadcasts ⟨2, ![128, n]⟩)
    (ht : FTy.bf16.bits < FTy.f32.bits) (hc : (⟨2, ![128, n]⟩ : Shape).ShapeCasts ⟨2, ![128, n]⟩)
    (x : (⟨2, ![128, n]⟩ : Shape).Idx)

include w s in
theorem group_eq (hi : Bool) (hO : O = if hi then N + o else o) (hk : O = 128 * (so + k)) (x : (⟨2, ![128, n]⟩ : Shape).Idx) :
    nibE hi (w ((Rect.unit (s := ⟨2, ![N, n]⟩) ![o, 0] ![128, n] inb).emb x))
      * extractStridedSlice ⟨2, ![1, n]⟩ ![k, 0] (fun i => s ((Rect.unit (s := ⟨2, ![G, n]⟩) ![so, 0] ![g, n] inb').emb i) : FVec Ideal ⟨2, ![g, n]⟩ .f32) hsl
          (ValueIdx.ix2 0 (x 1))
      = wfull (R := R) N w s ((Rect.unit (s := ⟨2, ![R, n]⟩) ![O, 0] ![128, n] inb'').emb x) := by
  obtain ⟨p, l, rfl⟩ := ix2_surj x
  have hp := p.isLt
  have ho : o + 128 ≤ N := by simpa using inb 0
  unfold wfull wat
  have e0 : (((Rect.unit (s := ⟨2, ![R, n]⟩) ![O, 0] ![128, n] inb'').emb (ValueIdx.ix2 p l)) 0).val = O + p.val := by
    show O + 1 * p.val = _; omega
  have e1 : (((Rect.unit (s := ⟨2, ![R, n]⟩) ![O, 0] ![128, n] inb'').emb (ValueIdx.ix2 p l)) 1).val = l.val := by
    show 0 + 1 * l.val = _; omega
  rw [e0, e1]
  have hd : decide (N ≤ O + p.val) = hi := by
    cases hi
    · simp only [Bool.false_eq_true, if_false] at hO
      exact decide_eq_false (by omega)
    · simp only [if_true] at hO
      exact decide_eq_true (by omega)
  have hm : (O + p.val) % N = o + p.val := by
    cases hi
    · simp only [Bool.false_eq_true, if_false] at hO
      rw [hO]; exact Nat.mod_eq_of_lt (by omega)
    · simp only [if_true] at hO
      rw [hO, Nat.add_assoc, Nat.add_mod_left]; exact Nat.mod_eq_of_lt (by omega)
  rw [hd, hm]
  refine congrArg₂ (HMul.hMul (α := EReal)) (congrArg (nibE hi) (at2_eq w _ _ _ ?_ ?_)) ?_
  · show o + 1 * p.val = _; omega
  · show 0 + 1 * l.val = _; omega
  · refine at2_eq s _ _ _ ?_ ?_
    · show so + 1 * (k + 0) = _; omega
    · show 0 + 1 * (0 + l.val) = _; omega

include w s in
/-- A group of low codes, shifted up by four bits, lands in its rows of the block. -/
theorem group_lo (hO : O = o) (hk : O = 128 * (so + k)) :
    widenW (andi (shli (bitcast ⟨2, ![32, n]⟩ 32 (fun i => w ((Rect.unit (s := ⟨2, ![N, n]⟩) ![o, 0] ![128, n] inb).emb i) : IVec ⟨2, ![128, n]⟩ 8) h)
        (broadcast ⟨2, ![32, n]⟩ 4#32)) (broadcast ⟨2, ![32, n]⟩ 4042322160#32))
      (extractStridedSlice ⟨2, ![1, n]⟩ ![k, 0] (fun i => s ((Rect.unit (s := ⟨2, ![G, n]⟩) ![so, 0] ![g, n] inb').emb i) : FVec Ideal ⟨2, ![g, n]⟩ .f32) hsl)
      h' hs hb ht hc x
      = wfull (R := R) N w s ((Rect.unit (s := ⟨2, ![R, n]⟩) ![O, 0] ![128, n] inb'').emb x) := by
  obtain ⟨p, l, rfl⟩ := ix2_surj x
  exact (widen_lo (by norm_num) _ _ h h' hs hb ht hc _ _).trans (group_eq w s o O so k g inb inb' inb'' hsl false hO hk (ValueIdx.ix2 p l))

include w s in
/-- A group of high codes, in place already, lands in its rows of the block. -/
theorem group_hi (hO : O = N + o) (hk : O = 128 * (so + k)) :
    widenW (andi (bitcast ⟨2, ![32, n]⟩ 32 (fun i => w ((Rect.unit (s := ⟨2, ![N, n]⟩) ![o, 0] ![128, n] inb).emb i) : IVec ⟨2, ![128, n]⟩ 8) h)
        (broadcast ⟨2, ![32, n]⟩ 4042322160#32))
      (extractStridedSlice ⟨2, ![1, n]⟩ ![k, 0] (fun i => s ((Rect.unit (s := ⟨2, ![G, n]⟩) ![so, 0] ![g, n] inb').emb i) : FVec Ideal ⟨2, ![g, n]⟩ .f32) hsl)
      h' hs hb ht hc x
      = wfull (R := R) N w s ((Rect.unit (s := ⟨2, ![R, n]⟩) ![O, 0] ![128, n] inb'').emb x) := by
  obtain ⟨p, l, rfl⟩ := ix2_surj x
  exact (widen_hi (by norm_num) _ _ h h' hs hb ht hc _ _).trans (group_eq w s o O so k g inb inb' inb'' hsl true hO hk (ValueIdx.ix2 p l))

end Group

theorem inb2 {a b c n : Nat} (h : a + b ≤ c) : ∀ i, (![a, 0] : Fin 2 → Nat) i + (![b, n] : Fin 2 → Nat) i ≤ (⟨2, ![c, n]⟩ : Shape).size i := by
  intro i
  match i with
  | ⟨0, _⟩ => exact h
  | ⟨1, _⟩ => exact (Nat.zero_add n).le

section Proj
variable (w : IVec ⟨2, ![3584, 1792]⟩ 8) (s : FVec Ideal ⟨2, ![56, 1792]⟩ .f32)

/-- A low group at the projections' shapes. -/
theorem proj_lo (o O so k : Nat) (hO : O = o) (hk : O = 128 * (so + k))
    (inb : ∀ a, (![o, 0] : Fin 2 → Nat) a + (![128, 1792] : Fin 2 → Nat) a ≤ (⟨2, ![3584, 1792]⟩ : Shape).size a)
    (inb' : ∀ a, (![so, 0] : Fin 2 → Nat) a + (![28, 1792] : Fin 2 → Nat) a ≤ (⟨2, ![56, 1792]⟩ : Shape).size a)
    (inb'' : ∀ a, (![O, 0] : Fin 2 → Nat) a + (![128, 1792] : Fin 2 → Nat) a ≤ (⟨2, ![7168, 1792]⟩ : Shape).size a)
    (hsl : (⟨2, ![28, 1792]⟩ : Shape).Slices ![k, 0] ⟨2, ![1, 1792]⟩)
    (h : (⟨2, ![128, 1792]⟩ : Shape).Bitcasts 8 ⟨2, ![32, 1792]⟩ 32) (h' : (⟨2, ![32, 1792]⟩ : Shape).Bitcasts 32 ⟨2, ![128, 1792]⟩ 8)
    (hs : (⟨2, ![1, 1792]⟩ : Shape).ShapeCasts ⟨2, ![1, 1792]⟩) (hb : (⟨2, ![1, 1792]⟩ : Shape).Broadcasts ⟨2, ![128, 1792]⟩)
    (ht : FTy.bf16.bits < FTy.f32.bits) (hc : (⟨2, ![128, 1792]⟩ : Shape).ShapeCasts ⟨2, ![128, 1792]⟩)
    (x : (⟨2, ![128, 1792]⟩ : Shape).Idx) :
    widenW (andi (shli (bitcast ⟨2, ![32, 1792]⟩ 32 (fun i => w ((Rect.unit (s := ⟨2, ![3584, 1792]⟩) ![o, 0] ![128, 1792] inb).emb i) : IVec ⟨2, ![128, 1792]⟩ 8) h) (broadcast ⟨2, ![32, 1792]⟩ 4#32))
        (broadcast ⟨2, ![32, 1792]⟩ 4042322160#32))
      (extractStridedSlice ⟨2, ![1, 1792]⟩ ![k, 0] (fun i => s ((Rect.unit (s := ⟨2, ![56, 1792]⟩) ![so, 0] ![28, 1792] inb').emb i) : FVec Ideal ⟨2, ![28, 1792]⟩ .f32) hsl)
      h' hs hb ht hc x
      = wfull (R := 7168) 3584 w s ((Rect.unit (s := ⟨2, ![7168, 1792]⟩) ![O, 0] ![128, 1792] inb'').emb x) :=
  group_lo w s o O so k 28 inb inb' inb'' hsl h h' hs hb ht hc x hO hk

/-- A high group at the projections' shapes. -/
theorem proj_hi (o O so k : Nat) (hO : O = 3584 + o) (hk : O = 128 * (so + k))
    (inb : ∀ a, (![o, 0] : Fin 2 → Nat) a + (![128, 1792] : Fin 2 → Nat) a ≤ (⟨2, ![3584, 1792]⟩ : Shape).size a)
    (inb' : ∀ a, (![so, 0] : Fin 2 → Nat) a + (![28, 1792] : Fin 2 → Nat) a ≤ (⟨2, ![56, 1792]⟩ : Shape).size a)
    (inb'' : ∀ a, (![O, 0] : Fin 2 → Nat) a + (![128, 1792] : Fin 2 → Nat) a ≤ (⟨2, ![7168, 1792]⟩ : Shape).size a)
    (hsl : (⟨2, ![28, 1792]⟩ : Shape).Slices ![k, 0] ⟨2, ![1, 1792]⟩)
    (h : (⟨2, ![128, 1792]⟩ : Shape).Bitcasts 8 ⟨2, ![32, 1792]⟩ 32) (h' : (⟨2, ![32, 1792]⟩ : Shape).Bitcasts 32 ⟨2, ![128, 1792]⟩ 8)
    (hs : (⟨2, ![1, 1792]⟩ : Shape).ShapeCasts ⟨2, ![1, 1792]⟩) (hb : (⟨2, ![1, 1792]⟩ : Shape).Broadcasts ⟨2, ![128, 1792]⟩)
    (ht : FTy.bf16.bits < FTy.f32.bits) (hc : (⟨2, ![128, 1792]⟩ : Shape).ShapeCasts ⟨2, ![128, 1792]⟩)
    (x : (⟨2, ![128, 1792]⟩ : Shape).Idx) :
    widenW (andi (bitcast ⟨2, ![32, 1792]⟩ 32 (fun i => w ((Rect.unit (s := ⟨2, ![3584, 1792]⟩) ![o, 0] ![128, 1792] inb).emb i) : IVec ⟨2, ![128, 1792]⟩ 8) h)
        (broadcast ⟨2, ![32, 1792]⟩ 4042322160#32))
      (extractStridedSlice ⟨2, ![1, 1792]⟩ ![k, 0] (fun i => s ((Rect.unit (s := ⟨2, ![56, 1792]⟩) ![so, 0] ![28, 1792] inb').emb i) : FVec Ideal ⟨2, ![28, 1792]⟩ .f32) hsl)
      h' hs hb ht hc x
      = wfull (R := 7168) 3584 w s ((Rect.unit (s := ⟨2, ![7168, 1792]⟩) ![O, 0] ![128, 1792] inb'').emb x) :=
  group_hi w s o O so k 28 inb inb' inb'' hsl h h' hs hb ht hc x hO hk

end Proj

theorem row_slices : ∀ k : Fin 28, (⟨2, ![28, 1792]⟩ : Shape).Slices ![k.val, 0] ⟨2, ![1, 1792]⟩ := by
  decide

/-- The groups one after another, as the kernels store them: the last stored first, the high ones before the low ones. -/
theorem all_groups {P Q : Fin 28 → Prop} (hP : ∀ k, P k) (hQ : ∀ k, Q k) :
    P ⟨27, by decide⟩ ∧ P ⟨26, by decide⟩ ∧ P ⟨25, by decide⟩ ∧ P ⟨24, by decide⟩ ∧ P ⟨23, by decide⟩ ∧ P ⟨22, by decide⟩ ∧ P ⟨21, by decide⟩ ∧ P ⟨20, by decide⟩ ∧ P ⟨19, by decide⟩ ∧ P ⟨18, by decide⟩ ∧ P ⟨17, by decide⟩ ∧ P ⟨16, by decide⟩ ∧ P ⟨15, by decide⟩ ∧ P ⟨14, by decide⟩ ∧ P ⟨13, by decide⟩ ∧ P ⟨12, by decide⟩ ∧ P ⟨11, by decide⟩ ∧ P ⟨10, by decide⟩ ∧ P ⟨9, by decide⟩ ∧ P ⟨8, by decide⟩ ∧ P ⟨7, by decide⟩ ∧ P ⟨6, by decide⟩ ∧ P ⟨5, by decide⟩ ∧ P ⟨4, by decide⟩ ∧ P ⟨3, by decide⟩ ∧ P ⟨2, by decide⟩ ∧ P ⟨1, by decide⟩ ∧ P ⟨0, by decide⟩
    ∧ Q ⟨27, by decide⟩ ∧ Q ⟨26, by decide⟩ ∧ Q ⟨25, by decide⟩ ∧ Q ⟨24, by decide⟩ ∧ Q ⟨23, by decide⟩ ∧ Q ⟨22, by decide⟩ ∧ Q ⟨21, by decide⟩ ∧ Q ⟨20, by decide⟩ ∧ Q ⟨19, by decide⟩ ∧ Q ⟨18, by decide⟩ ∧ Q ⟨17, by decide⟩ ∧ Q ⟨16, by decide⟩ ∧ Q ⟨15, by decide⟩ ∧ Q ⟨14, by decide⟩ ∧ Q ⟨13, by decide⟩ ∧ Q ⟨12, by decide⟩ ∧ Q ⟨11, by decide⟩ ∧ Q ⟨10, by decide⟩ ∧ Q ⟨9, by decide⟩ ∧ Q ⟨8, by decide⟩ ∧ Q ⟨7, by decide⟩ ∧ Q ⟨6, by decide⟩ ∧ Q ⟨5, by decide⟩ ∧ Q ⟨4, by decide⟩ ∧ Q ⟨3, by decide⟩ ∧ Q ⟨2, by decide⟩ ∧ Q ⟨1, by decide⟩ ∧ Q ⟨0, by decide⟩ ∧ True := by
  refine ⟨hP _, hP _, hP _, hP _, hP _, hP _, hP _, hP _, hP _, hP _, hP _, hP _, hP _, hP _, hP _, hP _, hP _, hP _, hP _, hP _, hP _, hP _, hP _, hP _, hP _, hP _, hP _, hP _,
    hQ _, hQ _, hQ _, hQ _, hQ _, hQ _, hQ _, hQ _, hQ _, hQ _, hQ _, hQ _, hQ _, hQ _, hQ _, hQ _, hQ _, hQ _, hQ _, hQ _, hQ _, hQ _, hQ _, hQ _, hQ _, hQ _, hQ _, hQ _, trivial⟩

/-- A list of pieces, one piece at a time. -/
theorem pieces_cons {S : Shape} {e : EltTy} {G : S.Idx → Elt Ideal e} (r : Rect S) (f : r.shape.Idx → Elt Ideal e)
    (L : List (View.Piece (Elt Ideal) S e)) (h : ∀ x, f x = G (r.emb x)) (hL : View.PiecesOf G L) : View.PiecesOf G (⟨r, f⟩ :: L) := ⟨h, hL⟩

end Cert.W4
-- ==== Proof.ProjHead.lean ====
/-
  A head of a projected block, as the kernels quantise it: the largest magnitude of each of the eight heads through a masked
  maximum, the scale spread back over the head's lanes, and the codes.
-/
module

public import proofs.«01_k».proof.Proof.Proj

@[expose] public section

set_option maxRecDepth 16384

noncomputable section

open Idealize.ShloMosaic Idealize.ShloMosaic.TcCoe Idealize.SL.Sem

namespace Cert.W4

/-! ## The projected block -/

/-- Codes times unpacked weights, times the row's scale, plus the low-rank term. -/
def projY (X : IVec ⟨2, ![256, 7168]⟩ 8) (W : FVec Ideal ⟨2, ![7168, 1792]⟩ .bf16) (T : FVec Ideal ⟨2, ![256, 128]⟩ .bf16)
    (B : FVec Ideal ⟨4, ![1, 1, 128, 1792]⟩ .bf16) (S : FVec Ideal ⟨2, ![256, 1]⟩ .f32) : FVec Ideal ⟨2, ![256, 1792]⟩ .f32 :=
  addf (mulf (matmul (DotDims.plain 256 7168 1792) none (sitofp .bf16 X : FVec Ideal ⟨2, ![256, 7168]⟩ .bf16) W (constant ⟨2, ![256, 1792]⟩ .f32 0x00000000#32))
      (broadcastTo ⟨2, ![256, 1792]⟩ S (by decide)))
    (matmul (DotDims.plain 256 128 1792) none T (shapeCast ⟨2, ![128, 1792]⟩ B (by decide) : FVec Ideal ⟨2, ![128, 1792]⟩ .bf16) (constant ⟨2, ![256, 1792]⟩ .f32 0x00000000#32))

theorem projY_apply (X : IVec ⟨2, ![256, 7168]⟩ 8) (W : FVec Ideal ⟨2, ![7168, 1792]⟩ .bf16) (T : FVec Ideal ⟨2, ![256, 128]⟩ .bf16)
    (B : FVec Ideal ⟨4, ![1, 1, 128, 1792]⟩ .bf16) (S : FVec Ideal ⟨2, ![256, 1]⟩ .f32) (p : Fin 256) (l : Fin 1792)
    (f g : ℕ → EReal) (s : EReal)
    (hf : ∀ k : Fin 7168, (((X (ValueIdx.ix2 p k)).toInt : ℝ) : EReal) * (W (ValueIdx.ix2 k l) : EReal) = f k.val)
    (hg : ∀ k : Fin 128, (T (ValueIdx.ix2 p k) : EReal) * (B (ValueIdx.ix4 0 0 k l) : EReal) = g k.val)
    (hs : (S (ValueIdx.ix2 p 0) : EReal) = s) :
    (projY X W T B S (ValueIdx.ix2 p l) : EReal) = (∑ k ∈ Finset.range 7168, f k) * s + ∑ k ∈ Finset.range 128, g k := by
  unfold projY
  refine congrArg₂ (HAdd.hAdd (α := EReal)) (congrArg₂ (HMul.hMul (α := EReal))
    (matmul_range (φ₁ := .bf16) (φ₂ := .bf16) none _ _ p l f fun k => hf k) ?_)
    (matmul_range (φ₁ := .bf16) (φ₂ := .bf16) none _ _ p l g fun k => ?_)
  · refine Eq.trans ?_ hs
    pointwise
    rfl
  · refine Eq.trans ?_ (hg k)
    refine congrArg (T (ValueIdx.ix2 p k) * ·) ?_
    pointwise
    rfl

/-! ## The scale of a head -/

/-- The largest magnitude of each column. -/
def colMax (y : FVec Ideal ⟨2, ![256, 1792]⟩ .f32) : FVec Ideal ⟨2, ![1, 1792]⟩ .f32 :=
  shapeCast ⟨2, ![1, 1792]⟩ (multiReduction .maximumf [0] ⟨1, ![1792]⟩ (absf y) 0xFF800000#32 (by decide) (.inl rfl) rfl) (by decide)

theorem ofBits_neg_inf : Ideal.ofBits .f32 0xFF800000#32 = ⊥ := by
  simp [Ideal.ofBits, Ideal.ieee]

/-- The magnitude over the reals. -/
def mag (x : EReal) : EReal := FloatOps.absf (F := Ideal) (φ := .f32) x

theorem colMax_le (y : FVec Ideal ⟨2, ![256, 1792]⟩ .f32) (l : Fin 1792) (c : EReal) :
    (colMax y (ValueIdx.ix2 0 l) : EReal) ≤ c ↔ ∀ p : Fin 256, mag (y (ValueIdx.ix2 p l)) ≤ c := by
  unfold colMax
  pointwise
  rw [Finset.fold_max_le, ofBits_neg_inf]
  exact ⟨fun h p => h.2 p (Finset.mem_univ p), fun h => ⟨bot_le, fun p _ => h p⟩⟩

/-- The head of each lane, as the kernel works it out (a floor division by 224). -/
def headLane : IVec ⟨2, ![8, 1792]⟩ 32 :=
  have v21 : IVec ⟨2, ![8, 1792]⟩ 32 := iota .tc ⟨2, ![8, 1792]⟩ 32 [1] (by decide)
  have v23 : IVec ⟨2, ![8, 1792]⟩ 32 := divsi v21 (broadcast ⟨2, ![8, 1792]⟩ 224#32)
  have v26 : IVec ⟨2, ![8, 1792]⟩ 32 := extui 32 (cmpi .sgt v21 (broadcast ⟨2, ![8, 1792]⟩ 0#32)) (by decide)
  have v29 : IVec ⟨2, ![8, 1792]⟩ 32 := extui 32 (cmpi .slt v21 (broadcast ⟨2, ![8, 1792]⟩ 0#32)) (by decide)
  have v30 : IVec ⟨2, ![8, 1792]⟩ 32 := subi v26 v29
  have v37 : IVec ⟨2, ![8, 1792]⟩ 1 := cmpi .ne v30 (broadcast ⟨2, ![8, 1792]⟩ (Scalar.subi 1#32 0#32))
  have v39 : IVec ⟨2, ![8, 1792]⟩ 32 := remsi v21 (broadcast ⟨2, ![8, 1792]⟩ 224#32)
  have v41 : IVec ⟨2, ![8, 1792]⟩ 1 := cmpi .ne v39 (broadcast ⟨2, ![8, 1792]⟩ 0#32)
  have v42 : IVec ⟨2, ![8, 1792]⟩ 1 := andi v37 v41
  have v44 : IVec ⟨2, ![8, 1792]⟩ 32 := subi v23 (broadcast ⟨2, ![8, 1792]⟩ 1#32)
  select v42 v44 v23

theorem headLane_zero : ∀ l : Fin 1792, headLane (ValueIdx.ix2 0 l) = BitVec.ofNat 32 (l.val / 224) := by
  decide +kernel

theorem ofNat_eq_iff : ∀ a b : Fin 8, IntOp.cmpi .eq (BitVec.ofNat 32 a.val) (BitVec.ofNat 32 b.val) = if a.val = b.val then 1#1 else 0#1 := by
  decide +kernel

/-- Whether lane `l` is of head `h`. -/
def headMask : IVec ⟨2, ![8, 1792]⟩ 1 := cmpi .eq headLane (iota .tc ⟨2, ![8, 1792]⟩ 32 [0] (by decide))

theorem headMask_apply (h : Fin 8) (l : Fin 1792) : headMask (ValueIdx.ix2 h l) = if l.val / 224 = h.val then 1#1 else 0#1 := by
  have e : headLane (ValueIdx.ix2 h l) = headLane (ValueIdx.ix2 0 l) := rfl
  refine (?_ : headMask (ValueIdx.ix2 h l) = IntOp.cmpi .eq (headLane (ValueIdx.ix2 h l)) (BitVec.ofNat 32 h.val)).trans ?_
  · have e2 : ∀ h : Fin 8, (iota .tc ⟨2, ![8, 1792]⟩ 32 [0] (by decide) : IVec ⟨2, ![8, 1792]⟩ 32) (ValueIdx.ix2 h 0) = BitVec.ofNat 32 h.val := by
      decide +kernel
    exact congrArg (IntOp.cmpi .eq (headLane (ValueIdx.ix2 h l))) (e2 h)
  · rw [e, headLane_zero]
    exact ofNat_eq_iff ⟨l.val / 224, by have := l.isLt; omega⟩ h

/-- The scale made of a head's largest magnitude. -/
def hsc (a : EReal) : EReal := if a = 0 then 1 else Ideal.div a ((448 : ℝ) : EReal)

theorem ofBits_448 : Ideal.ofBits .f32 0x43E00000#32 = ((448 : ℝ) : EReal) := by
  simp [Ideal.ofBits, Ideal.ieee, -EReal.coe_mul]; norm_num

theorem ofBits_neg448 : Ideal.ofBits .f32 0xC3E00000#32 = ((-448 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem hsc_pos (a : EReal) (h : 0 ≤ a) : 0 < hsc a := by
  unfold hsc
  split
  · exact zero_lt_one
  · rename_i h0
    unfold Ideal.div
    rw [if_neg (by norm_num)]
    refine EReal.mul_pos (lt_of_le_of_ne h (Ne.symm h0)) ?_
    rw [← EReal.coe_inv]
    exact_mod_cast (by norm_num : (0 : ℝ) < (448 : ℝ)⁻¹)

theorem mag_nonneg (x : EReal) : 0 ≤ mag x := by
  show 0 ≤ max x (-x)
  rcases le_total 0 x with h | h
  · exact le_max_of_le_left h
  · exact le_max_of_le_right (EReal.neg_nonneg.mpr h)

/-- The masked maxima over lanes: one number per head. -/
def headAmax (v20 : FVec Ideal ⟨2, ![1, 1792]⟩ .f32) : FVec Ideal ⟨2, ![8, 1]⟩ .f32 :=
  shapeCast ⟨2, ![8, 1]⟩ (multiReduction .maximumf [1] ⟨1, ![8]⟩
    (select headMask (broadcastTo ⟨2, ![8, 1792]⟩ (shapeCast ⟨2, ![1, 1792]⟩ v20 (by decide)) (by decide)) (broadcast ⟨2, ![8, 1792]⟩ (Scalar.ofBits .f32 0x00000000#32)) : FVec Ideal ⟨2, ![8, 1792]⟩ .f32)
    0xFF800000#32 (by decide) (.inl rfl) rfl) (by decide)

theorem headAmax_le (v20 : FVec Ideal ⟨2, ![1, 1792]⟩ .f32) (hv : ∀ l, 0 ≤ (v20 (ValueIdx.ix2 0 l) : EReal)) (h : Fin 8) (c : EReal) :
    (headAmax v20 (ValueIdx.ix2 h 0) : EReal) ≤ c ↔ ∀ l : Fin 1792, l.val / 224 = h.val → (v20 (ValueIdx.ix2 0 l) : EReal) ≤ c := by
  unfold headAmax
  pointwise
  change Finset.fold max (Ideal.ofBits .f32 0xFF800000#32) (fun x => Scalar.select (headMask (ValueIdx.ix2 h x)) (v20 (ValueIdx.ix2 0 x)) (0 : EReal)) Finset.univ ≤ c ↔ _
  rw [Finset.fold_max_le, ofBits_neg_inf]
  constructor
  · rintro ⟨-, hh⟩ l hl
    have := hh l (Finset.mem_univ l)
    rw [headMask_apply, if_pos hl] at this
    exact this
  · intro hh
    refine ⟨bot_le, fun l _ => ?_⟩
    rw [headMask_apply]
    by_cases hl : l.val / 224 = h.val
    · rw [if_pos hl]; exact hh l hl
    · rw [if_neg hl]
      have hb := h.isLt
      exact (hv _).trans (hh ⟨224 * h.val, by omega⟩ (by show 224 * h.val / 224 = h.val; omega))

/-- Each head's scale, spread over the head's lanes. -/
def headScale (v20 : FVec Ideal ⟨2, ![1, 1792]⟩ .f32) : FVec Ideal ⟨2, ![1, 1792]⟩ .f32 :=
  have v53 : FVec Ideal ⟨2, ![8, 1]⟩ .f32 := headAmax v20
  have v59 : FVec Ideal ⟨2, ![8, 1]⟩ .f32 := select (cmpf .oeq v53 (broadcast ⟨2, ![8, 1]⟩ (Scalar.ofBits .f32 0x00000000#32)))
    (broadcast ⟨2, ![8, 1]⟩ (Scalar.ofBits .f32 0x3F800000#32)) (divf v53 (broadcast ⟨2, ![8, 1]⟩ (Scalar.ofBits .f32 0x43E00000#32)))
  shapeCast ⟨2, ![1, 1792]⟩ (multiReduction .maximumf [0] ⟨1, ![1792]⟩
    (select headMask (broadcastTo ⟨2, ![8, 1792]⟩ (shapeCast ⟨2, ![8, 1]⟩ v59 (by decide)) (by decide)) (broadcast ⟨2, ![8, 1792]⟩ (Scalar.ofBits .f32 0x00000000#32)) : FVec Ideal ⟨2, ![8, 1792]⟩ .f32)
    0xFF800000#32 (by decide) (.inl rfl) rfl) (by decide)

theorem headScale_apply (v20 : FVec Ideal ⟨2, ![1, 1792]⟩ .f32) (l : Fin 1792) (a : EReal)
    (ha : (headAmax v20 (ValueIdx.ix2 ⟨l.val / 224, by have := l.isLt; omega⟩ 0) : EReal) = a) (h0 : 0 ≤ a) :
    (headScale v20 (ValueIdx.ix2 0 l) : EReal) = hsc a := by
  unfold headScale
  pointwise
  change Finset.fold max (Ideal.ofBits .f32 0xFF800000#32) (fun x => Scalar.select (headMask (ValueIdx.ix2 x l))
    (if (headAmax v20 (ValueIdx.ix2 x 0) : EReal) = 0 then 1 else Ideal.div (headAmax v20 (ValueIdx.ix2 x 0)) (Ideal.ofBits .f32 0x43E00000#32)) (0 : EReal)) Finset.univ = _
  refine eq_of_forall_ge_iff fun c => ?_
  rw [Finset.fold_max_le, ofBits_neg_inf, ofBits_448]
  constructor
  · rintro ⟨-, hh⟩
    have := hh ⟨l.val / 224, by have := l.isLt; omega⟩ (Finset.mem_univ _)
    rw [headMask_apply, if_pos rfl, ha] at this
    exact this
  · intro hh
    refine ⟨bot_le, fun x _ => ?_⟩
    rw [headMask_apply]
    by_cases hl : l.val / 224 = x.val
    · have ex : (⟨l.val / 224, by have := l.isLt; omega⟩ : Fin 8) = x := Fin.ext hl
      rw [if_pos hl, ← ex, ha]
      exact hh
    · rw [if_neg hl]; exact (hsc_pos a h0).le.trans hh

/-- The codes of a block: over the scale, within ±448. -/
def headCodes (y : FVec Ideal ⟨2, ![256, 1792]⟩ .f32) (sc : FVec Ideal ⟨2, ![1, 1792]⟩ .f32) : FVec Ideal ⟨2, ![256, 1792]⟩ .fp8e4m3 :=
  truncf .fp8e4m3 (minimumf (broadcast ⟨2, ![256, 1792]⟩ (Scalar.ofBits .f32 0x43E00000#32)) (maximumf (broadcast ⟨2, ![256, 1792]⟩ (Scalar.ofBits .f32 0xC3E00000#32))
    (mulf y (broadcastTo ⟨2, ![256, 1792]⟩ (divf (broadcast ⟨2, ![1, 1792]⟩ (Scalar.ofBits .f32 0x3F800000#32)) sc) (by decide))))) (by decide)

theorem headCodes_apply (y : FVec Ideal ⟨2, ![256, 1792]⟩ .f32) (sc : FVec Ideal ⟨2, ![1, 1792]⟩ .f32) (p : Fin 256) (l : Fin 1792) (s : EReal)
    (hs : (sc (ValueIdx.ix2 0 l) : EReal) = s) (h0 : s ≠ 0) :
    (headCodes y sc (ValueIdx.ix2 p l) : EReal) = min ((448 : ℝ) : EReal) (max ((-448 : ℝ) : EReal) (Ideal.div (y (ValueIdx.ix2 p l)) s)) := by
  unfold headCodes
  pointwise
  change min (Ideal.ofBits .f32 0x43E00000#32) (max (Ideal.ofBits .f32 0xC3E00000#32) ((y (ValueIdx.ix2 p l) : EReal) * Ideal.div 1 (sc (ValueIdx.ix2 0 l)))) = _
  rw [ofBits_448, ofBits_neg448, hs, mul_recip _ _ h0]

/-- The scales of a block of columns, from its values. -/
theorem headScale_colMax (y : FVec Ideal ⟨2, ![256, 1792]⟩ .f32) (l : Fin 1792) (a : EReal)
    (ha : ∀ c : EReal, a ≤ c ↔ ∀ (p : Fin 256) (q : Fin 1792), q.val / 224 = l.val / 224 → mag (y (ValueIdx.ix2 p q)) ≤ c) :
    0 ≤ a ∧ (headScale (colMax y) (ValueIdx.ix2 0 l) : EReal) = hsc a := by
  have hv : ∀ q, 0 ≤ (colMax y (ValueIdx.ix2 0 q) : EReal) := fun q => (mag_nonneg _).trans ((colMax_le y q _).mp le_rfl 0)
  have h0 : 0 ≤ a := (mag_nonneg _).trans ((ha a).mp le_rfl 0 l rfl)
  refine ⟨h0, headScale_apply _ l a (eq_of_forall_ge_iff fun c => ?_) h0⟩
  rw [headAmax_le _ hv, ha]
  exact ⟨fun h p q hq => (colMax_le y q c).mp (h q hq) p, fun h q hq => (colMax_le y q c).mpr fun p => h p q hq⟩

end Cert.W4
-- ==== Proof.ProjVKernel.lean ====
/-
  What a point of the value projection leaves in its scratch and its two result blocks, in the values the shared lemmas name.
-/
module

public import proofs.«01_k».proof.Proof.ProjHead
public import proofs.«01_k».proof.Proof.Gen.ProjVIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjVIdeal.Val

open Cert.ProjVIdeal Cert.ProjVIdeal.Gen

section Point
variable (c : Dev nD) (i : grid0.Coords) (arg3 : Memref sig .tc .vmem S256x7168 .i8) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S2x1x128x1792 .bf16) (harg8 : arg8.IsWhole) (arg9 : Memref sig .tc .vmem S256x896 .f32) (harg9 : arg9.IsWhole) (arg10 : Memref sig .tc .vmem S256x896 .f32) (harg10 : arg10.IsWhole) (arg11 : Memref sig .tc .vmem S256x1792 .fp8e4m3) (harg11 : arg11.IsWhole) (arg12 : Memref sig .tc .vmem S1x1x1792 .f32) (harg12 : arg12.IsWhole) (arg13 : Memref sig .tc .vmem S7168x1792 .bf16) (harg13 : arg13.IsWhole)
  (x0 : Vec Ideal S256x7168 .i8) (x1 : Vec Ideal S256x1 .f32) (x2 : Vec Ideal S3584x1792 .i8) (x3 : Vec Ideal S56x1792 .f32) (x4 : Vec Ideal S256x128 .bf16) (x5 : Vec Ideal S2x1x128x1792 .bf16) (x6 : Vec Ideal S256x896 .f32) (x7 : Vec Ideal S256x896 .f32) (xt0 : TbBuf0 (F := Ideal) c tbM0_0) (xs0 : Vec Ideal S7168x1792 .bf16)
  (hw : k0_chk1 (tbM0_0.view.readAt (Elt Ideal) (Rect.unit (s := S12) (k0_off1 i) S1.size (k0_off1_inb i)).toLoadRect xt0 (Shape.Idx.first (numel1_S1.symm ▸ Nat.one_pos))))

/-- The batch's matrix among the two stacked ones, as the point reads it. -/
abbrev pick : Vec Ideal S1x1x128x1792 .bf16 :=
  View.ld x5 (Rect.unit (k0_off2 (View.ld (View.read (Elt Ideal) (View.whole main_arg0) xt0) (Rect.unit (k0_off1 i) ![1] (k0_off1_inb i))
    (Shape.Idx.first (numel1_S1.symm ▸ Nat.one_pos)))) ![1, 1, 128, 1792] hw)

/-- The weight block, whole, as the first point of a column block leaves it. -/
abbrev wblk : Vec Ideal S7168x1792 .bf16 := W4.wfull 3584 x2 x3

set_option maxHeartbeats 1000000 in
theorem pieces (hc : cond0_0 i) : View.PiecesOf (wblk x2 x3) (kernelRun0_A (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw).2.2.1 := by
  have hi := fun k : Fin 28 => W4.proj_hi x2 x3 (128 * k.val) (3584 + 128 * k.val) 28 k.val rfl (by omega) (W4.inb2 (by omega)) (W4.inb2 (by decide)) (W4.inb2 (by omega)) (W4.row_slices k)
      bitcasts_S128x1792_w8_S32x1792_w32 bitcasts_S32x1792_w32_S128x1792_w8 shapeCasts_S1x1792_S1x1792 broadcasts_S1x1792_S128x1792 bitsLt_bf16_f32 shapeCasts_S128x1792_S128x1792
  have lo := fun k : Fin 28 => W4.proj_lo x2 x3 (128 * k.val) (128 * k.val) 0 k.val rfl (by omega) (W4.inb2 (by omega)) (W4.inb2 (by decide)) (W4.inb2 (by omega)) (W4.row_slices k)
      bitcasts_S128x1792_w8_S32x1792_w32 bitcasts_S32x1792_w32_S128x1792_w8 shapeCasts_S1x1792_S1x1792 broadcasts_S1x1792_S128x1792 bitsLt_bf16_f32 shapeCasts_S128x1792_S128x1792
  frame_out
  dsimp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91]
  dsimp only [W4.widenW] at hi lo
  exact W4.all_groups hi lo

/-- What a point writes, given the block's weights `W`. -/
abbrev yblk (W : Vec Ideal S7168x1792 .bf16) : FVec Ideal S256x1792 .f32 := W4.projY x0 W x4 (pick c i x5 xt0 hw) x1

theorem out8_B (hc : ¬cond0_0 i) : out0_B_8 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 xs0 hw
    = W4.headCodes (yblk c i x0 x1 x4 x5 xt0 hw xs0) (W4.headScale (W4.colMax (yblk c i x0 x1 x4 x5 xt0 hw xs0))) := by
  frame_out
  rfl

theorem out9_B (hc : ¬cond0_0 i) : out0_B_9 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 xs0 hw
    = shapeCast S1x1x1792 (W4.headScale (W4.colMax (yblk c i x0 x1 x4 x5 xt0 hw xs0))) shapeCasts_S1x1792_S1x1x1792 := by
  frame_out
  rfl

theorem sout_B (hc : ¬cond0_0 i) : sout0_B_0 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 xs0 hw = xs0 := rfl

theorem out8_A (hc : cond0_0 i) : out0_A_8 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw
    = W4.headCodes (yblk c i x0 x1 x4 x5 xt0 hw (wblk x2 x3)) (W4.headScale (W4.colMax (yblk c i x0 x1 x4 x5 xt0 hw (wblk x2 x3)))) := by
  have hp := pieces c i arg3 harg3 arg4 harg4 arg5 harg5 arg6 harg6 arg7 harg7 arg8 harg8 arg9 harg9 arg10 harg10 arg11 harg11 arg12 harg12 arg13 harg13 x0 x1 x2 x3 x4 x5 x6 x7 xt0 hw hc
  frame_out at hp
  frame_out
  refine (congrArg (fun W => k0_pay98 (F := Ideal) (k0_pay92 x0 W x4 (pick c i x5 xt0 hw) x1) (k0_pay93 x0 W x4 (pick c i x5 xt0 hw) x1) (iota Kind.tc S8x1792 32 [1] iota_S8x1792_d1_w32) 224#32 k0_pay94 k0_pay95 1#32 0#32) (W4.read_pieces (S := S7168x1792) _ _ W4.hz2 _ S128x1792.size ?_ (wblk x2 x3) ?_)).trans ?_
  · sl_kernel_rfl
  · exact hp
  · rfl

theorem out9_A (hc : cond0_0 i) : out0_A_9 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw
    = shapeCast S1x1x1792 (W4.headScale (W4.colMax (yblk c i x0 x1 x4 x5 xt0 hw (wblk x2 x3)))) shapeCasts_S1x1792_S1x1x1792 := by
  have hp := pieces c i arg3 harg3 arg4 harg4 arg5 harg5 arg6 harg6 arg7 harg7 arg8 harg8 arg9 harg9 arg10 harg10 arg11 harg11 arg12 harg12 arg13 harg13 x0 x1 x2 x3 x4 x5 x6 x7 xt0 hw hc
  frame_out at hp
  frame_out
  refine (congrArg (fun W => k0_pay97 (F := Ideal) (k0_pay93 x0 W x4 (pick c i x5 xt0 hw) x1) (iota Kind.tc S8x1792 32 [1] iota_S8x1792_d1_w32) 224#32 k0_pay94 k0_pay95 1#32 0#32) (W4.read_pieces (S := S7168x1792) _ _ W4.hz2 _ S128x1792.size ?_ (wblk x2 x3) ?_)).trans ?_
  · sl_kernel_rfl
  · exact hp
  · rfl

theorem sout_A (hc : cond0_0 i) : sout0_A_0 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw = wblk x2 x3 := by
  unfold sout0_A_0
  refine (View.read_writes_junk_eq_canon _ _).trans (funext fun y => View.canon_apply_of_pieces _ _ (pieces c i arg3 harg3 arg4 harg4 arg5 harg5 arg6 harg6 arg7 harg7 arg8 harg8 arg9 harg9 arg10 harg10 arg11 harg11 arg12 harg12 arg13 harg13 x0 x1 x2 x3 x4 x5 x6 x7 xt0 hw hc).mem y (scover0_A_0 c i arg3 harg3 arg4 harg4 arg5 harg5 arg6 harg6 arg7 harg7 arg8 harg8 arg9 harg9 arg10 harg10 arg11 harg11 arg12 harg12 arg13 harg13 hc x0 x1 x2 x3 x4 x5 x6 x7 xt0 hw y))

end Point

end Cert.ProjVIdeal.Val
-- ==== Proof.ProjSpec.lean ====
/-
The values the three projections share, at natural-number positions: the projected value (`yval`), the largest magnitude
of a head of a batch (`hmax`), its scale and its codes; and a block's scales and codes as the kernels work them out are
these (`block_scale`, `block_codes`).
-/
module

public import proofs.«01_k».proof.Proof.ProjHead

@[expose] public section

set_option maxRecDepth 16384

noncomputable section

open Idealize.ShloMosaic Idealize.ShloMosaic.TcCoe Idealize.SL.Sem

namespace Cert.W4

/-- A four-dimensional array at natural-number positions. -/
def at4 {a b c d : Nat} {α : Type} [Zero α] (A : (⟨4, ![a, b, c, d]⟩ : Shape).Idx → α) (i j k l : Nat) : α :=
  if h : (i < a ∧ j < b) ∧ k < c ∧ l < d then A (ValueIdx.ix4 ⟨i, h.1.1⟩ ⟨j, h.1.2⟩ ⟨k, h.2.1⟩ ⟨l, h.2.2⟩) else 0

theorem at4_eq {a b c d : Nat} {α : Type} [Zero α] (A : (⟨4, ![a, b, c, d]⟩ : Shape).Idx → α) (x : (⟨4, ![a, b, c, d]⟩ : Shape).Idx)
    (i j k l : Nat) (hi : (x 0).val = i) (hj : (x 1).val = j) (hk : (x 2).val = k) (hl : (x 3).val = l) : A x = at4 A i j k l := by
  subst hi hj hk hl
  have h : ((x 0).val < a ∧ (x 1).val < b) ∧ (x 2).val < c ∧ (x 3).val < d := ⟨⟨(x 0).isLt, (x 1).isLt⟩, (x 2).isLt, (x 3).isLt⟩
  unfold at4
  rw [dif_pos h]
  congr 1
  funext i
  match i with
  | ⟨0, _⟩ => rfl
  | ⟨1, _⟩ => rfl
  | ⟨2, _⟩ => rfl
  | ⟨3, _⟩ => rfl

/-- A table's word at a natural-number position, as a number. -/
def wordAt {n : Nat} (A : (⟨1, ![n]⟩ : Shape).Idx → BitVec 32) (b : Nat) : Nat :=
  if h : b < n then (A (ValueIdx.ix1 ⟨b, h⟩)).toNat else 0

theorem wordAt_eq {n : Nat} (A : (⟨1, ![n]⟩ : Shape).Idx → BitVec 32) (x : (⟨1, ![n]⟩ : Shape).Idx) (b : Nat) (h : (x 0).val = b) :
    (A x).toNat = wordAt A b := by
  subst h
  have hx : (x 0).val < n := (x 0).isLt
  unfold wordAt
  rw [dif_pos hx]
  congr 2
  funext c
  match c with | ⟨0, _⟩ => rfl

/-- A row with a leading unit axis. -/
theorem row3_apply {α : Type} {n : Nat} (v : (⟨2, ![1, n]⟩ : Shape).Idx → α) (h : (⟨2, ![1, n]⟩ : Shape).ShapeCasts ⟨3, ![1, 1, n]⟩) (l : Fin n) :
    shapeCast ⟨3, ![1, 1, n]⟩ v h (ValueIdx.ix3 0 0 l) = v (ValueIdx.ix2 0 l) :=
  Idealize.ShloMosaic.ValueIdx.shapeCast_ab_1ab_apply v h 0 0 l

theorem row3_surj {n : Nat} (x : (⟨3, ![1, 1, n]⟩ : Shape).Idx) : ∃ l : Fin n, x = ValueIdx.ix3 0 0 l := by
  refine ⟨x 2, ?_⟩
  funext c
  match c with
  | ⟨0, _⟩ => exact Subsingleton.elim (α := Fin 1) _ _
  | ⟨1, _⟩ => exact Subsingleton.elim (α := Fin 1) _ _
  | ⟨2, _⟩ => rfl

section
variable (X : (⟨2, ![3072, 7168]⟩ : Shape).Idx → BitVec 8) (XS : (⟨2, ![3072, 1]⟩ : Shape).Idx → EReal)
  (W : (⟨2, ![3584, 21504]⟩ : Shape).Idx → BitVec 8) (S : (⟨2, ![56, 21504]⟩ : Shape).Idx → EReal)
  (T : (⟨2, ![3072, 384]⟩ : Shape).Idx → EReal) (L : (⟨4, ![2, 3, 128, 7168]⟩ : Shape).Idx → EReal)
  (ids : (⟨1, ![12]⟩ : Shape).Idx → BitVec 32)

/-- Row `R`, column `C` of projection `part`: codes times unpacked weights, times the row's scale, plus the low-rank term
    of the row's batch. -/
def yval (part R C : Nat) : EReal :=
  (∑ k ∈ Finset.range 7168, (((at2 X R k).toInt : ℝ) : EReal) * wat 3584 W S k (7168 * part + C)) * at2 XS R 0
    + ∑ r ∈ Finset.range 128, at2 T R (128 * part + r) * at4 L (wordAt ids (R / 256)) part r C

end

/-- The largest magnitude of head `h` of batch `b`. -/
def hmax (y : Nat → Nat → EReal) (b h : Nat) : EReal :=
  (Finset.range 256).sup fun r => (Finset.range 224).sup fun d => mag (y (256 * b + r) (224 * h + d))

theorem hmax_le (y : Nat → Nat → EReal) (b h : Nat) (c : EReal) :
    hmax y b h ≤ c ↔ ∀ r < 256, ∀ d < 224, mag (y (256 * b + r) (224 * h + d)) ≤ c := by
  simp [hmax, Finset.sup_le_iff]

theorem hmax_nonneg (y : Nat → Nat → EReal) (b h : Nat) : 0 ≤ hmax y b h :=
  (mag_nonneg _).trans ((hmax_le y b h _).mp le_rfl 0 (by norm_num) 0 (by norm_num))

/-- The scale of a head of a batch. -/
def hscale (y : Nat → Nat → EReal) (b h : Nat) : EReal := hsc (hmax y b h)

theorem hscale_ne (y : Nat → Nat → EReal) (b h : Nat) : hscale y b h ≠ 0 := (hsc_pos _ (hmax_nonneg y b h)).ne'

/-- The code at row `R`, column `C`. -/
def hcode (y : Nat → Nat → EReal) (R C : Nat) : EReal :=
  min ((448 : ℝ) : EReal) (max ((-448 : ℝ) : EReal) (Ideal.div (y R C) (hscale y (R / 256) (C / 224))))

section Block
variable (y : FVec Ideal ⟨2, ![256, 1792]⟩ .f32) (Y : Nat → Nat → EReal) (b n : Nat)
  (hy : ∀ (p : Fin 256) (l : Fin 1792), (y (ValueIdx.ix2 p l) : EReal) = Y (256 * b + p.val) (1792 * n + l.val))
include hy

theorem block_scale (l : Fin 1792) : (headScale (colMax y) (ValueIdx.ix2 0 l) : EReal) = hscale Y b (8 * n + l.val / 224) := by
  refine (headScale_colMax y l _ fun c => ?_).2
  rw [hmax_le]
  have hl := l.isLt
  constructor
  · intro h p q hq
    have hq' := q.isLt
    rw [hy]
    have e : 1792 * n + q.val = 224 * (8 * n + l.val / 224) + q.val % 224 := by omega
    rw [e]
    exact h p.val p.isLt _ (Nat.mod_lt _ (by norm_num))
  · intro h r hr d hd
    have := h ⟨r, hr⟩ ⟨224 * (l.val / 224) + d, by omega⟩ (by show (224 * (l.val / 224) + d) / 224 = _; omega)
    rw [hy] at this
    have e : 224 * (8 * n + l.val / 224) + d = 1792 * n + (224 * (l.val / 224) + d) := by omega
    rw [e]
    exact this

theorem block_codes (p : Fin 256) (l : Fin 1792) :
    (headCodes y (headScale (colMax y)) (ValueIdx.ix2 p l) : EReal) = hcode Y (256 * b + p.val) (1792 * n + l.val) := by
  have hl := l.isLt
  have hp := p.isLt
  rw [headCodes_apply y _ p l _ (block_scale y Y b n hy l) (hscale_ne _ _ _), hy]
  unfold hcode
  have e1 : (256 * b + p.val) / 256 = b := by omega
  have e2 : (1792 * n + l.val) / 224 = 8 * n + l.val / 224 := by omega
  rw [e1, e2]

end Block

end Cert.W4
-- ==== Proof.ProjVValue.lean ====
/-
  The value projection kernel over its whole grid: the blocks its points read, the unpacked weights its scratch keeps from a
  column block's first point on (`scratch`), and the arrays its two results end as (`final8`, `final9`, `run_blocks`).
-/
module

public import proofs.«01_k».proof.Proof.ProjVKernel
public import proofs.«01_k».proof.Proof.ProjSpec
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.ProjVIdeal.Val

open Cert.ProjVIdeal Cert.ProjVIdeal.Gen

variable (m : (ℓ : Loc nD τ sig) → Buf (Elt Ideal) ℓ) (hO : Ok m) (hH : Hyps m hO)

/-! ## The blocks -/

theorem idx0 : ∀ t : Fin grid0.N, cc0_transform_0 (grid0.coords t) = ![t.val % 12, 0] ∧ cc0_transform_1 (grid0.coords t) = ![t.val % 12, 0]
    ∧ cc0_transform_2 (grid0.coords t) = ![0, 8 + t.val / 12] ∧ cc0_transform_3 (grid0.coords t) = ![0, 8 + t.val / 12]
    ∧ cc0_transform_4 (grid0.coords t) = ![t.val % 12, 2] ∧ cc0_transform_5 (grid0.coords t) = ![0, 2, 0, t.val / 12]
    ∧ cc0_transform_8 (grid0.coords t) = ![t.val % 12, t.val / 12] ∧ cc0_transform_9 (grid0.coords t) = ![t.val % 12, 0, t.val / 12]
    ∧ (grid0.coords t 1).val = t.val % 12 :=
  (by decide +kernel : ∀ t : Fin grid0.N, _)

theorem idx (t : Fin (cfgM m hO).N) : ((cfgM m hO).win 0).index t = ![t.val % 12, 0] ∧ ((cfgM m hO).win 1).index t = ![t.val % 12, 0]
    ∧ ((cfgM m hO).win 2).index t = ![0, 8 + t.val / 12] ∧ ((cfgM m hO).win 3).index t = ![0, 8 + t.val / 12]
    ∧ ((cfgM m hO).win 4).index t = ![t.val % 12, 2] ∧ ((cfgM m hO).win 5).index t = ![0, 2, 0, t.val / 12]
    ∧ ((cfgM m hO).win 8).index t = ![t.val % 12, t.val / 12] ∧ ((cfgM m hO).win 9).index t = ![t.val % 12, 0, t.val / 12] := by
  obtain ⟨h0, h1, h2, h3, h4, h5, h8, h9, -⟩ := idx0 t
  exact ⟨h0, h1, h2, h3, h4, h5, h8, h9⟩

/-- The arguments. -/
abbrev ids (c : Dev nD) : S12.Idx → BitVec 32 := m ((c : Thread nD τ).loc main_arg0)
abbrev A1 (c : Dev nD) : S3072x7168.Idx → BitVec 8 := m ((c : Thread nD τ).loc main_arg1)
abbrev A2 (c : Dev nD) : S3072x1.Idx → EReal := m ((c : Thread nD τ).loc main_arg2)
abbrev A3 (c : Dev nD) : S3584x21504.Idx → BitVec 8 := m ((c : Thread nD τ).loc main_arg3)
abbrev A4 (c : Dev nD) : S56x21504.Idx → EReal := m ((c : Thread nD τ).loc main_arg4)
abbrev A5 (c : Dev nD) : S3072x384.Idx → EReal := m ((c : Thread nD τ).loc main_arg5)
abbrev A6 (c : Dev nD) : S2x3x128x7168.Idx → EReal := m ((c : Thread nD τ).loc main_arg6)

theorem blk0 (c : Dev nD) (t : Fin (cfgM m hO).N) (x : S256x7168.Idx) :
    (iblk m hO c 0 t : Vec Ideal S256x7168 .i8) x = W4.at2 (A1 m c) (256 * (t.val % 12) + (x 0).val) (x 1).val := by
  blk_simp [iblk, V, idx m hO t]
  refine W4.at2_eq (A1 m c) _ _ _ ?_ ?_ <;> blk_simp [idx m hO t] <;> omega

theorem blk1 (c : Dev nD) (t : Fin (cfgM m hO).N) (x : S256x1.Idx) :
    (iblk m hO c 1 t : Vec Ideal S256x1 .f32) x = W4.at2 (A2 m c) (256 * (t.val % 12) + (x 0).val) 0 := by
  have h1 : (x 1).val < 1 := (x 1).isLt
  blk_simp [iblk, V, idx m hO t]
  refine W4.at2_eq (A2 m c) _ _ _ ?_ ?_ <;> blk_simp [idx m hO t] <;> omega

theorem blk2 (c : Dev nD) (t : Fin (cfgM m hO).N) (x : S3584x1792.Idx) :
    (iblk m hO c 2 t : Vec Ideal S3584x1792 .i8) x = W4.at2 (A3 m c) (x 0).val (1792 * (8 + t.val / 12) + (x 1).val) := by
  blk_simp [iblk, V, idx m hO t]
  refine W4.at2_eq (A3 m c) _ _ _ ?_ ?_ <;> blk_simp [idx m hO t] <;> omega

theorem blk3 (c : Dev nD) (t : Fin (cfgM m hO).N) (x : S56x1792.Idx) :
    (iblk m hO c 3 t : Vec Ideal S56x1792 .f32) x = W4.at2 (A4 m c) (x 0).val (1792 * (8 + t.val / 12) + (x 1).val) := by
  blk_simp [iblk, V, idx m hO t]
  refine W4.at2_eq (A4 m c) _ _ _ ?_ ?_ <;> blk_simp [idx m hO t] <;> omega

theorem blk4 (c : Dev nD) (t : Fin (cfgM m hO).N) (x : S256x128.Idx) :
    (iblk m hO c 4 t : Vec Ideal S256x128 .bf16) x = W4.at2 (A5 m c) (256 * (t.val % 12) + (x 0).val) (128 * 2 + (x 1).val) := by
  blk_simp [iblk, V, idx m hO t]
  refine W4.at2_eq (A5 m c) _ _ _ ?_ ?_ <;> blk_simp [idx m hO t] <;> omega

theorem blk5 (c : Dev nD) (t : Fin (cfgM m hO).N) (x : S2x1x128x1792.Idx) :
    (iblk m hO c 5 t : Vec Ideal S2x1x128x1792 .bf16) x = W4.at4 (A6 m c) (x 0).val 2 (x 2).val (1792 * (t.val / 12) + (x 3).val) := by
  have h1 : (x 1).val < 1 := (x 1).isLt
  blk_simp [iblk, V, idx m hO t]
  refine W4.at4_eq (A6 m c) _ _ _ _ _ ?_ ?_ ?_ ?_ <;> blk_simp [idx m hO t] <;> omega

/-- The batch's matrix: the one its table entry names. -/
theorem pick_apply (c : Dev nD) (t : Fin (cfgM m hO).N) (k : Fin 128) (l : Fin 1792) :
    (pick c (grid0.coords t) (iblk m hO c 5 t) (tbl m 0) (Hyps.c0 hH c t) (ValueIdx.ix4 0 0 k l) : EReal)
      = W4.at4 (A6 m c) (W4.wordAt (ids m c) (t.val % 12)) 2 k.val (1792 * (t.val / 12) + l.val) := by
  refine (blk5 m hO c t _).trans ?_
  have hb : (grid0.coords t 1).val = t.val % 12 := (idx0 t).2.2.2.2.2.2.2.2
  have hlt : t.val % 12 < 12 := Nat.mod_lt _ (by norm_num)
  obtain rfl : c = 0 := Subsingleton.elim _ _
  have ht : (tbl m 0 : S12.Idx → BitVec 32) = ids m 0 := V_main_arg0 m 0
  congr 1
  · refine (Nat.add_zero _).trans ?_
    refine Eq.trans (b := (BitVec.toNat ((tbl m 0 : S12.Idx → BitVec 32) _))) rfl ?_
    rw [ht]
    refine W4.wordAt_eq (ids m 0) _ _ ?_
    show (BitVec.ofNat 32 (grid0.coords t 1).val).toNat + 1 * 0 = _
    rw [hb, BitVec.toNat_ofNat]
    omega
  · show 0 + 1 * k.val = k.val
    omega
  · show 1792 * (t.val / 12) + (0 + 1 * l.val) = _
    omega

/-- The unpacked weights of a column block. -/
theorem wblk_apply (c : Dev nD) (t : Fin (cfgM m hO).N) (k : Fin 7168) (l : Fin 1792) :
    (wblk (iblk m hO c 2 t) (iblk m hO c 3 t) (ValueIdx.ix2 k l) : EReal)
      = W4.wat 3584 (A3 m c) (A4 m c) k.val (7168 * 2 + (1792 * (t.val / 12) + l.val)) := by
  have hk := k.isLt
  show W4.wat 3584 (iblk m hO c 2 t : Vec Ideal S3584x1792 .i8) (iblk m hO c 3 t : Vec Ideal S56x1792 .f32) k.val l.val = _
  unfold W4.wat
  have ec : 1792 * (8 + t.val / 12) + l.val = 7168 * 2 + (1792 * (t.val / 12) + l.val) := by omega
  have e2 : W4.at2 (a := 3584) (b := 1792) (α := BitVec 8) (iblk m hO c 2 t) (k.val % 3584) l.val = W4.at2 (A3 m c) (k.val % 3584) (1792 * (8 + t.val / 12) + l.val) :=
    (W4.at2_ix2 (a := 3584) (b := 1792) (α := BitVec 8) (iblk m hO c 2 t) ⟨k.val % 3584, Nat.mod_lt _ (by norm_num)⟩ l).symm.trans (blk2 m hO c t _)
  have e3 : W4.at2 (a := 56) (b := 1792) (α := EReal) (iblk m hO c 3 t) (k.val / 128) l.val = W4.at2 (A4 m c) (k.val / 128) (1792 * (8 + t.val / 12) + l.val) :=
    (W4.at2_ix2 (a := 56) (b := 1792) (α := EReal) (iblk m hO c 3 t) ⟨k.val / 128, by omega⟩ l).symm.trans (blk3 m hO c t _)
  rw [e2, e3, ec]

/-- The projected values. -/
abbrev Y (c : Dev nD) : ℕ → ℕ → EReal := W4.yval (A1 m c) (A2 m c) (A3 m c) (A4 m c) (A5 m c) (A6 m c) (ids m c) 2

theorem yblk_apply (c : Dev nD) (t : Fin (cfgM m hO).N) (W : Vec Ideal S7168x1792 .bf16)
    (hW : ∀ (k : Fin 7168) (l : Fin 1792), (W (ValueIdx.ix2 k l) : EReal) = W4.wat 3584 (A3 m c) (A4 m c) k.val (7168 * 2 + (1792 * (t.val / 12) + l.val)))
    (p : Fin 256) (l : Fin 1792) :
    (yblk c (grid0.coords t) (iblk m hO c 0 t) (iblk m hO c 1 t) (iblk m hO c 4 t) (iblk m hO c 5 t) (tbl m 0) (Hyps.c0 hH c t) W (ValueIdx.ix2 p l) : EReal)
      = Y m c (256 * (t.val % 12) + p.val) (1792 * (t.val / 12) + l.val) := by
  have hp := p.isLt
  refine (W4.projY_apply _ _ _ _ _ p l
    (fun k => (((W4.at2 (A1 m c) (256 * (t.val % 12) + p.val) k).toInt : ℝ) : EReal) * W4.wat 3584 (A3 m c) (A4 m c) k (7168 * 2 + (1792 * (t.val / 12) + l.val)))
    (fun r => W4.at2 (A5 m c) (256 * (t.val % 12) + p.val) (128 * 2 + r) * W4.at4 (A6 m c) (W4.wordAt (ids m c) (t.val % 12)) 2 r (1792 * (t.val / 12) + l.val))
    _ (fun k => ?_) (fun k => ?_) (blk1 m hO c t _)).trans ?_
  · exact congrArg₂ (HMul.hMul (α := EReal)) (congrArg (fun b : BitVec 8 => ((b.toInt : ℝ) : EReal)) (blk0 m hO c t _)) (hW k l)
  · exact congrArg₂ (HMul.hMul (α := EReal)) (blk4 m hO c t _) (pick_apply m hO hH c t k l)
  · show _ = W4.yval _ _ _ _ _ _ _ 2 _ _
    unfold W4.yval
    have e : (256 * (t.val % 12) + p.val) / 256 = t.val % 12 := by omega
    rw [e]

/-- After every point the scratch holds the weights of the point's column block. -/
theorem scratch (c : Dev nD) (n : ℕ) (hn : n < (cfgM m hO).N) (k : Fin 7168) (l : Fin 1792) :
    ((outsAt0 m hO hH c n hn).2.2 (ValueIdx.ix2 k l) : EReal) = W4.wat 3584 (A3 m c) (A4 m c) k.val (7168 * 2 + (1792 * (n / 12) + l.val)) := by
  induction n with
  | zero =>
    rw [outsAt0_A m hO hH c ⟨0, hn⟩ rfl]
    dsimp only
    exact (congrFun (sout_A ..) _).trans (wblk_apply m hO c ⟨0, hn⟩ k l)
  | succ n ih =>
    by_cases h0 : (n + 1) % 12 = 0
    · rw [outsAt0_A m hO hH c ⟨n + 1, hn⟩ h0]
      dsimp only
      exact (congrFun (sout_A ..) _).trans (wblk_apply m hO c ⟨n + 1, hn⟩ k l)
    · rw [outsAt0_B m hO hH c ⟨n + 1, hn⟩ h0]
      dsimp only
      have e : (n + 1) / 12 = n / 12 := by omega
      rw [e]
      exact (congrFun (sout_B ..) _).trans (ih (Nat.lt_of_succ_lt hn))

/-- What a point leaves: the codes and scales of its block. -/
theorem codes (c : Dev nD) (t : Fin (cfgM m hO).N) (p : Fin 256) (l : Fin 1792) :
    ((outsAt0 m hO hH c t.val t.isLt).1 (ValueIdx.ix2 p l) : EReal) = W4.hcode (Y m c) (256 * (t.val % 12) + p.val) (1792 * (t.val / 12) + l.val) := by
  by_cases h0 : t.val % 12 = 0
  · rw [outsAt0_A m hO hH c t h0]
    dsimp only
    exact (congrFun (out8_A ..) _).trans (W4.block_codes _ (Y m c) _ _ (yblk_apply m hO hH c t _ (wblk_apply m hO c t)) p l)
  · rw [outsAt0_B m hO hH c t h0]
    dsimp only
    have e : (t.val - 1) / 12 = t.val / 12 := by omega
    exact (congrFun (out8_B ..) _).trans (W4.block_codes _ (Y m c) _ _ (yblk_apply m hO hH c t _ (by intro k l; rw [scratch, e])) p l)

theorem scales (c : Dev nD) (t : Fin (cfgM m hO).N) (l : Fin 1792) :
    ((outsAt0 m hO hH c t.val t.isLt).2.1 (ValueIdx.ix3 0 0 l) : EReal) = W4.hscale (Y m c) (t.val % 12) (8 * (t.val / 12) + l.val / 224) := by
  by_cases h0 : t.val % 12 = 0
  · rw [outsAt0_A m hO hH c t h0]
    dsimp only
    exact (congrFun (out9_A ..) _).trans ((W4.row3_apply _ _ l).trans <| W4.block_scale _ (Y m c) _ _ (yblk_apply m hO hH c t _ (wblk_apply m hO c t)) l)
  · rw [outsAt0_B m hO hH c t h0]
    dsimp only
    have e : (t.val - 1) / 12 = t.val / 12 := by omega
    exact (congrFun (out9_B ..) _).trans ((W4.row3_apply _ _ l).trans <| W4.block_scale _ (Y m c) _ _ (yblk_apply m hO hH c t _ (by intro k l; rw [scratch, e])) l)

/-! ## The result arrays -/

/-- The codes. -/
def G8 (c : Dev nD) : S3072x7168.Idx → EReal := fun x => W4.hcode (Y m c) (x 0).val (x 1).val

/-- The scales. -/
def G9 (c : Dev nD) : S12x1x7168.Idx → EReal := fun x => W4.hscale (Y m c) (x 0).val ((x 2).val / 224)

theorem covers8 : ((cfgM m hO).win 8).Covers := by
  refine Pipeline.Window.covers_of_index_surj _ rfl (by decide : ∀ a, 0 < S256x1792.size a) fun β => ?_
  have h0 : (β (0 : Fin 2)).val < 12 := Nat.lt_of_lt_of_eq (β (0 : Fin 2)).isLt (show (3072 + 256 - 1) / 256 = 12 by norm_num)
  have h1 : (β (1 : Fin 2)).val < 4 := Nat.lt_of_lt_of_eq (β (1 : Fin 2)).isLt (show (7168 + 1792 - 1) / 1792 = 4 by norm_num)
  let t : Fin (cfgM m hO).N := (⟨12 * (β (1 : Fin 2)).val + (β (0 : Fin 2)).val, by show _ < 48; omega⟩ : Fin 48)
  have ht : t.val = 12 * (β (1 : Fin 2)).val + (β (0 : Fin 2)).val := rfl
  refine ⟨t, fun a => ?_⟩
  rw [(idx m hO t).2.2.2.2.2.2.1]
  match a with
  | ⟨0, _⟩ => show t.val % 12 = (β (0 : Fin 2)).val; omega
  | ⟨1, _⟩ => show t.val / 12 = (β (1 : Fin 2)).val; omega

theorem covers9 : ((cfgM m hO).win 9).Covers := by
  refine Pipeline.Window.covers_of_index_surj _ rfl (by decide : ∀ a, 0 < S1x1x1792.size a) fun β => ?_
  have h0 : (β (0 : Fin 3)).val < 12 := Nat.lt_of_lt_of_eq (β (0 : Fin 3)).isLt (show (12 + 1 - 1) / 1 = 12 by norm_num)
  have h1 : (β (1 : Fin 3)).val < 1 := Nat.lt_of_lt_of_eq (β (1 : Fin 3)).isLt (show (1 + 1 - 1) / 1 = 1 by norm_num)
  have h2 : (β (2 : Fin 3)).val < 4 := Nat.lt_of_lt_of_eq (β (2 : Fin 3)).isLt (show (7168 + 1792 - 1) / 1792 = 4 by norm_num)
  let t : Fin (cfgM m hO).N := (⟨12 * (β (2 : Fin 3)).val + (β (0 : Fin 3)).val, by show _ < 48; omega⟩ : Fin 48)
  have ht : t.val = 12 * (β (2 : Fin 3)).val + (β (0 : Fin 3)).val := rfl
  refine ⟨t, fun a => ?_⟩
  rw [(idx m hO t).2.2.2.2.2.2.2]
  match a with
  | ⟨0, _⟩ => show t.val % 12 = (β (0 : Fin 3)).val; omega
  | ⟨1, _⟩ => show 0 = (β (1 : Fin 3)).val; omega
  | ⟨2, _⟩ => show t.val / 12 = (β (2 : Fin 3)).val; omega

theorem final8 (c : Dev nD) : (dats m hO hH 0 c).arrAt 8 (cfgM m hO).N = G8 m c := by
  refine (dats m hO hH 0 c).arrAt_eq_of_covers 8 _ (covers8 m hO) fun t hf y => ?_
  have e0 : ((((cfgM m hO).win 8).blk t).view.emb y (0 : Fin 2)).val = 256 * (t.val % 12) + (y (0 : Fin 2)).val := by blk_simp [idx m hO t]; omega
  have e1 : ((((cfgM m hO).win 8).blk t).view.emb y (1 : Fin 2)).val = 1792 * (t.val / 12) + (y (1 : Fin 2)).val := by blk_simp [idx m hO t]; omega
  refine Eq.trans (b := W4.hcode (Y m c) (256 * (t.val % 12) + (y (0 : Fin 2)).val) (1792 * (t.val / 12) + (y (1 : Fin 2)).val)) ?_ ?_
  · obtain ⟨p, l, hy⟩ := W4.ix2_surj (a := 256) (b := 1792) y
    subst hy
    exact (congrFun (after0_8 m hO hH c t) _).trans (codes m hO hH c t p l)
  · rw [← e0, ← e1]
    rfl

theorem final9 (c : Dev nD) : (dats m hO hH 0 c).arrAt 9 (cfgM m hO).N = G9 m c := by
  refine (dats m hO hH 0 c).arrAt_eq_of_covers 9 _ (covers9 m hO) fun t hf y => ?_
  have h : (y (0 : Fin 3)).val < 1 := (y (0 : Fin 3)).isLt
  have e0 : ((((cfgM m hO).win 9).blk t).view.emb y (0 : Fin 3)).val = t.val % 12 := by blk_simp [idx m hO t]
  have e1 : ((((cfgM m hO).win 9).blk t).view.emb y (2 : Fin 3)).val = 1792 * (t.val / 12) + (y (2 : Fin 3)).val := by blk_simp [idx m hO t]; omega
  have e2 : (1792 * (t.val / 12) + (y (2 : Fin 3)).val) / 224 = 8 * (t.val / 12) + (y (2 : Fin 3)).val / 224 := by omega
  refine Eq.trans (b := W4.hscale (Y m c) (t.val % 12) (8 * (t.val / 12) + (y (2 : Fin 3)).val / 224)) ?_ ?_
  · obtain ⟨l, hy⟩ := W4.row3_surj (n := 1792) y
    subst hy
    exact (congrFun (after0_9 m hO hH c t) _).trans (scales m hO hH c t l)
  · rw [← e2, ← e0, ← e1]
    rfl

include hO hH in
/-- The run: the results hold the codes and the scales, the arguments are unchanged. -/
theorem run_blocks (ρ : Dev nD → PrngReg) : θ_run defs (onTc (τ := τ) (main (F := Ideal))) ⟨m, fun _ => 0, ρ⟩ (fun r => ∀ c : Dev nD,
      r.2.mem ((c.tc : Thread nD τ).loc main_v1_0) = G8 m c
      ∧ r.2.mem ((c.tc : Thread nD τ).loc main_v1_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 8).trans (final8 m hO hH c), ((h.1 c).1 9).trans (final9 m hO hH c), h.2 c⟩)
    (θ_run_and (run_main m ρ hO hH) (unchanged m ρ hO hH))

end Cert.ProjVIdeal.Val
-- ==== Proof.ProjRefHead.lean ====
/-
  The references' scale and codes per head, from any array of projected values: the largest magnitude over a batch's rows and a
  head's lanes (`refMax`), its scale (`refScale`), the codes (`refCodes`) and the scales spread over the lanes (`refScales`).
-/
module

public import proofs.«01_k».proof.Proof.ProjSpec
public import proofs.«01_k».proof.Proof.Gen.ProjVRefIdeal.Value

@[expose] public section

set_option maxRecDepth 16384

noncomputable section

open Idealize.ShloMosaic Idealize.ShloMosaic.TcCoe Idealize.SL.Sem

namespace Cert.W4

open Cert.ProjVRefIdeal Cert.ProjVRefIdeal.Gen

/-- The largest magnitude of each head of each batch. -/
def refMax (y : FVec Ideal S12x256x32x224 .f32) : FVec Ideal S12x32 .f32 :=
  multiReduction .maximumf [1, 3] S12x32 (absf y) 0xFF800000#32 reduces_S12x256x32x224_S12x32 (.inl rfl) rfl

/-- The scales, from the largest magnitudes. -/
def refScale (M : FVec Ideal S12x32 .f32) : FVec Ideal S12x32 .f32 :=
  select (cmpf .oeq M (broadcast S12x32 (Scalar.ofBits .f32 0x00000000#32))) (broadcast S12x32 (Scalar.ofBits .f32 0x3F800000#32))
    (divf M (broadcast S12x32 (Scalar.ofBits .f32 0x43E00000#32)))

/-- The codes, from the values and the scales. -/
def refCodes (y : FVec Ideal S12x256x32x224 .f32) (s : FVec Ideal S12x32 .f32) : FVec Ideal S3072x7168 .fp8e4m3 :=
  shapeCast S3072x7168 (truncf .fp8e4m3 (minimumf (broadcast S12x256x32x224 (Scalar.ofBits .f32 0x43E00000#32))
    (maximumf (broadcast S12x256x32x224 (Scalar.ofBits .f32 0xC3E00000#32))
      (divf y (broadcastTo S12x256x32x224 (shapeCast S12x1x32x1 s shapeCasts_S12x32_S12x1x32x1) broadcasts_S12x1x32x1_S12x256x32x224))))
    bitsLt_fp8e4m3_f32) shapeCasts_S12x256x32x224_S3072x7168

/-- The scales, one per column. -/
def refScales (s : FVec Ideal S12x32 .f32) : FVec Ideal S12x1x7168 .f32 :=
  shapeCast S12x1x7168 (shapeCast S12x7168 (broadcastTo S12x32x224 (shapeCast S12x32x1 s shapeCasts_S12x32_S12x32x1) broadcasts_S12x32x1_S12x32x224)
    shapeCasts_S12x32x224_S12x7168) shapeCasts_S12x7168_S12x1x7168

theorem refScale_apply (M : FVec Ideal S12x32 .f32) (b : Fin 12) (h : Fin 32) : (refScale M (ValueIdx.ix2 b h) : EReal) = hsc (M (ValueIdx.ix2 b h)) := by
  unfold refScale
  pointwise
  change (if (M (ValueIdx.ix2 b h) : EReal) = 0 then (1 : EReal) else Ideal.div (M (ValueIdx.ix2 b h)) (Ideal.ofBits .f32 0x43E00000#32)) = _
  rw [ofBits_448]
  rfl

theorem refCodes_apply (y : FVec Ideal S12x256x32x224 .f32) (s : FVec Ideal S12x32 .f32) (p : Fin 3072) (l : Fin 7168) :
    (refCodes y s (ValueIdx.ix2 p l) : EReal) = min ((448 : ℝ) : EReal) (max ((-448 : ℝ) : EReal)
      (Ideal.div (y (ValueIdx.ix4 ⟨p.val / 256, by have := p.isLt; omega⟩ ⟨p.val % 256, Nat.mod_lt _ (by norm_num)⟩
          ⟨l.val / 224, by have := l.isLt; omega⟩ ⟨l.val % 224, Nat.mod_lt _ (by norm_num)⟩))
        (s (ValueIdx.ix2 ⟨p.val / 256, by have := p.isLt; omega⟩ ⟨l.val / 224, by have := l.isLt; omega⟩)))) := by
  unfold refCodes
  pointwise
  rw [← ofBits_448, ← ofBits_neg448]
  rfl

theorem refScales_apply (s : FVec Ideal S12x32 .f32) (b : Fin 12) (l : Fin 7168) :
    (refScales s (ValueIdx.ix3 b 0 l) : EReal) = s (ValueIdx.ix2 b ⟨l.val / 224, by have := l.isLt; omega⟩) := by
  unfold refScales
  pointwise
  rfl

theorem refMax_le (y : FVec Ideal S12x256x32x224 .f32) (b : Fin 12) (h : Fin 32) (c : EReal) :
    (refMax y (ValueIdx.ix2 b h) : EReal) ≤ c ↔ ∀ (q : Fin 256) (d : Fin 224), mag (y (ValueIdx.ix4 b q h d)) ≤ c := by
  unfold refMax
  rw [show (multiReduction .maximumf [1, 3] S12x32 (absf y) 0xFF800000#32 reduces_S12x256x32x224_S12x32 (.inl rfl) rfl (ValueIdx.ix2 b h) : EReal)
    = (Finset.univ.filter fun i => (reduces_S12x256x32x224_S12x32).drop i = ValueIdx.ix2 b h).fold max (Ideal.ofBits .f32 0xFF800000#32) (fun i => mag (y i))
    from multiReduction_maximumf_eq_fold (F := Ideal) (φ := .f32) (absf y) _ _ _ _ _]
  rw [Finset.fold_max_le, ofBits_neg_inf]
  constructor
  · rintro ⟨-, hh⟩ q d
    refine hh _ (Finset.mem_filter.mpr ⟨Finset.mem_univ _, ?_⟩)
    funext a
    match a with
    | ⟨0, _⟩ => rfl
    | ⟨1, _⟩ => rfl
  · intro hh
    refine ⟨bot_le, fun i hi => ?_⟩
    have hd := (Finset.mem_filter.mp hi).2
    have e0 : i 0 = b := congrFun hd 0
    have e2 : i 2 = h := congrFun hd 1
    have e : i = ValueIdx.ix4 b (i 1) h (i 3) := by
      funext a
      match a with
      | ⟨0, _⟩ => exact e0
      | ⟨1, _⟩ => rfl
      | ⟨2, _⟩ => exact e2
      | ⟨3, _⟩ => rfl
    rw [e]
    exact hh _ _

section
variable (y : FVec Ideal S12x256x32x224 .f32) (Y : Nat → Nat → EReal)
  (hy : ∀ (b : Fin 12) (q : Fin 256) (h : Fin 32) (d : Fin 224), (y (ValueIdx.ix4 b q h d) : EReal) = Y (256 * b.val + q.val) (224 * h.val + d.val))
include hy

theorem head_scale (b : Fin 12) (h : Fin 32) : (refScale (refMax y) (ValueIdx.ix2 b h) : EReal) = hscale Y b.val h.val := by
  have e : (refMax y (ValueIdx.ix2 b h) : EReal) = hmax Y b.val h.val := by
    refine eq_of_forall_ge_iff fun c => ?_
    rw [refMax_le, hmax_le]
    exact ⟨fun hh r hr d hd => by have := hh ⟨r, hr⟩ ⟨d, hd⟩; rwa [hy] at this, fun hh q d => by rw [hy]; exact hh _ q.isLt _ d.isLt⟩
  unfold hscale
  rw [refScale_apply, e]

theorem head_codes (p : Fin 3072) (l : Fin 7168) : (refCodes y (refScale (refMax y)) (ValueIdx.ix2 p l) : EReal) = hcode Y p.val l.val := by
  rw [refCodes_apply, hy, head_scale y Y hy]
  unfold hcode
  dsimp only
  rw [show 256 * (p.val / 256) + p.val % 256 = p.val by omega, show 224 * (l.val / 224) + l.val % 224 = l.val by omega]

theorem head_scales (b : Fin 12) (l : Fin 7168) : (refScales (refScale (refMax y)) (ValueIdx.ix3 b 0 l) : EReal) = hscale Y b.val (l.val / 224) := by
  rw [refScales_apply, head_scale y Y hy]
end

end Cert.W4
-- ==== Proof.ProjVRef.lean ====
/-
  The value projection's reference read over the extended reals: its projected values are `yval` (`refY_apply`, `heads`), and its
  two results end as that array's codes and scales (`final7`, `final8`).
-/
module

public import proofs.«01_k».proof.Proof.ProjRefHead
public import proofs.«01_k».proof.Proof.Gen.ProjVRefIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ProjVRefIdeal.Val

open Cert.ProjVRefIdeal Cert.ProjVRefIdeal.Gen

/-- One summand of the contraction. -/
def term (x : S3072x7168.Idx → BitVec 8) (w : S3584x7168.Idx → BitVec 8) (s : S56x7168.Idx → EReal) (R C k : ℕ) : EReal :=
  (((W4.at2 x R k).toInt : ℝ) : EReal) * W4.wat 3584 w s k C

theorem pay2_apply (x : Vec Ideal S3072x7168 .i8) (xs : Vec Ideal S3072x1 .f32) (w : Vec Ideal S3584x7168 .i8) (s : Vec Ideal S56x7168 .f32)
    (p : Fin 3072) (l : Fin 7168) :
    (k0_pay2 x xs w s (ValueIdx.ix2 p l) : EReal) = (∑ k ∈ Finset.range 7168, term x w s p.val l.val k) * W4.at2 xs p.val 0 := by
  unfold k0_pay2
  refine congrArg₂ (HMul.hMul (α := EReal)) ?_ (W4.at2_eq xs _ p.val 0 rfl rfl)
  refine Eq.trans ?_ (Finset.sum_range_add (term x w s p.val l.val) 3584 3584).symm
  refine congrArg₂ (HAdd.hAdd (α := EReal)) ?_ ?_
  · refine W4.matmul_range (φ₁ := .bf16) (φ₂ := .bf16) none _ _ p l (fun k => term x w s p.val l.val k) fun k => ?_
    pointwise
    refine (congrArg₂ (HMul.hMul (α := EReal)) (congrArg (fun b : BitVec 8 => ((b.toInt : ℝ) : EReal)) (W4.at2_eq x _ p.val k.val rfl rfl)) (congrArg₂ (HMul.hMul (α := EReal))
      (congrArg (fun n : ℤ => ((n : ℝ) : EReal)) (W4.ref_lo_toInt _)) (W4.at2_eq s _ (k.val / 128) l.val rfl rfl))).trans ?_
    show _ * (W4.nibE false (w (ValueIdx.ix2 k l)) * _)
      = _ * (W4.nibE (decide (3584 ≤ k.val)) (W4.at2 w (k.val % 3584) l.val) * _)
    rw [decide_eq_false (by omega), Nat.mod_eq_of_lt k.isLt, W4.at2_ix2 w]
  · refine W4.matmul_range (φ₁ := .bf16) (φ₂ := .bf16) none _ _ p l (fun k => term x w s p.val l.val (3584 + k)) fun k => ?_
    pointwise
    refine (congrArg₂ (HMul.hMul (α := EReal)) (congrArg (fun b : BitVec 8 => ((b.toInt : ℝ) : EReal)) (W4.at2_eq x _ p.val (3584 + k.val) rfl rfl)) (congrArg₂ (HMul.hMul (α := EReal))
      (congrArg (fun n : ℤ => ((n : ℝ) : EReal)) (W4.ref_hi_toInt _)) (W4.at2_eq s _ (28 + k.val / 128) l.val rfl rfl))).trans ?_
    show _ * (W4.nibE true (w (ValueIdx.ix2 k l)) * _)
      = _ * (W4.nibE (decide (3584 ≤ 3584 + k.val)) (W4.at2 w ((3584 + k.val) % 3584) l.val) * W4.at2 s ((3584 + k.val) / 128) l.val)
    have hk := k.isLt
    rw [decide_eq_true (by omega), show (3584 + k.val) % 3584 = k.val by omega, show (3584 + k.val) / 128 = 28 + k.val / 128 by omega, W4.at2_ix2 w]

theorem select_sel (b : BitVec 32) (u v : EReal) : Scalar.select (IntOp.cmpi .eq b 0#32) u v = if b = 0#32 then u else v := by
  by_cases h : b = 0#32
  · subst h; rfl
  · have e : (b == 0#32) = false := by simpa using h
    simp [IntOp.cmpi, Scalar.select, h, e]

/-- The stacked matrix a word selects. -/
abbrev sel (b : BitVec 32) (u v : EReal) : EReal := if b = 0#32 then u else v

theorem pay3_apply (b0 : Vec Ideal S3072x7168 .f32) (ids : Vec Ideal S12x1x1 .i32) (t : Vec Ideal S3072x128 .bf16)
    (u v : Vec Ideal S1x1x128x7168 .bf16) (b : Fin 12) (q : Fin 256) (h : Fin 32) (d : Fin 224) :
    (k0_pay3 b0 ids t u v (ValueIdx.ix4 b q h d) : EReal)
      = W4.at2 (α := EReal) b0 (256 * b.val + q.val) (224 * h.val + d.val)
        + ∑ r ∈ Finset.range 128, W4.at2 (α := EReal) t (256 * b.val + q.val) r
          * sel (ids (ValueIdx.ix3 b 0 0)) (W4.at4 (α := EReal) u 0 0 r (224 * h.val + d.val)) (W4.at4 (α := EReal) v 0 0 r (224 * h.val + d.val)) := by
  unfold k0_pay3
  pointwise
  refine congrArg₂ (HAdd.hAdd (α := EReal)) (W4.at2_eq (α := EReal) b0 _ _ _ ?_ ?_) ?_
  · show b.val * 256 + q.val = _; omega
  · show h.val * 224 + d.val = _; omega
  refine Eq.trans ?_ (Fin.sum_univ_eq_sum_range (fun r => W4.at2 (α := EReal) t (256 * b.val + q.val) r
          * sel (ids (ValueIdx.ix3 b 0 0)) (W4.at4 (α := EReal) u 0 0 r (224 * h.val + d.val)) (W4.at4 (α := EReal) v 0 0 r (224 * h.val + d.val))) 128)
  refine Finset.sum_congr rfl fun r _ => ?_
  refine congrArg₂ (HMul.hMul (α := EReal)) (W4.at2_eq (α := EReal) t _ _ _ ?_ rfl) ((select_sel _ _ _).trans ?_)
  · show b.val * 256 + q.val = _; omega
  · refine congrArg₂ (sel (ids (ValueIdx.ix3 b 0 0))) (W4.at4_eq (α := EReal) u _ _ _ _ _ rfl rfl rfl ?_) (W4.at4_eq (α := EReal) v _ _ _ _ _ rfl rfl rfl ?_)
    · show h.val * 224 + d.val = _; omega
    · show h.val * 224 + d.val = _; omega

/-! ## The loads -/

theorem at2_ld {a b n o : Nat} {α : Type} [Zero α] (A : (⟨2, ![a, b]⟩ : Shape).Idx → α)
    (B : (⟨2, ![a, n]⟩ : Shape).Idx → α) (hB : ∀ x, ∃ y, B x = A y ∧ (y 0).val = (x 0).val ∧ (y 1).val = o + (x 1).val) (i j : Nat) (hj : j < n) (hn : o + n ≤ b) :
    W4.at2 B i j = W4.at2 A i (o + j) := by
  by_cases hi : i < a
  · obtain ⟨y, h, h0, h1⟩ := hB (ValueIdx.ix2 ⟨i, hi⟩ ⟨j, hj⟩)
    exact (W4.at2_ix2 B ⟨i, hi⟩ ⟨j, hj⟩).symm.trans (h.trans (W4.at2_eq A y _ _ h0 h1))
  · unfold W4.at2
    rw [dif_neg (fun h => hi h.1), dif_neg (fun h => hi h.1)]

section
variable (X : S3072x7168.Idx → BitVec 8) (XS : S3072x1.Idx → EReal) (W : S3584x21504.Idx → BitVec 8) (S : S56x21504.Idx → EReal)
  (T : S3072x384.Idx → EReal) (L : S2x3x128x7168.Idx → EReal) (ids : S12.Idx → BitVec 32)

/-- The values of one projection from the arrays: the kernel's. -/
theorem refY_apply (part : Nat) (hp : part < 3) (x : Vec Ideal S3072x7168 .i8) (xs : Vec Ideal S3072x1 .f32) (w : Vec Ideal S3584x7168 .i8)
    (s : Vec Ideal S56x7168 .f32) (i : Vec Ideal S12x1x1 .i32) (t : Vec Ideal S3072x128 .bf16) (u v : Vec Ideal S1x1x128x7168 .bf16)
    (hx : x = X) (hxs : xs = XS) (hw : ∀ x, ∃ y, w x = W y ∧ (y 0).val = (x 0).val ∧ (y 1).val = 7168 * part + (x 1).val)
    (hs : ∀ x, ∃ y, s x = S y ∧ (y 0).val = (x 0).val ∧ (y 1).val = 7168 * part + (x 1).val)
    (hi : ∀ b : Fin 12, i (ValueIdx.ix3 b 0 0) = ids (ValueIdx.ix1 b))
    (ht : ∀ x, ∃ y, t x = T y ∧ (y 0).val = (x 0).val ∧ (y 1).val = 128 * part + (x 1).val)
    (hu : ∀ (k : Fin 128) (l : Fin 7168), u (ValueIdx.ix4 0 0 k l) = W4.at4 L 0 part k.val l.val)
    (hv : ∀ (k : Fin 128) (l : Fin 7168), v (ValueIdx.ix4 0 0 k l) = W4.at4 L 1 part k.val l.val)
    (hids : ∀ b : Fin 12, ids (ValueIdx.ix1 b) = 0#32 ∨ ids (ValueIdx.ix1 b) = 1#32)
    (b : Fin 12) (q : Fin 256) (h : Fin 32) (d : Fin 224) :
    (k0_pay3 (k0_pay2 x xs w s) i t u v (ValueIdx.ix4 b q h d) : EReal)
      = W4.yval X XS W S T L ids part (256 * b.val + q.val) (224 * h.val + d.val) := by
  subst hx hxs
  have hb := b.isLt
  have hq := q.isLt
  have hh := h.isLt
  have hd := d.isLt
  rw [pay3_apply, ← W4.at2_ix2 (α := EReal) (k0_pay2 x xs w s) ⟨256 * b.val + q.val, by omega⟩ ⟨224 * h.val + d.val, by omega⟩, pay2_apply]
  unfold W4.yval
  have eb : (256 * b.val + q.val) / 256 = b.val := by omega
  rw [eb]
  refine congrArg₂ (HAdd.hAdd (α := EReal)) (congrArg₂ (HMul.hMul (α := EReal)) (Finset.sum_congr rfl fun k hk => ?_) rfl) (Finset.sum_congr rfl fun k hk => ?_)
  · refine congrArg₂ (HMul.hMul (α := EReal)) rfl ?_
    unfold W4.wat
    exact congrArg₂ (HMul.hMul (α := EReal)) (congrArg (W4.nibE _) (at2_ld W w hw _ _ (by dsimp only; omega) (by omega))) (at2_ld S s hs _ _ (by dsimp only; omega) (by omega))
  · have hk' := Finset.mem_range.mp hk
    refine congrArg₂ (HMul.hMul (α := EReal)) (at2_ld (α := EReal) T t ht _ _ hk' (by omega)) ?_
    have e : W4.wordAt ids b.val = (ids (ValueIdx.ix1 b)).toNat := (W4.wordAt_eq ids (ValueIdx.ix1 b) b.val rfl).symm
    have h4 : (⟨4, ![1, 1, 128, 7168]⟩ : Shape).Idx := ValueIdx.ix4 0 0 ⟨k, hk'⟩ ⟨224 * h.val + d.val, by omega⟩
    have eu : W4.at4 (α := EReal) u 0 0 k (224 * h.val + d.val) = W4.at4 L 0 part k (224 * h.val + d.val) :=
      (W4.at4_eq (α := EReal) u (ValueIdx.ix4 0 0 ⟨k, hk'⟩ ⟨224 * h.val + d.val, by omega⟩) _ _ _ _ rfl rfl rfl rfl).symm.trans (hu _ _)
    have ev : W4.at4 (α := EReal) v 0 0 k (224 * h.val + d.val) = W4.at4 L 1 part k (224 * h.val + d.val) :=
      (W4.at4_eq (α := EReal) v (ValueIdx.ix4 0 0 ⟨k, hk'⟩ ⟨224 * h.val + d.val, by omega⟩) _ _ _ _ rfl rfl rfl rfl).symm.trans (hv _ _)
    rw [eu, ev, e, hi]
    rcases hids b with h0 | h1
    · rw [h0]; rfl
    · rw [h1]; rfl

end

/-! ## The result arrays -/

variable (m : (ℓ : Loc nD τ sig) → Buf (Elt Ideal) ℓ)

abbrev ids (c : Dev nD) : S12.Idx → BitVec 32 := m ((c : Thread nD τ).loc main_arg0)
abbrev A1 (c : Dev nD) : S3072x7168.Idx → BitVec 8 := m ((c : Thread nD τ).loc main_arg1)
abbrev A2 (c : Dev nD) : S3072x1.Idx → EReal := m ((c : Thread nD τ).loc main_arg2)
abbrev A3 (c : Dev nD) : S3584x21504.Idx → BitVec 8 := m ((c : Thread nD τ).loc main_arg3)
abbrev A4 (c : Dev nD) : S56x21504.Idx → EReal := m ((c : Thread nD τ).loc main_arg4)
abbrev A5 (c : Dev nD) : S3072x384.Idx → EReal := m ((c : Thread nD τ).loc main_arg5)
abbrev A6 (c : Dev nD) : S2x3x128x7168.Idx → EReal := m ((c : Thread nD τ).loc main_arg6)

/-- The projected values. -/
abbrev Y (c : Dev nD) : ℕ → ℕ → EReal := W4.yval (A1 m c) (A2 m c) (A3 m c) (A4 m c) (A5 m c) (A6 m c) (ids m c) 2

theorem V_ids (c : Dev nD) (b : Fin 12) : (V m c main_v0 : S12x1x1.Idx → BitVec 32) (ValueIdx.ix3 b 0 0) = ids m c (ValueIdx.ix1 b) := by
  entry_read
  pointwise
  rfl

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0, 0, 0]
    ∧ win0_7.index t = ![0, 0] ∧ win0_8.index t = ![0, 0, 0] :=
  (by decide +kernel : ∀ t : Fin grid0.N, _)

theorem blk0 (c : Dev nD) (t : Fin cfg0.N) (b : Fin 12) :
    (iblk m c 0 t : Vec Ideal S12x1x1 .i32) (ValueIdx.ix3 b 0 0) = ids m c (ValueIdx.ix1 b) := by
  refine Eq.trans ?_ (V_ids m c b)
  blk_ext [iblk, idx t]

theorem blk1 (c : Dev nD) (t : Fin cfg0.N) : (iblk m c 1 t : Vec Ideal S3072x7168 .i8) = A1 m c := by
  funext x
  blk_ext [iblk, V, idx t]

theorem blk2 (c : Dev nD) (t : Fin cfg0.N) : (iblk m c 2 t : Vec Ideal S3072x1 .f32) = A2 m c := by
  funext x
  blk_ext [iblk, V, idx t]

theorem blk3 (c : Dev nD) (t : Fin cfg0.N) : (iblk m c 3 t : Vec Ideal S3584x21504 .i8) = A3 m c := by
  funext x
  blk_ext [iblk, V, idx t]

theorem blk4 (c : Dev nD) (t : Fin cfg0.N) : (iblk m c 4 t : Vec Ideal S56x21504 .f32) = A4 m c := by
  funext x
  blk_ext [iblk, V, idx t]

theorem blk5 (c : Dev nD) (t : Fin cfg0.N) : (iblk m c 5 t : Vec Ideal S3072x384 .bf16) = A5 m c := by
  funext x
  blk_ext [iblk, V, idx t]

theorem blk6 (c : Dev nD) (t : Fin cfg0.N) : (iblk m c 6 t : Vec Ideal S2x3x128x7168 .bf16) = A6 m c := by
  funext x
  blk_ext [iblk, V, idx t]

theorem pay4_eq (a : FVec Ideal S3072x7168 .f32) (i : Vec Ideal S12x1x1 .i32) (t : Vec Ideal S3072x128 .bf16) (u v : Vec Ideal S1x1x128x7168 .bf16) :
    k0_pay4 a i t u v = W4.refScale (W4.refMax (k0_pay3 a i t u v)) := by
  unfold k0_pay4 W4.refScale W4.refMax
  rfl

theorem pay5_eq (a : FVec Ideal S3072x7168 .f32) (i : Vec Ideal S12x1x1 .i32) (t : Vec Ideal S3072x128 .bf16) (u v : Vec Ideal S1x1x128x7168 .bf16) :
    k0_pay5 a i t u v = W4.refCodes (k0_pay3 a i t u v) (W4.refScale (W4.refMax (k0_pay3 a i t u v))) := by
  rw [← pay4_eq]
  unfold k0_pay5 W4.refCodes
  rfl

theorem out7_apply (x0 : Vec Ideal S12x1x1 .i32) (x1 : Vec Ideal S3072x7168 .i8) (x2 : Vec Ideal S3072x1 .f32) (x3 : Vec Ideal S3584x21504 .i8)
    (x4 : Vec Ideal S56x21504 .f32) (x5 : Vec Ideal S3072x384 .bf16) (x6 : Vec Ideal S2x3x128x7168 .bf16) :
    out0_7 x0 x1 x2 x3 x4 x5 x6 = k0_pay5 (k0_pay6 x0 x1 x2 x3 x4 x5 x6) (View.ld x0 r0_4) (View.ld x5 r0_5) (View.ld x6 r0_6) (View.ld x6 r0_7) := by
  funext y
  unfold out0_7
  frame_out

theorem out8_apply (x0 : Vec Ideal S12x1x1 .i32) (x1 : Vec Ideal S3072x7168 .i8) (x2 : Vec Ideal S3072x1 .f32) (x3 : Vec Ideal S3584x21504 .i8)
    (x4 : Vec Ideal S56x21504 .f32) (x5 : Vec Ideal S3072x384 .bf16) (x6 : Vec Ideal S2x3x128x7168 .bf16) :
    out0_8 x0 x1 x2 x3 x4 x5 x6 = k0_pay1 (k0_pay4 (k0_pay6 x0 x1 x2 x3 x4 x5 x6) (View.ld x0 r0_4) (View.ld x5 r0_5) (View.ld x6 r0_6) (View.ld x6 r0_7)) := by
  funext y
  unfold out0_8
  frame_out

/-- The projected values as the body computes them. -/
abbrev yv (c : Dev nD) (t : Fin cfg0.N) : FVec Ideal S12x256x32x224 .f32 :=
  k0_pay3 (k0_pay6 (iblk m c 0 t) (iblk m c 1 t) (iblk m c 2 t) (iblk m c 3 t) (iblk m c 4 t) (iblk m c 5 t) (iblk m c 6 t))
    (View.ld (iblk m c 0 t : Vec Ideal S12x1x1 .i32) r0_4) (View.ld (iblk m c 5 t : Vec Ideal S3072x384 .bf16) r0_5)
    (View.ld (iblk m c 6 t : Vec Ideal S2x3x128x7168 .bf16) r0_6) (View.ld (iblk m c 6 t : Vec Ideal S2x3x128x7168 .bf16) r0_7)

variable (hids : ∀ (c : Dev nD) (b : Fin 12), ids m c (ValueIdx.ix1 b) = 0#32 ∨ ids m c (ValueIdx.ix1 b) = 1#32)
include hids

theorem heads (c : Dev nD) (t : Fin cfg0.N) (b : Fin 12) (q : Fin 256) (h : Fin 32) (d : Fin 224) :
    (yv m c t (ValueIdx.ix4 b q h d) : EReal) = Y m c (256 * b.val + q.val) (224 * h.val + d.val) := by
  refine refY_apply (A1 m c) (A2 m c) (A3 m c) (A4 m c) (A5 m c) (A6 m c) (ids m c) 2 (by norm_num) _ _ _ _ _ _ _ _ ?_ ?_ ?_ ?_ ?_ ?_ ?_ ?_ (hids c) b q h d
  · funext x
    refine (congrFun (blk1 m c t) _).trans (congrArg (A1 m c) (funext fun a => Fin.ext ?_))
    fin_cases a <;> (show 0 + 1 * _ = _) <;> omega
  · funext x
    refine (congrFun (blk2 m c t) _).trans (congrArg (A2 m c) (funext fun a => Fin.ext ?_))
    fin_cases a <;> (show 0 + 1 * _ = _) <;> omega
  · intro x
    exact ⟨r0_2.idx x, congrFun (blk3 m c t) _, (by show 0 + 1 * _ = _; omega), (by show 14336 + 1 * _ = _; omega)⟩
  · intro x
    exact ⟨r0_3.idx x, congrFun (blk4 m c t) _, (by show 0 + 1 * _ = _; omega), (by show 14336 + 1 * _ = _; omega)⟩
  · intro b
    exact (congrArg (iblk m c 0 t : Vec Ideal S12x1x1 .i32) (funext fun a => Fin.ext (by fin_cases a <;> (show 0 + 1 * _ = _) <;> omega))).trans (blk0 m c t b)
  · intro x
    exact ⟨r0_5.idx x, congrFun (blk5 m c t) _, (by show 0 + 1 * _ = _; omega), (by show 256 + 1 * _ = _; omega)⟩
  · intro k l
    refine (congrFun (blk6 m c t) _).trans (W4.at4_eq (A6 m c) _ _ _ _ _ ?_ ?_ ?_ ?_)
    · rfl
    · rfl
    · show 0 + 1 * k.val = k.val; omega
    · show 0 + 1 * l.val = l.val; omega
  · intro k l
    refine (congrFun (blk6 m c t) _).trans (W4.at4_eq (A6 m c) _ _ _ _ _ ?_ ?_ ?_ ?_)
    · rfl
    · rfl
    · show 0 + 1 * k.val = k.val; omega
    · show 0 + 1 * l.val = l.val; omega

/-- The codes the reference leaves. -/
theorem final7 (c : Dev nD) : (dats m 0 c).arrAt 7 cfg0.N = (fun x => W4.hcode (Y m c) (x 0).val (x 1).val : S3072x7168.Idx → EReal) := by
  refine (dats m 0 c).arrAt_eq_of_covers 7 _ (by decide +kernel) fun t hf y => ?_
  have e0 : ((win0_7.blk t).view.emb y 0).val = (y 0).val := by blk_simp [idx t]
  have e1 : ((win0_7.blk t).view.emb y 1).val = (y 1).val := by blk_simp [idx t]
  have hy : (y : S3072x7168.Idx) = ValueIdx.ix2 (y 0) (y 1) := by funext a; fin_cases a <;> rfl
  rw [after0_7]
  show _ = W4.hcode (Y m c) ((win0_7.blk t).view.emb y 0).val ((win0_7.blk t).view.emb y 1).val
  rw [e0, e1]
  have key := W4.head_codes _ (Y m c) (heads m hids c t) (y 0) (y 1)
  refine Eq.trans ?_ ((congrArg (W4.refCodes (yv m c t) (W4.refScale (W4.refMax (yv m c t)))) hy).trans key)
  blk_simp
  rw [out7_apply, pay5_eq]
  refine congrArg (W4.refCodes (yv m c t) (W4.refScale (W4.refMax (yv m c t)))) ?_
  rfl

/-- The scales the reference leaves. -/
theorem final8 (c : Dev nD) : (dats m 0 c).arrAt 8 cfg0.N = (fun x => W4.hscale (Y m c) (x 0).val ((x 2).val / 224) : S12x1x7168.Idx → EReal) := by
  refine (dats m 0 c).arrAt_eq_of_covers 8 _ (by decide +kernel) fun t hf y => ?_
  have e0 : ((win0_8.blk t).view.emb y 0).val = (y 0).val := by blk_simp [idx t]
  have e2 : ((win0_8.blk t).view.emb y 2).val = (y 2).val := by blk_simp [idx t]
  have h1 : (y 1).val < 1 := (y 1).isLt
  have hy : (y : S12x1x7168.Idx) = ValueIdx.ix3 (y 0) 0 (y 2) := by
    funext a
    fin_cases a
    · rfl
    · exact Fin.ext (show (y 1).val = 0 by omega)
    · rfl
  rw [after0_8]
  show _ = W4.hscale (Y m c) ((win0_8.blk t).view.emb y 0).val (((win0_8.blk t).view.emb y 2).val / 224)
  rw [e0, e2]
  have key := W4.head_scales _ (Y m c) (heads m hids c t) (y 0) (y 2)
  refine Eq.trans ?_ ((congrArg (W4.refScales (W4.refScale (W4.refMax (yv m c t)))) hy).trans key)
  blk_simp
  rw [out8_apply, pay4_eq]
  refine congrArg (W4.refScales (W4.refScale (W4.refMax (yv m c t)))) ?_
  rfl

end Cert.ProjVRefIdeal.Val
-- ==== Proof.ProjVClaim.lean ====
/- The claim about the value projection: kernel and reference end with the same codes and the same scales, at every
   argument whose batch indices name one of the two adapter matrices. -/
module

public import proofs.«01_k».proof.Defs
public import proofs.«01_k».proof.Proof.Gen.Pre_ok_ids_v
public import proofs.«01_k».proof.Proof.Gen.ProjV.Frame
public import proofs.«01_k».proof.Proof.ProjVValue
public import proofs.«01_k».proof.Proof.ProjVRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjVClaim

attribute [local instance] Cert.Pre_ok_ids_v.Gen.facts

/-- A word that is at least zero and below two, as signed numbers, is zero or one. -/
theorem word_of_check (v : BitVec 32) (e : IntOp.andi (IntOp.cmpi .sge v 0#32) (IntOp.cmpi .slt v 2#32) = 1#1) : v = 0#32 ∨ v = 1#32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have h : v.toNat = 0 ∨ v.toNat = 1 := by omega
  exact h.imp (fun h => BitVec.eq_of_toNat_eq h) (fun h => BitVec.eq_of_toNat_eq h)

/-- The precondition read at one batch: its index is zero or one. -/
theorem ids_of_pre {F : FTy → Type} [FloatOps F] (a0 : IVec Cert.Pre_ok_ids_v.S12 32) (a1 : IVec Cert.Pre_ok_ids_v.S3072x7168 8)
    (a2 : FVec F Cert.Pre_ok_ids_v.S3072x1 .f32) (a3 : IVec Cert.Pre_ok_ids_v.S3584x21504 8) (a4 : FVec F Cert.Pre_ok_ids_v.S56x21504 .f32)
    (a5 : FVec F Cert.Pre_ok_ids_v.S3072x384 .bf16) (a6 : FVec F Cert.Pre_ok_ids_v.S2x3x128x7168 .bf16)
    (h : Cert.Pre_ok_ids_v.fn (F := F) a0 a1 a2 a3 a4 a5 a6 = fun _ => 1#1) (x : Cert.Pre_ok_ids_v.S12.Idx) : a0 x = 0#32 ∨ a0 x = 1#32 := by
  have e := congrFun h x
  simp only [Cert.Pre_ok_ids_v.fn, andi, cmpi, broadcastInDim, constantI] at e
  exact word_of_check _ e

theorem toNat_le (v : BitVec 32) (h : v = 0#32 ∨ v = 1#32) : v.toNat ≤ 1 := by
  rcases h with rfl | rfl <;> decide

theorem chk (v : BitVec 32) (h : v = 0#32 ∨ v = 1#32) : Cert.ProjV.k0_chk1 v := by
  have h1 := toNat_le v h
  intro a
  fin_cases a
  · show v.toNat + 1 ≤ 2
    omega
  · show 0 + 1 ≤ 1
    omega
  · show 0 + 128 ≤ 128
    omega
  · show 0 + 1792 ≤ 1792
    omega

theorem chkIdeal (v : BitVec 32) (h : v = 0#32 ∨ v = 1#32) : Cert.ProjVIdeal.k0_chk1 v := by
  have h1 := toNat_le v h
  intro a
  fin_cases a
  · show v.toNat + 1 ≤ 2
    omega
  · show 0 + 1 ≤ 1
    omega
  · show 0 + 128 ≤ 128
    omega
  · show 0 + 1792 ≤ 1792
    omega

section
open Cert.ProjV Cert.ProjV.Gen
variable (m : (ℓ : Loc nD τ sig) → Buf (Elt Bits) ℓ) (h : Cert.Pre_ProjV m)
include h

theorem wordsProjV (x : S12.Idx) : (tbl m 0 : S12.Idx → BitVec 32) x = 0#32 ∨ (tbl m 0 : S12.Idx → BitVec 32) x = 1#32 := by
  have ht : (tbl m 0 : S12.Idx → BitVec 32) = m (((0 : Dev nD) : Thread nD τ).loc main_arg0) := V_main_arg0 m 0
  rw [ht]
  exact ids_of_pre _ _ _ _ _ _ _ (h 0) x

/-- The table never moves a block, so every table is in order. -/
theorem okProjV : Ok m := by
  exact (trivial : True)

/-- The kernel picks one of the two adapter matrices. -/
theorem hypsProjV (hO : Ok m) : Hyps m hO :=
  Hyps.of fun c t => chk _ (wordsProjV m h _)

end

section
open Cert.ProjVIdeal Cert.ProjVIdeal.Gen
variable (m : (ℓ : Loc nD τ sig) → Buf (Elt Ideal) ℓ) (h : Cert.Pre_ProjVIdeal m)
include h

theorem wordsProjVIdeal (x : S12.Idx) : (tbl m 0 : S12.Idx → BitVec 32) x = 0#32 ∨ (tbl m 0 : S12.Idx → BitVec 32) x = 1#32 := by
  have ht : (tbl m 0 : S12.Idx → BitVec 32) = m (((0 : Dev nD) : Thread nD τ).loc main_arg0) := V_main_arg0 m 0
  rw [ht]
  exact ids_of_pre _ _ _ _ _ _ _ (h 0) x

/-- The table never moves a block, so every table is in order. -/
theorem okProjVIdeal : Ok m := by
  exact (trivial : True)

/-- The kernel picks one of the two adapter matrices. -/
theorem hypsProjVIdeal (hO : Ok m) : Hyps m hO :=
  Hyps.of fun c t => chkIdeal _ (wordsProjVIdeal m h _)

end

theorem algebraic : Cert.algebraic_ProjVIdeal_ProjVRefIdeal := by
  intro m g m' g' hpre hagree
  have hO := okProjVIdeal m hpre
  have hH := hypsProjVIdeal m hpre hO
  have hids : ∀ (c : Dev Cert.ProjVRefIdeal.nD) (b : Fin 12), Cert.ProjVRefIdeal.Val.ids m' c (ValueIdx.ix1 b) = 0#32 ∨ Cert.ProjVRefIdeal.Val.ids m' c (ValueIdx.ix1 b) = 1#32 := by
    intro c b
    have e := (hagree c).1
    unfold Cert.ProjVRefIdeal.Val.ids
    rw [e]
    exact ids_of_pre _ _ _ _ _ _ _ (hpre c) _
  have hY : ∀ c, Cert.ProjVRefIdeal.Val.Y m' c = Cert.ProjVIdeal.Val.Y m c := by
    intro c
    obtain ⟨e0, e1, e2, e3, e4, e5, e6⟩ := hagree c
    unfold Cert.ProjVRefIdeal.Val.Y Cert.ProjVRefIdeal.Val.ids Cert.ProjVRefIdeal.Val.A1 Cert.ProjVRefIdeal.Val.A2 Cert.ProjVRefIdeal.Val.A3
      Cert.ProjVRefIdeal.Val.A4 Cert.ProjVRefIdeal.Val.A5 Cert.ProjVRefIdeal.Val.A6
    rw [e0, e1, e2, e3, e4, e5, e6]
  refine ⟨fun c => Cert.ProjVIdeal.Val.G8 m c, fun c => Cert.ProjVIdeal.Val.G9 m c,
    Cert.ProjVIdeal.Val.run_blocks m hO hH g,
    (θ_run Cert.ProjVRefIdeal.defs _ _).mono (fun r h c => ?_) (Cert.ProjVRefIdeal.Value.run_blocks (F := Ideal) m' g')⟩
  obtain ⟨h0, h1, hk⟩ := h c
  refine ⟨h0.trans ((Cert.ProjVRefIdeal.Val.final7 m' hids c).trans ?_), h1.trans ((Cert.ProjVRefIdeal.Val.final8 m' hids c).trans ?_), hk⟩
  · rw [hY c]
    rfl
  · rw [hY c]
    rfl

end Cert.ProjVClaim

end
-- ==== Proof.ProjRot.lean ====
/-
The rotary embedding the query and key projections apply: the rotated value at natural-number positions (`rot`), and a
block as the kernels rotate it, by two lane rotations and a choice between them (`rotY`, `rotY_rot`).
-/
module

public import proofs.«01_k».proof.Proof.ProjSpec

@[expose] public section

set_option maxRecDepth 16384

noncomputable section

open Idealize.ShloMosaic Idealize.ShloMosaic.TcCoe Idealize.SL.Sem

namespace Cert.W4

/-- Each head of 224 columns is two halves, and a column is turned against its fellow in the other half. -/
def rot (Y C S : Nat → Nat → EReal) (R c : Nat) : EReal :=
  if c % 224 < 112 then Y R c * C R (c % 112) + Y R (c + 112) * -(S R (c % 112)) else Y R c * C R (c % 112) + Y R (c - 112) * S R (c % 112)

/-- The table of sines at a lane: negated on the lower half of each head. -/
def signed (S : Nat → Nat → EReal) (R l : Nat) : EReal := if l % 224 < 112 then -(S R (l % 112)) else S R (l % 112)

/-- Whether a lane is in the lower half of its head, as the kernels work it out. -/
def lowHalf : IVec ⟨2, ![1, 1792]⟩ 1 :=
  have v24 : BitVec 32 := Scalar.select (Scalar.cmpi .eq 224#32 0#32) 1#32 224#32
  have v26 : IVec ⟨2, ![1, 1792]⟩ 32 := remsi (iota .tc ⟨2, ![1, 1792]⟩ 32 [1] (by decide)) (broadcast ⟨2, ![1, 1792]⟩ v24)
  have v28 : IVec ⟨2, ![1, 1792]⟩ 1 := cmpi .ne v26 (broadcast ⟨2, ![1, 1792]⟩ 0#32)
  have v30 : IVec ⟨2, ![1, 1792]⟩ 1 := cmpi .slt v26 (broadcast ⟨2, ![1, 1792]⟩ 0#32)
  have v33 : IVec ⟨2, ![1, 1792]⟩ 1 := broadcastTo ⟨2, ![1, 1792]⟩ (broadcast ⟨2, ![1, 1792]⟩ (Scalar.cmpi .slt v24 0#32) : IVec ⟨2, ![1, 1792]⟩ 1) (by decide)
  have v38 : IVec ⟨2, ![1, 1792]⟩ 32 := select (andi (xori v30 v33) v28) (addi v26 (broadcast ⟨2, ![1, 1792]⟩ v24)) v26
  cmpi .slt v38 (broadcast ⟨2, ![1, 1792]⟩ 112#32)

theorem lowHalf_apply : ∀ l : Fin 1792, lowHalf (ValueIdx.ix2 0 l) = if l.val % 224 < 112 then 1#1 else 0#1 := by
  decide +kernel

theorem at2_at {a b : Nat} {α : Type} [Zero α] (A : (⟨2, ![a, b]⟩ : Shape).Idx → α) (i : Fin a) (e : Nat) (he : e < b) (j : Nat) (h : e = j) :
    A (ValueIdx.ix2 i ⟨e, he⟩) = at2 A i.val j := by
  subst h
  exact (at2_ix2 A i ⟨e, he⟩).symm ▸ rfl

/-- Two arrays of 112 columns set side by side in turn, four times. -/
theorem eight_apply (u v : (⟨2, ![3072, 112]⟩ : Shape).Idx → EReal)
    (h : Shape.Concatenates [⟨2, ![3072, 112]⟩, ⟨2, ![3072, 112]⟩, ⟨2, ![3072, 112]⟩, ⟨2, ![3072, 112]⟩, ⟨2, ![3072, 112]⟩, ⟨2, ![3072, 112]⟩, ⟨2, ![3072, 112]⟩, ⟨2, ![3072, 112]⟩] ⟨2, ![3072, 896]⟩ 1)
    (x : (⟨2, ![3072, 896]⟩ : Shape).Idx) :
    concatenate ⟨2, ![3072, 896]⟩ 1 [⟨⟨2, ![3072, 112]⟩, u⟩, ⟨⟨2, ![3072, 112]⟩, v⟩, ⟨⟨2, ![3072, 112]⟩, u⟩, ⟨⟨2, ![3072, 112]⟩, v⟩, ⟨⟨2, ![3072, 112]⟩, u⟩, ⟨⟨2, ![3072, 112]⟩, v⟩, ⟨⟨2, ![3072, 112]⟩, u⟩, ⟨⟨2, ![3072, 112]⟩, v⟩] h x
      = if (x 1).val % 224 < 112 then at2 u (x 0).val ((x 1).val % 112) else at2 v (x 0).val ((x 1).val % 112) := by
  have hx : (x 1).val < 896 := (x 1).isLt
  pointwise
  repeat' split
  all_goals first
    | exact absurd ‹_› (by omega)
    | exact at2_at _ _ _ _ _ (by omega)

/-- A table of 896 columns, twice side by side. -/
def twice (t : FVec Ideal ⟨2, ![256, 896]⟩ .f32) : FVec Ideal ⟨2, ![256, 1792]⟩ .f32 :=
  have v : FVec Ideal ⟨2, ![256, 896]⟩ .f32 := shapeCast ⟨2, ![256, 896]⟩ t (by decide)
  concatenate ⟨2, ![256, 1792]⟩ 1 [⟨⟨2, ![256, 896]⟩, v⟩, ⟨⟨2, ![256, 896]⟩, v⟩]
    (by decide : Shape.Concatenates [⟨2, ![256, 896]⟩, ⟨2, ![256, 896]⟩] ⟨2, ![256, 1792]⟩ 1)

theorem twice_apply (t : FVec Ideal ⟨2, ![256, 896]⟩ .f32) (p : Fin 256) (l : Fin 1792) :
    (twice t (ValueIdx.ix2 p l) : EReal) = t (ValueIdx.ix2 p ⟨l.val % 896, Nat.mod_lt _ (by norm_num)⟩) := by
  have hl := l.isLt
  unfold twice
  pointwise
  split
  · rename_i h
    have h : l.val < 896 := h
    refine congrArg t (congrArg (ValueIdx.ix2 p) (Fin.ext ?_))
    show l.val = l.val % 896
    omega
  · rename_i h
    have h : ¬l.val < 896 := h
    refine congrArg t (congrArg (ValueIdx.ix2 p) (Fin.ext ?_))
    show l.val - 896 = l.val % 896
    omega

/-- A rotated block, from the two tables of 896 columns. -/
def rotY (y : FVec Ideal ⟨2, ![256, 1792]⟩ .f32) (ct st : FVec Ideal ⟨2, ![256, 896]⟩ .f32) : FVec Ideal ⟨2, ![256, 1792]⟩ .f32 :=
  addf (mulf y (twice ct))
    (mulf (select (broadcastTo ⟨2, ![256, 1792]⟩ (shapeCast ⟨2, ![1, 1792]⟩ lowHalf (by decide)) (by decide))
        (dynamicRotate 1 1680#32 none y (by decide)) (dynamicRotate 1 112#32 none y (by decide)) : FVec Ideal ⟨2, ![256, 1792]⟩ .f32)
      (twice st))

/-- A block of values as it is stored, over the reals unchanged. -/
def toBf16 (y : FVec Ideal ⟨2, ![256, 1792]⟩ .f32) : FVec Ideal ⟨2, ![256, 1792]⟩ .bf16 := truncf .bf16 y (by decide)

theorem rotate_apply (y : FVec Ideal ⟨2, ![256, 1792]⟩ .f32) (n : BitVec 32) (h : (⟨2, ![256, 1792]⟩ : Shape).Rotates 1 none) (p : Fin 256) (l k : Fin 1792)
    (hk : k.val = (l.val + 1792 - n.toNat % 1792) % 1792) : (dynamicRotate 1 n none y h (ValueIdx.ix2 p l) : EReal) = y (ValueIdx.ix2 p k) := by
  unfold dynamicRotate
  refine congrArg y (funext fun b => Fin.ext ?_)
  fin_cases b
  · rfl
  · exact hk.symm

/-- A block rotated by the kernel is the rotated values, when its tables hold the cosines and the signed sines. -/
theorem rotY_rot (y : FVec Ideal ⟨2, ![256, 1792]⟩ .f32) (ct st : FVec Ideal ⟨2, ![256, 896]⟩ .f32) (Y C S : Nat → Nat → EReal) (b n : Nat)
    (hy : ∀ (p : Fin 256) (l : Fin 1792), (y (ValueIdx.ix2 p l) : EReal) = Y (256 * b + p.val) (1792 * n + l.val))
    (hc : ∀ (p : Fin 256) (l : Fin 896), (ct (ValueIdx.ix2 p l) : EReal) = C (256 * b + p.val) (l.val % 112))
    (hs : ∀ (p : Fin 256) (l : Fin 896), (st (ValueIdx.ix2 p l) : EReal) = signed S (256 * b + p.val) l.val)
    (p : Fin 256) (l : Fin 1792) : (rotY y ct st (ValueIdx.ix2 p l) : EReal) = rot Y C S (256 * b + p.val) (1792 * n + l.val) := by
  have hl := l.isLt
  have e1 : (1792 * n + l.val) % 224 = l.val % 224 := by omega
  have e2 : (1792 * n + l.val) % 112 = l.val % 112 := by omega
  have e3 : l.val % 896 % 224 = l.val % 224 := by omega
  have e4 : l.val % 896 % 112 = l.val % 112 := by omega
  have hm : (broadcastTo ⟨2, ![256, 1792]⟩ (shapeCast ⟨2, ![1, 1792]⟩ lowHalf (by decide)) (by decide) : IVec ⟨2, ![256, 1792]⟩ 1) (ValueIdx.ix2 p l)
      = if l.val % 224 < 112 then 1#1 else 0#1 := by
    refine Eq.trans ?_ (lowHalf_apply l)
    pointwise
    rfl
  refine (?_ : _ = (y (ValueIdx.ix2 p l) : EReal) * (twice ct (ValueIdx.ix2 p l) : EReal)
    + (Scalar.select ((broadcastTo ⟨2, ![256, 1792]⟩ (shapeCast ⟨2, ![1, 1792]⟩ lowHalf (by decide)) (by decide) : IVec ⟨2, ![256, 1792]⟩ 1) (ValueIdx.ix2 p l))
      (dynamicRotate 1 1680#32 none y (by decide) (ValueIdx.ix2 p l) : EReal) (dynamicRotate 1 112#32 none y (by decide) (ValueIdx.ix2 p l) : EReal)) * (twice st (ValueIdx.ix2 p l) : EReal)).trans ?_
  · rfl
  rw [hm, twice_apply, twice_apply, hc, hs, hy]
  unfold rot signed
  dsimp only
  rw [e1, e2, e3, e4]
  by_cases h : l.val % 224 < 112
  · simp only [if_pos h]
    rw [rotate_apply y 1680#32 _ p l ⟨l.val + 112, by omega⟩ (by show l.val + 112 = (l.val + 1792 - 1680) % 1792; omega), hy]
    rfl
  · simp only [if_neg h]
    rw [rotate_apply y 112#32 _ p l ⟨l.val - 112, by omega⟩ (by show l.val - 112 = (l.val + 1792 - 112) % 1792; omega), hy]
    have e5 : 1792 * n + (l.val - 112) = 1792 * n + l.val - 112 := by omega
    rw [← e5]
    rfl

/-! ## The reference's rotation -/

/-- The rotation as the reference writes it: each head's halves turned against each other. -/
def refRot (y : FVec Ideal ⟨4, ![12, 256, 32, 224]⟩ .f32) (cos sin : FVec Ideal ⟨2, ![3072, 112]⟩ .f32) : FVec Ideal ⟨4, ![12, 256, 32, 224]⟩ .f32 :=
  have c : FVec Ideal ⟨4, ![12, 256, 1, 112]⟩ .f32 := shapeCast ⟨4, ![12, 256, 1, 112]⟩ cos (by decide)
  have s : FVec Ideal ⟨4, ![12, 256, 1, 112]⟩ .f32 := shapeCast ⟨4, ![12, 256, 1, 112]⟩ sin (by decide)
  have x1 : FVec Ideal ⟨4, ![12, 256, 32, 112]⟩ .f32 := extractStridedSlice ⟨4, ![12, 256, 32, 112]⟩ ![0, 0, 0, 0] y (by decide)
  have x2 : FVec Ideal ⟨4, ![12, 256, 32, 112]⟩ .f32 := extractStridedSlice ⟨4, ![12, 256, 32, 112]⟩ ![0, 0, 0, 112] y (by decide)
  have lo : FVec Ideal ⟨4, ![12, 256, 32, 112]⟩ .f32 := subf (mulf x1 (broadcastTo ⟨4, ![12, 256, 32, 112]⟩ c (by decide))) (mulf x2 (broadcastTo ⟨4, ![12, 256, 32, 112]⟩ s (by decide)))
  have hi : FVec Ideal ⟨4, ![12, 256, 32, 112]⟩ .f32 := addf (mulf x2 (broadcastTo ⟨4, ![12, 256, 32, 112]⟩ c (by decide))) (mulf x1 (broadcastTo ⟨4, ![12, 256, 32, 112]⟩ s (by decide)))
  concatenate ⟨4, ![12, 256, 32, 224]⟩ 3 [⟨⟨4, ![12, 256, 32, 112]⟩, lo⟩, ⟨⟨4, ![12, 256, 32, 112]⟩, hi⟩]
    (by decide : Shape.Concatenates [⟨4, ![12, 256, 32, 112]⟩, ⟨4, ![12, 256, 32, 112]⟩] ⟨4, ![12, 256, 32, 224]⟩ 3)

theorem refRot_apply (y : FVec Ideal ⟨4, ![12, 256, 32, 224]⟩ .f32) (cos sin : FVec Ideal ⟨2, ![3072, 112]⟩ .f32) (Y : Nat → Nat → EReal)
    (hy : ∀ (b : Fin 12) (q : Fin 256) (h : Fin 32) (d : Fin 224), (y (ValueIdx.ix4 b q h d) : EReal) = Y (256 * b.val + q.val) (224 * h.val + d.val))
    (b : Fin 12) (q : Fin 256) (h : Fin 32) (d : Fin 224) :
    (refRot y cos sin (ValueIdx.ix4 b q h d) : EReal)
      = rot Y (at2 (α := EReal) cos) (at2 (α := EReal) sin) (256 * b.val + q.val) (224 * h.val + d.val) := by
  have hd := d.isLt
  have e1 : (224 * h.val + d.val) % 224 = d.val := by omega
  unfold refRot rot
  pointwise
  rw [e1]
  have er : b.val * 256 + q.val = 256 * b.val + q.val := by omega
  by_cases hlt : d.val < 112
  · rw [if_pos hlt, dif_pos (show (ValueIdx.ix4 b q h d 3).val < 112 from hlt), sub_eq_add_neg, ← mul_neg]
    have e2 : (224 * h.val + d.val) % 112 = d.val := by omega
    rw [e2]
    refine congrArg₂ (HAdd.hAdd (α := EReal)) (congrArg₂ (HMul.hMul (α := EReal)) (hy b q h d) (at2_eq (α := EReal) cos _ _ _ er rfl))
      (congrArg₂ (HMul.hMul (α := EReal)) ((hy b q h ⟨112 + d.val, by omega⟩).trans ?_) (congrArg (fun v : EReal => -v) (at2_eq (α := EReal) sin _ _ _ er rfl)))
    exact congrArg (Y _) (by dsimp only; omega)
  · rw [if_neg hlt, dif_neg (show ¬(ValueIdx.ix4 b q h d 3).val < 112 from hlt)]
    have e2 : (224 * h.val + d.val) % 112 = d.val - 112 := by omega
    rw [e2]
    refine congrArg₂ (HAdd.hAdd (α := EReal)) (congrArg₂ (HMul.hMul (α := EReal)) ((hy b q h ⟨112 + (d.val - 112), by omega⟩).trans ?_) (at2_eq (α := EReal) cos _ _ _ er rfl))
      (congrArg₂ (HMul.hMul (α := EReal)) ((hy b q h ⟨d.val - 112, by omega⟩).trans ?_) (at2_eq (α := EReal) sin _ _ _ er rfl))
    · exact congrArg (Y _) (by dsimp only; omega)
    · exact congrArg (Y _) (by dsimp only; omega)

/-- Heads laid flat, as the reference stores them. -/
def refFlat (y : FVec Ideal ⟨4, ![12, 256, 32, 224]⟩ .f32) : FVec Ideal ⟨2, ![3072, 7168]⟩ .bf16 :=
  truncf .bf16 (shapeCast ⟨2, ![3072, 7168]⟩ y (by decide) : FVec Ideal ⟨2, ![3072, 7168]⟩ .f32) (by decide)

theorem refFlat_apply (y : FVec Ideal ⟨4, ![12, 256, 32, 224]⟩ .f32) (Y : Nat → Nat → EReal)
    (hy : ∀ (b : Fin 12) (q : Fin 256) (h : Fin 32) (d : Fin 224), (y (ValueIdx.ix4 b q h d) : EReal) = Y (256 * b.val + q.val) (224 * h.val + d.val))
    (p : Fin 3072) (l : Fin 7168) : (refFlat y (ValueIdx.ix2 p l) : EReal) = Y p.val l.val := by
  have hp := p.isLt
  have hl := l.isLt
  have e : (refFlat y (ValueIdx.ix2 p l) : EReal) = y (ValueIdx.ix4 ⟨p.val / 256, by omega⟩ ⟨p.val % 256, by omega⟩ ⟨l.val / 224, by omega⟩ ⟨l.val % 224, by omega⟩) := by
    unfold refFlat
    pointwise
    rfl
  rw [e, hy]
  dsimp only
  rw [show 256 * (p.val / 256) + p.val % 256 = p.val by omega, show 224 * (l.val / 224) + l.val % 224 = l.val by omega]

end Cert.W4
-- ==== Proof.ProjKKernel.lean ====
/-
  What a point of the key projection leaves in its scratch and its two result blocks, in the values the shared lemmas name.
-/
module

public import proofs.«01_k».proof.Proof.ProjRot
public import proofs.«01_k».proof.Proof.Gen.ProjKIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjKIdeal.Val

open Cert.ProjKIdeal Cert.ProjKIdeal.Gen

section Point
variable (c : Dev nD) (i : grid0.Coords) (arg3 : Memref sig .tc .vmem S256x7168 .i8) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S2x1x128x1792 .bf16) (harg8 : arg8.IsWhole) (arg9 : Memref sig .tc .vmem S256x896 .f32) (harg9 : arg9.IsWhole) (arg10 : Memref sig .tc .vmem S256x896 .f32) (harg10 : arg10.IsWhole) (arg11 : Memref sig .tc .vmem S256x1792 .fp8e4m3) (harg11 : arg11.IsWhole) (arg12 : Memref sig .tc .vmem S1x1x1792 .f32) (harg12 : arg12.IsWhole) (arg13 : Memref sig .tc .vmem S7168x1792 .bf16) (harg13 : arg13.IsWhole)
  (x0 : Vec Ideal S256x7168 .i8) (x1 : Vec Ideal S256x1 .f32) (x2 : Vec Ideal S3584x1792 .i8) (x3 : Vec Ideal S56x1792 .f32) (x4 : Vec Ideal S256x128 .bf16) (x5 : Vec Ideal S2x1x128x1792 .bf16) (x6 : Vec Ideal S256x896 .f32) (x7 : Vec Ideal S256x896 .f32) (xt0 : TbBuf0 (F := Ideal) c tbM0_0) (xs0 : Vec Ideal S7168x1792 .bf16)
  (hw : k0_chk1 (tbM0_0.view.readAt (Elt Ideal) (Rect.unit (s := S12) (k0_off1 i) S1.size (k0_off1_inb i)).toLoadRect xt0 (Shape.Idx.first (numel1_S1.symm ▸ Nat.one_pos))))

/-- The batch's matrix among the two stacked ones, as the point reads it. -/
abbrev pick : Vec Ideal S1x1x128x1792 .bf16 :=
  View.ld x5 (Rect.unit (k0_off2 (View.ld (View.read (Elt Ideal) (View.whole main_arg0) xt0) (Rect.unit (k0_off1 i) ![1] (k0_off1_inb i))
    (Shape.Idx.first (numel1_S1.symm ▸ Nat.one_pos)))) ![1, 1, 128, 1792] hw)

/-- The weight block, whole, as the first point of a column block leaves it. -/
abbrev wblk : Vec Ideal S7168x1792 .bf16 := W4.wfull 3584 x2 x3

set_option maxHeartbeats 1000000 in
theorem pieces (hc : cond0_0 i) : View.PiecesOf (wblk x2 x3) (kernelRun0_A (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw).2.2.1 := by
  have hi := fun k : Fin 28 => W4.proj_hi x2 x3 (128 * k.val) (3584 + 128 * k.val) 28 k.val rfl (by omega) (W4.inb2 (by omega)) (W4.inb2 (by decide)) (W4.inb2 (by omega)) (W4.row_slices k)
      bitcasts_S128x1792_w8_S32x1792_w32 bitcasts_S32x1792_w32_S128x1792_w8 shapeCasts_S1x1792_S1x1792 broadcasts_S1x1792_S128x1792 bitsLt_bf16_f32 shapeCasts_S128x1792_S128x1792
  have lo := fun k : Fin 28 => W4.proj_lo x2 x3 (128 * k.val) (128 * k.val) 0 k.val rfl (by omega) (W4.inb2 (by omega)) (W4.inb2 (by decide)) (W4.inb2 (by omega)) (W4.row_slices k)
      bitcasts_S128x1792_w8_S32x1792_w32 bitcasts_S32x1792_w32_S128x1792_w8 shapeCasts_S1x1792_S1x1792 broadcasts_S1x1792_S128x1792 bitsLt_bf16_f32 shapeCasts_S128x1792_S128x1792
  frame_out
  dsimp only [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  dsimp only [W4.widenW] at hi lo
  exact W4.all_groups hi lo

/-- What a point writes, given the block's weights `W`: the projected block, rotated. -/
abbrev pblk (W : Vec Ideal S7168x1792 .bf16) : FVec Ideal S256x1792 .f32 := W4.projY x0 W x4 (pick c i x5 xt0 hw) x1
abbrev yblk (W : Vec Ideal S7168x1792 .bf16) : FVec Ideal S256x1792 .f32 := W4.rotY (pblk c i x0 x1 x4 x5 xt0 hw W) x6 x7

theorem out8_B (hc : ¬cond0_0 i) : out0_B_8 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 xs0 hw
    = W4.headCodes (yblk c i x0 x1 x4 x5 x6 x7 xt0 hw xs0) (W4.headScale (W4.colMax (yblk c i x0 x1 x4 x5 x6 x7 xt0 hw xs0))) := by
  frame_out
  rfl

theorem out9_B (hc : ¬cond0_0 i) : out0_B_9 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 xs0 hw
    = shapeCast S1x1x1792 (W4.headScale (W4.colMax (yblk c i x0 x1 x4 x5 x6 x7 xt0 hw xs0))) shapeCasts_S1x1792_S1x1x1792 := by
  frame_out
  rfl

theorem sout_B (hc : ¬cond0_0 i) : sout0_B_0 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 xs0 hw = xs0 := rfl

theorem out8_A (hc : cond0_0 i) : out0_A_8 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw
    = W4.headCodes (yblk c i x0 x1 x4 x5 x6 x7 xt0 hw (wblk x2 x3)) (W4.headScale (W4.colMax (yblk c i x0 x1 x4 x5 x6 x7 xt0 hw (wblk x2 x3)))) := by
  have hp := pieces c i arg3 harg3 arg4 harg4 arg5 harg5 arg6 harg6 arg7 harg7 arg8 harg8 arg9 harg9 arg10 harg10 arg11 harg11 arg12 harg12 arg13 harg13 x0 x1 x2 x3 x4 x5 x6 x7 xt0 hw hc
  frame_out at hp
  frame_out
  refine (congrArg (fun W => k0_pay3 (F := Ideal) (k0_pay101 (k0_pay95 x0 W x4 (pick c i x5 xt0 hw) x1) (k0_pay96 x6) (k0_pay97 x7) (Scalar.select (Scalar.cmpi .eq 224#32 0#32) 1#32 224#32) k0_pay98 k0_pay99 k0_pay100 0#32) (k0_pay102 (k0_pay95 x0 W x4 (pick c i x5 xt0 hw) x1) (k0_pay96 x6) (k0_pay97 x7) (Scalar.select (Scalar.cmpi .eq 224#32 0#32) 1#32 224#32) k0_pay98 k0_pay99 k0_pay100 0#32) k0_pay103 (iota Kind.tc S8x1792 32 [0] iota_S8x1792_d0_w32)) (W4.read_pieces (S := S7168x1792) _ _ W4.hz2 _ S128x1792.size ?_ (wblk x2 x3) ?_)).trans ?_
  · sl_kernel_rfl
  · exact hp
  · rfl

theorem out9_A (hc : cond0_0 i) : out0_A_9 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw
    = shapeCast S1x1x1792 (W4.headScale (W4.colMax (yblk c i x0 x1 x4 x5 x6 x7 xt0 hw (wblk x2 x3)))) shapeCasts_S1x1792_S1x1x1792 := by
  have hp := pieces c i arg3 harg3 arg4 harg4 arg5 harg5 arg6 harg6 arg7 harg7 arg8 harg8 arg9 harg9 arg10 harg10 arg11 harg11 arg12 harg12 arg13 harg13 x0 x1 x2 x3 x4 x5 x6 x7 xt0 hw hc
  frame_out at hp
  frame_out
  refine (congrArg (fun W => k0_pay2 (F := Ideal) (k0_pay102 (k0_pay95 x0 W x4 (pick c i x5 xt0 hw) x1) (k0_pay96 x6) (k0_pay97 x7) (Scalar.select (Scalar.cmpi .eq 224#32 0#32) 1#32 224#32) k0_pay98 k0_pay99 k0_pay100 0#32) k0_pay103 (iota Kind.tc S8x1792 32 [0] iota_S8x1792_d0_w32)) (W4.read_pieces (S := S7168x1792) _ _ W4.hz2 _ S128x1792.size ?_ (wblk x2 x3) ?_)).trans ?_
  · sl_kernel_rfl
  · exact hp
  · rfl

theorem sout_A (hc : cond0_0 i) : sout0_A_0 (F := Ideal) c i arg3 harg3 arg4 harg4 arg5 harg5 arg6 harg6 arg7 harg7 arg8 harg8 arg9 harg9 arg10 harg10 arg11 harg11 arg12 harg12 arg13 harg13 hc x0 x1 x2 x3 x4 x5 x6 x7 xt0 hw = wblk x2 x3 := by
  unfold sout0_A_0
  refine (View.read_writes_junk_eq_canon _ _).trans (funext fun y => View.canon_apply_of_pieces _ _ (pieces c i arg3 harg3 arg4 harg4 arg5 harg5 arg6 harg6 arg7 harg7 arg8 harg8 arg9 harg9 arg10 harg10 arg11 harg11 arg12 harg12 arg13 harg13 x0 x1 x2 x3 x4 x5 x6 x7 xt0 hw hc).mem y (scover0_A_0 c i arg3 harg3 arg4 harg4 arg5 harg5 arg6 harg6 arg7 harg7 arg8 harg8 arg9 harg9 arg10 harg10 arg11 harg11 arg12 harg12 arg13 harg13 hc x0 x1 x2 x3 x4 x5 x6 x7 xt0 hw y))

end Point

end Cert.ProjKIdeal.Val
-- ==== Proof.ProjKValue.lean ====
/-
  The key projection kernel over its whole grid: the blocks its points read, the unpacked weights its scratch keeps from a
  column block's first point on (`scratch`), and the arrays its two results end as (`final8`, `final9`, `run_blocks`).
-/
module

public import proofs.«01_k».proof.Proof.ProjKKernel
public import proofs.«01_k».proof.Proof.ProjSpec
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.ProjKIdeal.Val

open Cert.ProjKIdeal Cert.ProjKIdeal.Gen

variable (m : (ℓ : Loc nD τ sig) → Buf (Elt Ideal) ℓ) (hO : Ok m) (hH : Hyps m hO)

/-! ## The blocks -/

theorem idx0 : ∀ t : Fin grid0.N, cc0_transform_0 (grid0.coords t) = ![t.val % 12, 0] ∧ cc0_transform_1 (grid0.coords t) = ![t.val % 12, 0]
    ∧ cc0_transform_2 (grid0.coords t) = ![0, 4 + t.val / 12] ∧ cc0_transform_3 (grid0.coords t) = ![0, 4 + t.val / 12]
    ∧ cc0_transform_4 (grid0.coords t) = ![t.val % 12, 1] ∧ cc0_transform_5 (grid0.coords t) = ![0, 1, 0, t.val / 12]
    ∧ cc0_transform_6 (grid0.coords t) = ![t.val % 12, 0] ∧ cc0_transform_7 (grid0.coords t) = ![t.val % 12, 0]
    ∧ cc0_transform_8 (grid0.coords t) = ![t.val % 12, t.val / 12] ∧ cc0_transform_9 (grid0.coords t) = ![t.val % 12, 0, t.val / 12]
    ∧ (grid0.coords t 1).val = t.val % 12 :=
  (by decide +kernel : ∀ t : Fin grid0.N, _)

theorem idx (t : Fin (cfgM m hO).N) : ((cfgM m hO).win 0).index t = ![t.val % 12, 0] ∧ ((cfgM m hO).win 1).index t = ![t.val % 12, 0]
    ∧ ((cfgM m hO).win 2).index t = ![0, 4 + t.val / 12] ∧ ((cfgM m hO).win 3).index t = ![0, 4 + t.val / 12]
    ∧ ((cfgM m hO).win 4).index t = ![t.val % 12, 1] ∧ ((cfgM m hO).win 5).index t = ![0, 1, 0, t.val / 12]
    ∧ ((cfgM m hO).win 6).index t = ![t.val % 12, 0] ∧ ((cfgM m hO).win 7).index t = ![t.val % 12, 0]
    ∧ ((cfgM m hO).win 8).index t = ![t.val % 12, t.val / 12] ∧ ((cfgM m hO).win 9).index t = ![t.val % 12, 0, t.val / 12] := by
  obtain ⟨h0, h1, h2, h3, h4, h5, h6, h7, h8, h9, -⟩ := idx0 t
  exact ⟨h0, h1, h2, h3, h4, h5, h6, h7, h8, h9⟩

/-- The arguments. -/
abbrev ids (c : Dev nD) : S12.Idx → BitVec 32 := m ((c : Thread nD τ).loc main_arg0)
abbrev A1 (c : Dev nD) : S3072x7168.Idx → BitVec 8 := m ((c : Thread nD τ).loc main_arg1)
abbrev A2 (c : Dev nD) : S3072x1.Idx → EReal := m ((c : Thread nD τ).loc main_arg2)
abbrev A3 (c : Dev nD) : S3584x21504.Idx → BitVec 8 := m ((c : Thread nD τ).loc main_arg3)
abbrev A4 (c : Dev nD) : S56x21504.Idx → EReal := m ((c : Thread nD τ).loc main_arg4)
abbrev A5 (c : Dev nD) : S3072x384.Idx → EReal := m ((c : Thread nD τ).loc main_arg5)
abbrev A6 (c : Dev nD) : S2x3x128x7168.Idx → EReal := m ((c : Thread nD τ).loc main_arg6)

abbrev A7 (c : Dev nD) : S3072x112.Idx → EReal := m ((c : Thread nD τ).loc main_arg7)
abbrev A8 (c : Dev nD) : S3072x112.Idx → EReal := m ((c : Thread nD τ).loc main_arg8)

theorem blk0 (c : Dev nD) (t : Fin (cfgM m hO).N) (x : S256x7168.Idx) :
    (iblk m hO c 0 t : Vec Ideal S256x7168 .i8) x = W4.at2 (A1 m c) (256 * (t.val % 12) + (x 0).val) (x 1).val := by
  blk_simp [iblk, V, idx m hO t]
  refine W4.at2_eq (A1 m c) _ _ _ ?_ ?_ <;> blk_simp [idx m hO t] <;> omega

theorem blk1 (c : Dev nD) (t : Fin (cfgM m hO).N) (x : S256x1.Idx) :
    (iblk m hO c 1 t : Vec Ideal S256x1 .f32) x = W4.at2 (A2 m c) (256 * (t.val % 12) + (x 0).val) 0 := by
  have h1 : (x 1).val < 1 := (x 1).isLt
  blk_simp [iblk, V, idx m hO t]
  refine W4.at2_eq (A2 m c) _ _ _ ?_ ?_ <;> blk_simp [idx m hO t] <;> omega

theorem blk2 (c : Dev nD) (t : Fin (cfgM m hO).N) (x : S3584x1792.Idx) :
    (iblk m hO c 2 t : Vec Ideal S3584x1792 .i8) x = W4.at2 (A3 m c) (x 0).val (1792 * (4 + t.val / 12) + (x 1).val) := by
  blk_simp [iblk, V, idx m hO t]
  refine W4.at2_eq (A3 m c) _ _ _ ?_ ?_ <;> blk_simp [idx m hO t] <;> omega

theorem blk3 (c : Dev nD) (t : Fin (cfgM m hO).N) (x : S56x1792.Idx) :
    (iblk m hO c 3 t : Vec Ideal S56x1792 .f32) x = W4.at2 (A4 m c) (x 0).val (1792 * (4 + t.val / 12) + (x 1).val) := by
  blk_simp [iblk, V, idx m hO t]
  refine W4.at2_eq (A4 m c) _ _ _ ?_ ?_ <;> blk_simp [idx m hO t] <;> omega

theorem blk4 (c : Dev nD) (t : Fin (cfgM m hO).N) (x : S256x128.Idx) :
    (iblk m hO c 4 t : Vec Ideal S256x128 .bf16) x = W4.at2 (A5 m c) (256 * (t.val % 12) + (x 0).val) (128 * 1 + (x 1).val) := by
  blk_simp [iblk, V, idx m hO t]
  refine W4.at2_eq (A5 m c) _ _ _ ?_ ?_ <;> blk_simp [idx m hO t] <;> omega

theorem blk5 (c : Dev nD) (t : Fin (cfgM m hO).N) (x : S2x1x128x1792.Idx) :
    (iblk m hO c 5 t : Vec Ideal S2x1x128x1792 .bf16) x = W4.at4 (A6 m c) (x 0).val 1 (x 2).val (1792 * (t.val / 12) + (x 3).val) := by
  have h1 : (x 1).val < 1 := (x 1).isLt
  blk_simp [iblk, V, idx m hO t]
  refine W4.at4_eq (A6 m c) _ _ _ _ _ ?_ ?_ ?_ ?_ <;> blk_simp [idx m hO t] <;> omega

/-- The table of cosines: eight copies side by side. -/
theorem V_cos (c : Dev nD) (x : S3072x896.Idx) : (V m c main_v0 : S3072x896.Idx → EReal) x = W4.at2 (A7 m c) (x 0).val ((x 1).val % 112) := by
  entry_read
  refine (W4.eight_apply (A7 m c) (A7 m c) _ x).trans ?_
  split <;> rfl

/-- The sines, negated. -/
abbrev nsin (c : Dev nD) : S3072x112.Idx → EReal := (Host.negf (F := Ideal) (φ := .f32) (A8 m c) : FVec Ideal S3072x112 .f32)

theorem V_sin_eq (c : Dev nD) : (V m c main_v2 : S3072x896.Idx → EReal)
    = concatenate (α := EReal) S3072x896 1 [⟨S3072x112, nsin m c⟩, ⟨S3072x112, A8 m c⟩, ⟨S3072x112, nsin m c⟩, ⟨S3072x112, A8 m c⟩, ⟨S3072x112, nsin m c⟩, ⟨S3072x112, A8 m c⟩, ⟨S3072x112, nsin m c⟩, ⟨S3072x112, A8 m c⟩]
      (by decide : Shape.Concatenates [S3072x112, S3072x112, S3072x112, S3072x112, S3072x112, S3072x112, S3072x112, S3072x112] S3072x896 1) := by
  sl_kernel_rfl

/-- The table of sines: a negated copy, then a copy, four times. -/
theorem V_sin (c : Dev nD) (x : S3072x896.Idx) : (V m c main_v2 : S3072x896.Idx → EReal) x = W4.signed (W4.at2 (A8 m c)) (x 0).val (x 1).val := by
  refine (congrFun (V_sin_eq m c) x).trans ((W4.eight_apply (nsin m c) (A8 m c) _ x).trans ?_)
  unfold W4.signed
  split
  · have hx : (x 1).val % 112 < 112 := Nat.mod_lt _ (by norm_num)
    exact (W4.at2_at (nsin m c) (x 0) _ hx _ rfl).symm.trans (congrArg (fun v : EReal => -v) (W4.at2_at (A8 m c) (x 0) _ hx _ rfl))
  · rfl

theorem blk6 (c : Dev nD) (t : Fin (cfgM m hO).N) (x : S256x896.Idx) :
    (iblk m hO c 6 t : Vec Ideal S256x896 .f32) x = W4.at2 (A7 m c) (256 * (t.val % 12) + (x 0).val) ((x 1).val % 112) := by
  blk_simp [iblk, idx m hO t]
  refine (V_cos m c _).trans (congrArg₂ (W4.at2 (A7 m c)) ?_ (congrArg (· % 112) ?_)) <;> blk_simp [idx m hO t] <;> omega

theorem blk7 (c : Dev nD) (t : Fin (cfgM m hO).N) (x : S256x896.Idx) :
    (iblk m hO c 7 t : Vec Ideal S256x896 .f32) x = W4.signed (W4.at2 (A8 m c)) (256 * (t.val % 12) + (x 0).val) (x 1).val := by
  blk_simp [iblk, idx m hO t]
  refine (V_sin m c _).trans (congrArg₂ (W4.signed (W4.at2 (A8 m c))) ?_ ?_) <;> blk_simp [idx m hO t] <;> omega

/-- The batch's matrix: the one its table entry names. -/
theorem pick_apply (c : Dev nD) (t : Fin (cfgM m hO).N) (k : Fin 128) (l : Fin 1792) :
    (pick c (grid0.coords t) (iblk m hO c 5 t) (tbl m 0) (Hyps.c0 hH c t) (ValueIdx.ix4 0 0 k l) : EReal)
      = W4.at4 (A6 m c) (W4.wordAt (ids m c) (t.val % 12)) 1 k.val (1792 * (t.val / 12) + l.val) := by
  refine (blk5 m hO c t _).trans ?_
  have hb : (grid0.coords t 1).val = t.val % 12 := (idx0 t).2.2.2.2.2.2.2.2.2.2
  have hlt : t.val % 12 < 12 := Nat.mod_lt _ (by norm_num)
  obtain rfl : c = 0 := Subsingleton.elim _ _
  have ht : (tbl m 0 : S12.Idx → BitVec 32) = ids m 0 := V_main_arg0 m 0
  congr 1
  · refine (Nat.add_zero _).trans ?_
    refine Eq.trans (b := (BitVec.toNat ((tbl m 0 : S12.Idx → BitVec 32) _))) rfl ?_
    rw [ht]
    refine W4.wordAt_eq (ids m 0) _ _ ?_
    show (BitVec.ofNat 32 (grid0.coords t 1).val).toNat + 1 * 0 = _
    rw [hb, BitVec.toNat_ofNat]
    omega
  · show 0 + 1 * k.val = k.val
    omega
  · show 1792 * (t.val / 12) + (0 + 1 * l.val) = _
    omega

/-- The unpacked weights of a column block. -/
theorem wblk_apply (c : Dev nD) (t : Fin (cfgM m hO).N) (k : Fin 7168) (l : Fin 1792) :
    (wblk (iblk m hO c 2 t) (iblk m hO c 3 t) (ValueIdx.ix2 k l) : EReal)
      = W4.wat 3584 (A3 m c) (A4 m c) k.val (7168 * 1 + (1792 * (t.val / 12) + l.val)) := by
  have hk := k.isLt
  show W4.wat 3584 (iblk m hO c 2 t : Vec Ideal S3584x1792 .i8) (iblk m hO c 3 t : Vec Ideal S56x1792 .f32) k.val l.val = _
  unfold W4.wat
  have ec : 1792 * (4 + t.val / 12) + l.val = 7168 * 1 + (1792 * (t.val / 12) + l.val) := by omega
  have e2 : W4.at2 (a := 3584) (b := 1792) (α := BitVec 8) (iblk m hO c 2 t) (k.val % 3584) l.val = W4.at2 (A3 m c) (k.val % 3584) (1792 * (4 + t.val / 12) + l.val) :=
    (W4.at2_ix2 (a := 3584) (b := 1792) (α := BitVec 8) (iblk m hO c 2 t) ⟨k.val % 3584, Nat.mod_lt _ (by norm_num)⟩ l).symm.trans (blk2 m hO c t _)
  have e3 : W4.at2 (a := 56) (b := 1792) (α := EReal) (iblk m hO c 3 t) (k.val / 128) l.val = W4.at2 (A4 m c) (k.val / 128) (1792 * (4 + t.val / 12) + l.val) :=
    (W4.at2_ix2 (a := 56) (b := 1792) (α := EReal) (iblk m hO c 3 t) ⟨k.val / 128, by omega⟩ l).symm.trans (blk3 m hO c t _)
  rw [e2, e3, ec]

/-- The projected values. -/
abbrev P (c : Dev nD) : ℕ → ℕ → EReal := W4.yval (A1 m c) (A2 m c) (A3 m c) (A4 m c) (A5 m c) (A6 m c) (ids m c) 1

theorem pblk_apply (c : Dev nD) (t : Fin (cfgM m hO).N) (W : Vec Ideal S7168x1792 .bf16)
    (hW : ∀ (k : Fin 7168) (l : Fin 1792), (W (ValueIdx.ix2 k l) : EReal) = W4.wat 3584 (A3 m c) (A4 m c) k.val (7168 * 1 + (1792 * (t.val / 12) + l.val)))
    (p : Fin 256) (l : Fin 1792) :
    (pblk c (grid0.coords t) (iblk m hO c 0 t) (iblk m hO c 1 t) (iblk m hO c 4 t) (iblk m hO c 5 t) (tbl m 0) (Hyps.c0 hH c t) W (ValueIdx.ix2 p l) : EReal)
      = P m c (256 * (t.val % 12) + p.val) (1792 * (t.val / 12) + l.val) := by
  have hp := p.isLt
  refine (W4.projY_apply _ _ _ _ _ p l
    (fun k => (((W4.at2 (A1 m c) (256 * (t.val % 12) + p.val) k).toInt : ℝ) : EReal) * W4.wat 3584 (A3 m c) (A4 m c) k (7168 * 1 + (1792 * (t.val / 12) + l.val)))
    (fun r => W4.at2 (A5 m c) (256 * (t.val % 12) + p.val) (128 * 1 + r) * W4.at4 (A6 m c) (W4.wordAt (ids m c) (t.val % 12)) 1 r (1792 * (t.val / 12) + l.val))
    _ (fun k => ?_) (fun k => ?_) (blk1 m hO c t _)).trans ?_
  · exact congrArg₂ (HMul.hMul (α := EReal)) (congrArg (fun b : BitVec 8 => ((b.toInt : ℝ) : EReal)) (blk0 m hO c t _)) (hW k l)
  · exact congrArg₂ (HMul.hMul (α := EReal)) (blk4 m hO c t _) (pick_apply m hO hH c t k l)
  · show _ = W4.yval _ _ _ _ _ _ _ 1 _ _
    unfold W4.yval
    have e : (256 * (t.val % 12) + p.val) / 256 = t.val % 12 := by omega
    rw [e]

/-- The projected values, rotated. -/
abbrev Y (c : Dev nD) : ℕ → ℕ → EReal := W4.rot (P m c) (W4.at2 (A7 m c)) (W4.at2 (A8 m c))

theorem yblk_apply (c : Dev nD) (t : Fin (cfgM m hO).N) (W : Vec Ideal S7168x1792 .bf16)
    (hW : ∀ (k : Fin 7168) (l : Fin 1792), (W (ValueIdx.ix2 k l) : EReal) = W4.wat 3584 (A3 m c) (A4 m c) k.val (7168 * 1 + (1792 * (t.val / 12) + l.val)))
    (p : Fin 256) (l : Fin 1792) :
    (yblk c (grid0.coords t) (iblk m hO c 0 t) (iblk m hO c 1 t) (iblk m hO c 4 t) (iblk m hO c 5 t) (iblk m hO c 6 t) (iblk m hO c 7 t) (tbl m 0) (Hyps.c0 hH c t) W (ValueIdx.ix2 p l) : EReal)
      = Y m c (256 * (t.val % 12) + p.val) (1792 * (t.val / 12) + l.val) :=
  W4.rotY_rot _ _ _ (P m c) _ _ _ _ (pblk_apply m hO hH c t W hW) (fun p l => blk6 m hO c t (ValueIdx.ix2 p l)) (fun p l => blk7 m hO c t (ValueIdx.ix2 p l)) p l

/-- After every point the scratch holds the weights of the point's column block. -/
theorem scratch (c : Dev nD) (n : ℕ) (hn : n < (cfgM m hO).N) (k : Fin 7168) (l : Fin 1792) :
    ((outsAt0 m hO hH c n hn).2.2 (ValueIdx.ix2 k l) : EReal) = W4.wat 3584 (A3 m c) (A4 m c) k.val (7168 * 1 + (1792 * (n / 12) + l.val)) := by
  induction n with
  | zero =>
    rw [outsAt0_A m hO hH c ⟨0, hn⟩ rfl]
    dsimp only
    exact (congrFun (sout_A ..) _).trans (wblk_apply m hO c ⟨0, hn⟩ k l)
  | succ n ih =>
    by_cases h0 : (n + 1) % 12 = 0
    · rw [outsAt0_A m hO hH c ⟨n + 1, hn⟩ h0]
      dsimp only
      exact (congrFun (sout_A ..) _).trans (wblk_apply m hO c ⟨n + 1, hn⟩ k l)
    · rw [outsAt0_B m hO hH c ⟨n + 1, hn⟩ h0]
      dsimp only
      have e : (n + 1) / 12 = n / 12 := by omega
      rw [e]
      exact (congrFun (sout_B ..) _).trans (ih (Nat.lt_of_succ_lt hn))

/-- What a point leaves: the codes and scales of its block. -/
theorem codes (c : Dev nD) (t : Fin (cfgM m hO).N) (p : Fin 256) (l : Fin 1792) :
    ((outsAt0 m hO hH c t.val t.isLt).1 (ValueIdx.ix2 p l) : EReal) = W4.hcode (Y m c) (256 * (t.val % 12) + p.val) (1792 * (t.val / 12) + l.val) := by
  by_cases h0 : t.val % 12 = 0
  · rw [outsAt0_A m hO hH c t h0]
    dsimp only
    exact (congrFun (out8_A ..) _).trans (W4.block_codes _ (Y m c) _ _ (yblk_apply m hO hH c t _ (wblk_apply m hO c t)) p l)
  · rw [outsAt0_B m hO hH c t h0]
    dsimp only
    have e : (t.val - 1) / 12 = t.val / 12 := by omega
    exact (congrFun (out8_B ..) _).trans (W4.block_codes _ (Y m c) _ _ (yblk_apply m hO hH c t _ (by intro k l; rw [scratch, e])) p l)

theorem scales (c : Dev nD) (t : Fin (cfgM m hO).N) (l : Fin 1792) :
    ((outsAt0 m hO hH c t.val t.isLt).2.1 (ValueIdx.ix3 0 0 l) : EReal) = W4.hscale (Y m c) (t.val % 12) (8 * (t.val / 12) + l.val / 224) := by
  by_cases h0 : t.val % 12 = 0
  · rw [outsAt0_A m hO hH c t h0]
    dsimp only
    exact (congrFun (out9_A ..) _).trans ((W4.row3_apply _ _ l).trans <| W4.block_scale _ (Y m c) _ _ (yblk_apply m hO hH c t _ (wblk_apply m hO c t)) l)
  · rw [outsAt0_B m hO hH c t h0]
    dsimp only
    have e : (t.val - 1) / 12 = t.val / 12 := by omega
    exact (congrFun (out9_B ..) _).trans ((W4.row3_apply _ _ l).trans <| W4.block_scale _ (Y m c) _ _ (yblk_apply m hO hH c t _ (by intro k l; rw [scratch, e])) l)

/-! ## The result arrays -/

/-- The codes. -/
def G8 (c : Dev nD) : S3072x7168.Idx → EReal := fun x => W4.hcode (Y m c) (x 0).val (x 1).val

/-- The scales. -/
def G9 (c : Dev nD) : S12x1x7168.Idx → EReal := fun x => W4.hscale (Y m c) (x 0).val ((x 2).val / 224)

theorem covers8 : ((cfgM m hO).win 8).Covers := by
  refine Pipeline.Window.covers_of_index_surj _ rfl (by decide : ∀ a, 0 < S256x1792.size a) fun β => ?_
  have h0 : (β (0 : Fin 2)).val < 12 := Nat.lt_of_lt_of_eq (β (0 : Fin 2)).isLt (show (3072 + 256 - 1) / 256 = 12 by norm_num)
  have h1 : (β (1 : Fin 2)).val < 4 := Nat.lt_of_lt_of_eq (β (1 : Fin 2)).isLt (show (7168 + 1792 - 1) / 1792 = 4 by norm_num)
  let t : Fin (cfgM m hO).N := (⟨12 * (β (1 : Fin 2)).val + (β (0 : Fin 2)).val, by show _ < 48; omega⟩ : Fin 48)
  have ht : t.val = 12 * (β (1 : Fin 2)).val + (β (0 : Fin 2)).val := rfl
  refine ⟨t, fun a => ?_⟩
  rw [(idx m hO t).2.2.2.2.2.2.2.2.1]
  match a with
  | ⟨0, _⟩ => show t.val % 12 = (β (0 : Fin 2)).val; omega
  | ⟨1, _⟩ => show t.val / 12 = (β (1 : Fin 2)).val; omega

theorem covers9 : ((cfgM m hO).win 9).Covers := by
  refine Pipeline.Window.covers_of_index_surj _ rfl (by decide : ∀ a, 0 < S1x1x1792.size a) fun β => ?_
  have h0 : (β (0 : Fin 3)).val < 12 := Nat.lt_of_lt_of_eq (β (0 : Fin 3)).isLt (show (12 + 1 - 1) / 1 = 12 by norm_num)
  have h1 : (β (1 : Fin 3)).val < 1 := Nat.lt_of_lt_of_eq (β (1 : Fin 3)).isLt (show (1 + 1 - 1) / 1 = 1 by norm_num)
  have h2 : (β (2 : Fin 3)).val < 4 := Nat.lt_of_lt_of_eq (β (2 : Fin 3)).isLt (show (7168 + 1792 - 1) / 1792 = 4 by norm_num)
  let t : Fin (cfgM m hO).N := (⟨12 * (β (2 : Fin 3)).val + (β (0 : Fin 3)).val, by show _ < 48; omega⟩ : Fin 48)
  have ht : t.val = 12 * (β (2 : Fin 3)).val + (β (0 : Fin 3)).val := rfl
  refine ⟨t, fun a => ?_⟩
  rw [(idx m hO t).2.2.2.2.2.2.2.2.2]
  match a with
  | ⟨0, _⟩ => show t.val % 12 = (β (0 : Fin 3)).val; omega
  | ⟨1, _⟩ => show 0 = (β (1 : Fin 3)).val; omega
  | ⟨2, _⟩ => show t.val / 12 = (β (2 : Fin 3)).val; omega

theorem final8 (c : Dev nD) : (dats m hO hH 0 c).arrAt 8 (cfgM m hO).N = G8 m c := by
  refine (dats m hO hH 0 c).arrAt_eq_of_covers 8 _ (covers8 m hO) fun t hf y => ?_
  have e0 : ((((cfgM m hO).win 8).blk t).view.emb y (0 : Fin 2)).val = 256 * (t.val % 12) + (y (0 : Fin 2)).val := by blk_simp [idx m hO t]; omega
  have e1 : ((((cfgM m hO).win 8).blk t).view.emb y (1 : Fin 2)).val = 1792 * (t.val / 12) + (y (1 : Fin 2)).val := by blk_simp [idx m hO t]; omega
  refine Eq.trans (b := W4.hcode (Y m c) (256 * (t.val % 12) + (y (0 : Fin 2)).val) (1792 * (t.val / 12) + (y (1 : Fin 2)).val)) ?_ ?_
  · obtain ⟨p, l, hy⟩ := W4.ix2_surj (a := 256) (b := 1792) y
    subst hy
    exact (congrFun (after0_8 m hO hH c t) _).trans (codes m hO hH c t p l)
  · rw [← e0, ← e1]
    rfl

theorem final9 (c : Dev nD) : (dats m hO hH 0 c).arrAt 9 (cfgM m hO).N = G9 m c := by
  refine (dats m hO hH 0 c).arrAt_eq_of_covers 9 _ (covers9 m hO) fun t hf y => ?_
  have h : (y (0 : Fin 3)).val < 1 := (y (0 : Fin 3)).isLt
  have e0 : ((((cfgM m hO).win 9).blk t).view.emb y (0 : Fin 3)).val = t.val % 12 := by blk_simp [idx m hO t]
  have e1 : ((((cfgM m hO).win 9).blk t).view.emb y (2 : Fin 3)).val = 1792 * (t.val / 12) + (y (2 : Fin 3)).val := by blk_simp [idx m hO t]; omega
  have e2 : (1792 * (t.val / 12) + (y (2 : Fin 3)).val) / 224 = 8 * (t.val / 12) + (y (2 : Fin 3)).val / 224 := by omega
  refine Eq.trans (b := W4.hscale (Y m c) (t.val % 12) (8 * (t.val / 12) + (y (2 : Fin 3)).val / 224)) ?_ ?_
  · obtain ⟨l, hy⟩ := W4.row3_surj (n := 1792) y
    subst hy
    exact (congrFun (after0_9 m hO hH c t) _).trans (scales m hO hH c t l)
  · rw [← e2, ← e0, ← e1]
    rfl

include hO hH in
/-- The run: the results hold the codes and the scales, the arguments are unchanged. -/
theorem run_blocks (ρ : Dev nD → PrngReg) : θ_run defs (onTc (τ := τ) (main (F := Ideal))) ⟨m, fun _ => 0, ρ⟩ (fun r => ∀ c : Dev nD,
      r.2.mem ((c.tc : Thread nD τ).loc main_v3_0) = G8 m c
      ∧ r.2.mem ((c.tc : Thread nD τ).loc main_v3_1) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 8).trans (final8 m hO hH c), ((h.1 c).1 9).trans (final9 m hO hH c), h.2 c⟩)
    (θ_run_and (run_main m ρ hO hH) (unchanged m ρ hO hH))

end Cert.ProjKIdeal.Val
-- ==== Proof.ProjKRef.lean ====
/-
  The key projection's reference read over the extended reals: its values are the projected ones, rotated (`heads`), and its
  two results end as that array's codes and scales (`final9`, `final10`). The projection is the value projection's reference's,
  at other columns, so its reading is taken from there.
-/
module

public import proofs.«01_k».proof.Proof.ProjVRef
public import proofs.«01_k».proof.Proof.ProjRot
public import proofs.«01_k».proof.Proof.Gen.ProjKRefIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ProjKRefIdeal.Val

open Cert.ProjKRefIdeal Cert.ProjKRefIdeal.Gen

/-! ## The result arrays -/

variable (m : (ℓ : Loc nD τ sig) → Buf (Elt Ideal) ℓ)

abbrev ids (c : Dev nD) : S12.Idx → BitVec 32 := m ((c : Thread nD τ).loc main_arg0)
abbrev A1 (c : Dev nD) : S3072x7168.Idx → BitVec 8 := m ((c : Thread nD τ).loc main_arg1)
abbrev A2 (c : Dev nD) : S3072x1.Idx → EReal := m ((c : Thread nD τ).loc main_arg2)
abbrev A3 (c : Dev nD) : S3584x21504.Idx → BitVec 8 := m ((c : Thread nD τ).loc main_arg3)
abbrev A4 (c : Dev nD) : S56x21504.Idx → EReal := m ((c : Thread nD τ).loc main_arg4)
abbrev A5 (c : Dev nD) : S3072x384.Idx → EReal := m ((c : Thread nD τ).loc main_arg5)
abbrev A6 (c : Dev nD) : S2x3x128x7168.Idx → EReal := m ((c : Thread nD τ).loc main_arg6)

abbrev A7 (c : Dev nD) : S3072x112.Idx → EReal := m ((c : Thread nD τ).loc main_arg7)
abbrev A8 (c : Dev nD) : S3072x112.Idx → EReal := m ((c : Thread nD τ).loc main_arg8)

/-- The projected values. -/
abbrev P (c : Dev nD) : ℕ → ℕ → EReal := W4.yval (A1 m c) (A2 m c) (A3 m c) (A4 m c) (A5 m c) (A6 m c) (ids m c) 1

/-- The projected values, rotated. -/
abbrev Y (c : Dev nD) : ℕ → ℕ → EReal := W4.rot (P m c) (W4.at2 (A7 m c)) (W4.at2 (A8 m c))

theorem V_ids (c : Dev nD) (b : Fin 12) : (V m c main_v0 : S12x1x1.Idx → BitVec 32) (ValueIdx.ix3 b 0 0) = ids m c (ValueIdx.ix1 b) := by
  entry_read
  pointwise
  rfl

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0, 0, 0]
    ∧ win0_7.index t = ![0, 0] ∧ win0_8.index t = ![0, 0] ∧ win0_9.index t = ![0, 0] ∧ win0_10.index t = ![0, 0, 0] :=
  (by decide +kernel : ∀ t : Fin grid0.N, _)

theorem blk0 (c : Dev nD) (t : Fin cfg0.N) (b : Fin 12) :
    (iblk m c 0 t : Vec Ideal S12x1x1 .i32) (ValueIdx.ix3 b 0 0) = ids m c (ValueIdx.ix1 b) := by
  refine Eq.trans ?_ (V_ids m c b)
  blk_ext [iblk, idx t]

theorem blk1 (c : Dev nD) (t : Fin cfg0.N) : (iblk m c 1 t : Vec Ideal S3072x7168 .i8) = A1 m c := by
  funext x
  blk_ext [iblk, V, idx t]

theorem blk2 (c : Dev nD) (t : Fin cfg0.N) : (iblk m c 2 t : Vec Ideal S3072x1 .f32) = A2 m c := by
  funext x
  blk_ext [iblk, V, idx t]

theorem blk3 (c : Dev nD) (t : Fin cfg0.N) : (iblk m c 3 t : Vec Ideal S3584x21504 .i8) = A3 m c := by
  funext x
  blk_ext [iblk, V, idx t]

theorem blk4 (c : Dev nD) (t : Fin cfg0.N) : (iblk m c 4 t : Vec Ideal S56x21504 .f32) = A4 m c := by
  funext x
  blk_ext [iblk, V, idx t]

theorem blk5 (c : Dev nD) (t : Fin cfg0.N) : (iblk m c 5 t : Vec Ideal S3072x384 .bf16) = A5 m c := by
  funext x
  blk_ext [iblk, V, idx t]

theorem blk6 (c : Dev nD) (t : Fin cfg0.N) : (iblk m c 6 t : Vec Ideal S2x3x128x7168 .bf16) = A6 m c := by
  funext x
  blk_ext [iblk, V, idx t]

theorem blk7 (c : Dev nD) (t : Fin cfg0.N) : (iblk m c 7 t : Vec Ideal S3072x112 .f32) = A7 m c := by
  funext x
  blk_ext [iblk, V, idx t]

theorem blk8 (c : Dev nD) (t : Fin cfg0.N) : (iblk m c 8 t : Vec Ideal S3072x112 .f32) = A8 m c := by
  funext x
  blk_ext [iblk, V, idx t]

/-- The values are the value projection's formula, rotated. -/
theorem pay5_eq (x : Vec Ideal S3072x7168 .i8) (xs : Vec Ideal S3072x1 .f32) (w : Vec Ideal S3584x7168 .i8) (s : Vec Ideal S56x7168 .f32)
    (i : Vec Ideal S12x1x1 .i32) (t : Vec Ideal S3072x128 .bf16) (u v : Vec Ideal S1x1x128x7168 .bf16) (cs sn : Vec Ideal S3072x112 .f32) :
    k0_pay5 (k0_pay4 x xs w s) i t u v cs sn = W4.refRot (ProjVRefIdeal.Gen.k0_pay3 (ProjVRefIdeal.Gen.k0_pay2 x xs w s) i t u v) cs sn := by
  unfold k0_pay5 k0_pay4 W4.refRot ProjVRefIdeal.Gen.k0_pay3 ProjVRefIdeal.Gen.k0_pay2
  rfl

theorem pay6_eq (a : FVec Ideal S3072x7168 .f32) (i : Vec Ideal S12x1x1 .i32) (t : Vec Ideal S3072x128 .bf16) (u v : Vec Ideal S1x1x128x7168 .bf16)
    (cs sn : Vec Ideal S3072x112 .f32) : k0_pay6 a i t u v cs sn = W4.refMax (k0_pay5 a i t u v cs sn) := by
  unfold k0_pay6 W4.refMax
  rfl

theorem pay2_eq (y : FVec Ideal S12x256x32x224 .f32) (a : FVec Ideal S12x32 .f32) :
    k0_pay2 y a (Scalar.ofBits .f32 0x00000000#32) = W4.refCodes y (W4.refScale a) := by
  unfold k0_pay2 k0_pay1 W4.refCodes W4.refScale
  rfl

theorem pay3_eq (a : FVec Ideal S12x32 .f32) : k0_pay3 a (Scalar.ofBits .f32 0x00000000#32) = W4.refScales (W4.refScale a) := by
  unfold k0_pay3 k0_pay1 W4.refScales W4.refScale
  rfl

section
variable (x0 : Vec Ideal S12x1x1 .i32) (x1 : Vec Ideal S3072x7168 .i8) (x2 : Vec Ideal S3072x1 .f32) (x3 : Vec Ideal S3584x21504 .i8)
  (x4 : Vec Ideal S56x21504 .f32) (x5 : Vec Ideal S3072x384 .bf16) (x6 : Vec Ideal S2x3x128x7168 .bf16) (x7 x8 : Vec Ideal S3072x112 .f32)

/-- The rotated values as the body computes them. -/
abbrev val : FVec Ideal S12x256x32x224 .f32 :=
  k0_pay5 (k0_pay7 x0 x1 x2 x3 x4 x5 x6 x7 x8) (View.ld x0 r0_4) (View.ld x5 r0_5) (View.ld x6 r0_6) (View.ld x6 r0_7) (View.ld x7 r0_8) (View.ld x8 r0_8)

theorem out9_apply : out0_9 x0 x1 x2 x3 x4 x5 x6 x7 x8
    = k0_pay2 (k0_pay5 (k0_pay7 x0 x1 x2 x3 x4 x5 x6 x7 x8) (View.ld x0 r0_4) (View.ld x5 r0_5) (View.ld x6 r0_6) (View.ld x6 r0_7) (View.ld x7 r0_8) (View.ld x8 r0_8))
      (k0_pay8 x0 x1 x2 x3 x4 x5 x6 x7 x8) (Scalar.ofBits .f32 0x00000000#32) := by
  funext y
  unfold out0_9
  frame_out

theorem out10_apply : out0_10 x0 x1 x2 x3 x4 x5 x6 x7 x8 = k0_pay3 (k0_pay8 x0 x1 x2 x3 x4 x5 x6 x7 x8) (Scalar.ofBits .f32 0x00000000#32) := by
  funext y
  unfold out0_10
  frame_out

theorem out9_eq : out0_9 x0 x1 x2 x3 x4 x5 x6 x7 x8
    = W4.refCodes (val x0 x1 x2 x3 x4 x5 x6 x7 x8) (W4.refScale (W4.refMax (val x0 x1 x2 x3 x4 x5 x6 x7 x8))) := by
  rw [out9_apply, pay2_eq]
  unfold k0_pay8
  rw [pay6_eq]

theorem out10_eq : out0_10 x0 x1 x2 x3 x4 x5 x6 x7 x8 = W4.refScales (W4.refScale (W4.refMax (val x0 x1 x2 x3 x4 x5 x6 x7 x8))) := by
  rw [out10_apply, pay3_eq]
  unfold k0_pay8
  rw [pay6_eq]

end

abbrev yv (c : Dev nD) (t : Fin cfg0.N) : FVec Ideal S12x256x32x224 .f32 :=
  val (iblk m c 0 t) (iblk m c 1 t) (iblk m c 2 t) (iblk m c 3 t) (iblk m c 4 t) (iblk m c 5 t) (iblk m c 6 t) (iblk m c 7 t) (iblk m c 8 t)

variable (hids : ∀ (c : Dev nD) (b : Fin 12), ids m c (ValueIdx.ix1 b) = 0#32 ∨ ids m c (ValueIdx.ix1 b) = 1#32)
include hids

theorem heads (c : Dev nD) (t : Fin cfg0.N) (b : Fin 12) (q : Fin 256) (h : Fin 32) (d : Fin 224) :
    (yv m c t (ValueIdx.ix4 b q h d) : EReal) = Y m c (256 * b.val + q.val) (224 * h.val + d.val) := by
  refine (congrFun (pay5_eq ..) _).trans ?_
  have e7 : (View.ld (iblk m c 7 t : Vec Ideal S3072x112 .f32) r0_8 : Vec Ideal S3072x112 .f32) = A7 m c := by
    funext x
    refine (congrFun (blk7 m c t) _).trans (congrArg (A7 m c) (funext fun a => Fin.ext ?_))
    fin_cases a <;> (show 0 + 1 * _ = _) <;> omega
  have e8 : (View.ld (iblk m c 8 t : Vec Ideal S3072x112 .f32) r0_8 : Vec Ideal S3072x112 .f32) = A8 m c := by
    funext x
    refine (congrFun (blk8 m c t) _).trans (congrArg (A8 m c) (funext fun a => Fin.ext ?_))
    fin_cases a <;> (show 0 + 1 * _ = _) <;> omega
  refine (W4.refRot_apply _ _ _ (P m c) (fun b q h d => ?_) b q h d).trans
    (congrArg₂ (fun u v : S3072x112.Idx → EReal => W4.rot (P m c) (W4.at2 u) (W4.at2 v) (256 * b.val + q.val) (224 * h.val + d.val)) e7 e8)
  refine ProjVRefIdeal.Val.refY_apply (A1 m c) (A2 m c) (A3 m c) (A4 m c) (A5 m c) (A6 m c) (ids m c) 1 (by norm_num) _ _ _ _ _ _ _ _ ?_ ?_ ?_ ?_ ?_ ?_ ?_ ?_ (hids c) b q h d
  · funext x
    refine (congrFun (blk1 m c t) _).trans (congrArg (A1 m c) (funext fun a => Fin.ext ?_))
    fin_cases a <;> (show 0 + 1 * _ = _) <;> omega
  · funext x
    refine (congrFun (blk2 m c t) _).trans (congrArg (A2 m c) (funext fun a => Fin.ext ?_))
    fin_cases a <;> (show 0 + 1 * _ = _) <;> omega
  · intro x
    exact ⟨r0_2.idx x, congrFun (blk3 m c t) _, (by show 0 + 1 * _ = _; omega), (by show 7168 + 1 * _ = _; omega)⟩
  · intro x
    exact ⟨r0_3.idx x, congrFun (blk4 m c t) _, (by show 0 + 1 * _ = _; omega), (by show 7168 + 1 * _ = _; omega)⟩
  · intro b
    exact (congrArg (iblk m c 0 t : Vec Ideal S12x1x1 .i32) (funext fun a => Fin.ext (by fin_cases a <;> (show 0 + 1 * _ = _) <;> omega))).trans (blk0 m c t b)
  · intro x
    exact ⟨r0_5.idx x, congrFun (blk5 m c t) _, (by show 0 + 1 * _ = _; omega), (by show 128 + 1 * _ = _; omega)⟩
  · intro k l
    refine (congrFun (blk6 m c t) _).trans (W4.at4_eq (A6 m c) _ _ _ _ _ ?_ ?_ ?_ ?_)
    · rfl
    · rfl
    · show 0 + 1 * k.val = k.val; omega
    · show 0 + 1 * l.val = l.val; omega
  · intro k l
    refine (congrFun (blk6 m c t) _).trans (W4.at4_eq (A6 m c) _ _ _ _ _ ?_ ?_ ?_ ?_)
    · rfl
    · rfl
    · show 0 + 1 * k.val = k.val; omega
    · show 0 + 1 * l.val = l.val; omega

/-- The codes the reference leaves. -/
theorem final9 (c : Dev nD) : (dats m 0 c).arrAt 9 cfg0.N = (fun x => W4.hcode (Y m c) (x 0).val (x 1).val : S3072x7168.Idx → EReal) := by
  refine (dats m 0 c).arrAt_eq_of_covers 9 _ (by decide +kernel) fun t hf y => ?_
  have e0 : ((win0_9.blk t).view.emb y 0).val = (y 0).val := by blk_simp [idx t]
  have e1 : ((win0_9.blk t).view.emb y 1).val = (y 1).val := by blk_simp [idx t]
  have hy : (y : S3072x7168.Idx) = ValueIdx.ix2 (y 0) (y 1) := by funext a; fin_cases a <;> rfl
  rw [after0_9]
  show _ = W4.hcode (Y m c) ((win0_9.blk t).view.emb y 0).val ((win0_9.blk t).view.emb y 1).val
  rw [e0, e1]
  have key := W4.head_codes _ (Y m c) (heads m hids c t) (y 0) (y 1)
  refine Eq.trans ?_ ((congrArg (W4.refCodes (yv m c t) (W4.refScale (W4.refMax (yv m c t)))) hy).trans key)
  blk_simp
  rw [out9_eq]

/-- The scales the reference leaves. -/
theorem final10 (c : Dev nD) : (dats m 0 c).arrAt 10 cfg0.N = (fun x => W4.hscale (Y m c) (x 0).val ((x 2).val / 224) : S12x1x7168.Idx → EReal) := by
  refine (dats m 0 c).arrAt_eq_of_covers 10 _ (by decide +kernel) fun t hf y => ?_
  have e0 : ((win0_10.blk t).view.emb y 0).val = (y 0).val := by blk_simp [idx t]
  have e2 : ((win0_10.blk t).view.emb y 2).val = (y 2).val := by blk_simp [idx t]
  have h1 : (y 1).val < 1 := (y 1).isLt
  have hy : (y : S12x1x7168.Idx) = ValueIdx.ix3 (y 0) 0 (y 2) := by
    funext a
    fin_cases a
    · rfl
    · exact Fin.ext (show (y 1).val = 0 by omega)
    · rfl
  rw [after0_10]
  show _ = W4.hscale (Y m c) ((win0_10.blk t).view.emb y 0).val (((win0_10.blk t).view.emb y 2).val / 224)
  rw [e0, e2]
  have key := W4.head_scales _ (Y m c) (heads m hids c t) (y 0) (y 2)
  refine Eq.trans ?_ ((congrArg (W4.refScales (W4.refScale (W4.refMax (yv m c t)))) hy).trans key)
  blk_simp
  rw [out10_eq]

end Cert.ProjKRefIdeal.Val
-- ==== Proof.ProjKClaim.lean ====
/- The claim about the key projection: kernel and reference end with the same codes and the same scales, at every
   argument whose batch indices name one of the two adapter matrices. -/
module

public import proofs.«01_k».proof.Defs
public import proofs.«01_k».proof.Proof.Gen.Pre_ok_ids_qk
public import proofs.«01_k».proof.Proof.Gen.ProjK.Frame
public import proofs.«01_k».proof.Proof.ProjVClaim
public import proofs.«01_k».proof.Proof.ProjKValue
public import proofs.«01_k».proof.Proof.ProjKRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjKClaim

attribute [local instance] Cert.Pre_ok_ids_qk.Gen.facts

/-- The precondition read at one batch: its index is zero or one. -/
theorem ids_of_pre {F : FTy → Type} [FloatOps F] (a0 : IVec Cert.Pre_ok_ids_qk.S12 32) (a1 : IVec Cert.Pre_ok_ids_qk.S3072x7168 8)
    (a2 : FVec F Cert.Pre_ok_ids_qk.S3072x1 .f32) (a3 : IVec Cert.Pre_ok_ids_qk.S3584x21504 8) (a4 : FVec F Cert.Pre_ok_ids_qk.S56x21504 .f32)
    (a5 : FVec F Cert.Pre_ok_ids_qk.S3072x384 .bf16) (a6 : FVec F Cert.Pre_ok_ids_qk.S2x3x128x7168 .bf16)
    (a7 a8 : FVec F Cert.Pre_ok_ids_qk.S3072x112 .f32)
    (h : Cert.Pre_ok_ids_qk.fn (F := F) a0 a1 a2 a3 a4 a5 a6 a7 a8 = fun _ => 1#1) (x : Cert.Pre_ok_ids_qk.S12.Idx) : a0 x = 0#32 ∨ a0 x = 1#32 := by
  have e := congrFun h x
  simp only [Cert.Pre_ok_ids_qk.fn, andi, cmpi, broadcastInDim, constantI] at e
  exact Cert.ProjVClaim.word_of_check _ e

theorem chk (v : BitVec 32) (h : v = 0#32 ∨ v = 1#32) : Cert.ProjK.k0_chk1 v := by
  have h1 := Cert.ProjVClaim.toNat_le v h
  intro a
  fin_cases a
  · show v.toNat + 1 ≤ 2
    omega
  · show 0 + 1 ≤ 1
    omega
  · show 0 + 128 ≤ 128
    omega
  · show 0 + 1792 ≤ 1792
    omega

theorem chkIdeal (v : BitVec 32) (h : v = 0#32 ∨ v = 1#32) : Cert.ProjKIdeal.k0_chk1 v := by
  have h1 := Cert.ProjVClaim.toNat_le v h
  intro a
  fin_cases a
  · show v.toNat + 1 ≤ 2
    omega
  · show 0 + 1 ≤ 1
    omega
  · show 0 + 128 ≤ 128
    omega
  · show 0 + 1792 ≤ 1792
    omega

section
open Cert.ProjK Cert.ProjK.Gen
variable (m : (ℓ : Loc nD τ sig) → Buf (Elt Bits) ℓ) (h : Cert.Pre_ProjK m)
include h

theorem wordsProjK (x : S12.Idx) : (tbl m 0 : S12.Idx → BitVec 32) x = 0#32 ∨ (tbl m 0 : S12.Idx → BitVec 32) x = 1#32 := by
  have ht : (tbl m 0 : S12.Idx → BitVec 32) = m (((0 : Dev nD) : Thread nD τ).loc main_arg0) := V_main_arg0 m 0
  rw [ht]
  exact ids_of_pre _ _ _ _ _ _ _ _ _ (h 0) x

/-- The table never moves a block, so every table is in order. -/
theorem okProjK : Ok m := by
  exact (trivial : True)

/-- The kernel picks one of the two adapter matrices. -/
theorem hypsProjK (hO : Ok m) : Hyps m hO :=
  Hyps.of fun c t => chk _ (wordsProjK m h _)

end

section
open Cert.ProjKIdeal Cert.ProjKIdeal.Gen
variable (m : (ℓ : Loc nD τ sig) → Buf (Elt Ideal) ℓ) (h : Cert.Pre_ProjKIdeal m)
include h

theorem wordsProjKIdeal (x : S12.Idx) : (tbl m 0 : S12.Idx → BitVec 32) x = 0#32 ∨ (tbl m 0 : S12.Idx → BitVec 32) x = 1#32 := by
  have ht : (tbl m 0 : S12.Idx → BitVec 32) = m (((0 : Dev nD) : Thread nD τ).loc main_arg0) := V_main_arg0 m 0
  rw [ht]
  exact ids_of_pre _ _ _ _ _ _ _ _ _ (h 0) x

/-- The table never moves a block, so every table is in order. -/
theorem okProjKIdeal : Ok m := by
  exact (trivial : True)

/-- The kernel picks one of the two adapter matrices. -/
theorem hypsProjKIdeal (hO : Ok m) : Hyps m hO :=
  Hyps.of fun c t => chkIdeal _ (wordsProjKIdeal m h _)

end

theorem algebraic : Cert.algebraic_ProjKIdeal_ProjKRefIdeal := by
  intro m g m' g' hpre hagree
  have hO := okProjKIdeal m hpre
  have hH := hypsProjKIdeal m hpre hO
  have hids : ∀ (c : Dev Cert.ProjKRefIdeal.nD) (b : Fin 12), Cert.ProjKRefIdeal.Val.ids m' c (ValueIdx.ix1 b) = 0#32 ∨ Cert.ProjKRefIdeal.Val.ids m' c (ValueIdx.ix1 b) = 1#32 := by
    intro c b
    have e := (hagree c).1
    unfold Cert.ProjKRefIdeal.Val.ids
    rw [e]
    exact ids_of_pre _ _ _ _ _ _ _ _ _ (hpre c) _
  have hY : ∀ c, Cert.ProjKRefIdeal.Val.Y m' c = Cert.ProjKIdeal.Val.Y m c := by
    intro c
    obtain ⟨e0, e1, e2, e3, e4, e5, e6, e7, e8⟩ := hagree c
    unfold Cert.ProjKRefIdeal.Val.Y Cert.ProjKRefIdeal.Val.P Cert.ProjKRefIdeal.Val.ids Cert.ProjKRefIdeal.Val.A1 Cert.ProjKRefIdeal.Val.A2 Cert.ProjKRefIdeal.Val.A3
      Cert.ProjKRefIdeal.Val.A4 Cert.ProjKRefIdeal.Val.A5 Cert.ProjKRefIdeal.Val.A6 Cert.ProjKRefIdeal.Val.A7 Cert.ProjKRefIdeal.Val.A8
    rw [e0, e1, e2, e3, e4, e5, e6, e7, e8]
  refine ⟨fun c => Cert.ProjKIdeal.Val.G8 m c, fun c => Cert.ProjKIdeal.Val.G9 m c,
    Cert.ProjKIdeal.Val.run_blocks m hO hH g,
    (θ_run Cert.ProjKRefIdeal.defs _ _).mono (fun r h c => ?_) (Cert.ProjKRefIdeal.Value.run_blocks (F := Ideal) m' g')⟩
  obtain ⟨h0, h1, hk⟩ := h c
  refine ⟨h0.trans ((Cert.ProjKRefIdeal.Val.final9 m' hids c).trans ?_), h1.trans ((Cert.ProjKRefIdeal.Val.final10 m' hids c).trans ?_), hk⟩
  · rw [hY c]
    rfl
  · rw [hY c]
    rfl

end Cert.ProjKClaim

end
-- ==== Proof.ProjQKernel.lean ====
/-
  What a point of the query projection leaves in its scratch and its result block, in the values the shared lemmas name.
-/
module

public import proofs.«01_k».proof.Proof.ProjRot
public import proofs.«01_k».proof.Proof.Gen.ProjQIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjQIdeal.Val

open Cert.ProjQIdeal Cert.ProjQIdeal.Gen

section Point
variable (c : Dev nD) (i : grid0.Coords) (arg3 : Memref sig .tc .vmem S256x7168 .i8) (harg3 : arg3.IsWhole) (arg4 : Memref sig .tc .vmem S256x1 .f32) (harg4 : arg4.IsWhole) (arg5 : Memref sig .tc .vmem S3584x1792 .i8) (harg5 : arg5.IsWhole) (arg6 : Memref sig .tc .vmem S56x1792 .f32) (harg6 : arg6.IsWhole) (arg7 : Memref sig .tc .vmem S256x128 .bf16) (harg7 : arg7.IsWhole) (arg8 : Memref sig .tc .vmem S2x1x128x1792 .bf16) (harg8 : arg8.IsWhole) (arg9 : Memref sig .tc .vmem S256x896 .f32) (harg9 : arg9.IsWhole) (arg10 : Memref sig .tc .vmem S256x896 .f32) (harg10 : arg10.IsWhole) (arg11 : Memref sig .tc .vmem S256x1792 .bf16) (harg11 : arg11.IsWhole) (arg12 : Memref sig .tc .vmem S7168x1792 .bf16) (harg12 : arg12.IsWhole)
  (x0 : Vec Ideal S256x7168 .i8) (x1 : Vec Ideal S256x1 .f32) (x2 : Vec Ideal S3584x1792 .i8) (x3 : Vec Ideal S56x1792 .f32) (x4 : Vec Ideal S256x128 .bf16) (x5 : Vec Ideal S2x1x128x1792 .bf16) (x6 : Vec Ideal S256x896 .f32) (x7 : Vec Ideal S256x896 .f32) (xt0 : TbBuf0 (F := Ideal) c tbM0_0) (xs0 : Vec Ideal S7168x1792 .bf16)
  (hw : k0_chk1 (tbM0_0.view.readAt (Elt Ideal) (Rect.unit (s := S12) (k0_off1 i) S1.size (k0_off1_inb i)).toLoadRect xt0 (Shape.Idx.first (numel1_S1.symm ▸ Nat.one_pos))))

/-- The batch's matrix among the two stacked ones, as the point reads it. -/
abbrev pick : Vec Ideal S1x1x128x1792 .bf16 :=
  View.ld x5 (Rect.unit (k0_off2 (View.ld (View.read (Elt Ideal) (View.whole main_arg0) xt0) (Rect.unit (k0_off1 i) ![1] (k0_off1_inb i))
    (Shape.Idx.first (numel1_S1.symm ▸ Nat.one_pos)))) ![1, 1, 128, 1792] hw)

/-- The weight block, whole, as the first point of a column block leaves it. -/
abbrev wblk : Vec Ideal S7168x1792 .bf16 := W4.wfull 3584 x2 x3

set_option maxHeartbeats 1000000 in
theorem pieces (hc : cond0_0 i) : View.PiecesOf (wblk x2 x3) (kernelRun0_A (F := Ideal) c i arg3 harg3 arg4 harg4 arg5 harg5 arg6 harg6 arg7 harg7 arg8 harg8 arg9 harg9 arg10 harg10 arg11 harg11 arg12 harg12 hc x0 x1 x2 x3 x4 x5 x6 x7 xt0 hw).2.1 := by
  have hi := fun k : Fin 28 => W4.proj_hi x2 x3 (128 * k.val) (3584 + 128 * k.val) 28 k.val rfl (by omega) (W4.inb2 (by omega)) (W4.inb2 (by decide)) (W4.inb2 (by omega)) (W4.row_slices k)
      bitcasts_S128x1792_w8_S32x1792_w32 bitcasts_S32x1792_w32_S128x1792_w8 shapeCasts_S1x1792_S1x1792 broadcasts_S1x1792_S128x1792 bitsLt_bf16_f32 shapeCasts_S128x1792_S128x1792
  have lo := fun k : Fin 28 => W4.proj_lo x2 x3 (128 * k.val) (128 * k.val) 0 k.val rfl (by omega) (W4.inb2 (by omega)) (W4.inb2 (by decide)) (W4.inb2 (by omega)) (W4.row_slices k)
      bitcasts_S128x1792_w8_S32x1792_w32 bitcasts_S32x1792_w32_S128x1792_w8 shapeCasts_S1x1792_S1x1792 broadcasts_S1x1792_S128x1792 bitsLt_bf16_f32 shapeCasts_S128x1792_S128x1792
  frame_out
  dsimp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
  dsimp only [W4.widenW] at hi lo
  exact W4.all_groups hi lo

/-- What a point writes, given the block's weights `W`: the projected block, rotated. -/
abbrev pblk (W : Vec Ideal S7168x1792 .bf16) : FVec Ideal S256x1792 .f32 := W4.projY x0 W x4 (pick c i x5 xt0 hw) x1
abbrev yblk (W : Vec Ideal S7168x1792 .bf16) : FVec Ideal S256x1792 .f32 := W4.rotY (pblk c i x0 x1 x4 x5 xt0 hw W) x6 x7

theorem out8_B (hc : ¬cond0_0 i) : out0_B_8 (F := Ideal) c i arg3 harg3 arg4 harg4 arg5 harg5 arg6 harg6 arg7 harg7 arg8 harg8 arg9 harg9 arg10 harg10 arg11 harg11 arg12 harg12 hc x0 x1 x2 x3 x4 x5 x6 x7 xt0 xs0 hw
    = W4.toBf16 (yblk c i x0 x1 x4 x5 x6 x7 xt0 hw xs0) := by
  frame_out
  rfl

theorem sout_B (hc : ¬cond0_0 i) : sout0_B_0 (F := Ideal) c i arg3 harg3 arg4 harg4 arg5 harg5 arg6 harg6 arg7 harg7 arg8 harg8 arg9 harg9 arg10 harg10 arg11 harg11 arg12 harg12 hc x0 x1 x2 x3 x4 x5 x6 x7 xt0 xs0 hw = xs0 := rfl

theorem out8_A (hc : cond0_0 i) : out0_A_8 (F := Ideal) c i arg3 harg3 arg4 harg4 arg5 harg5 arg6 harg6 arg7 harg7 arg8 harg8 arg9 harg9 arg10 harg10 arg11 harg11 arg12 harg12 hc x0 x1 x2 x3 x4 x5 x6 x7 xt0 hw
    = W4.toBf16 (yblk c i x0 x1 x4 x5 x6 x7 xt0 hw (wblk x2 x3)) := by
  have hp := pieces c i arg3 harg3 arg4 harg4 arg5 harg5 arg6 harg6 arg7 harg7 arg8 harg8 arg9 harg9 arg10 harg10 arg11 harg11 arg12 harg12 x0 x1 x2 x3 x4 x5 x6 x7 xt0 hw hc
  frame_out at hp
  frame_out
  refine (congrArg (fun W => k0_pay1 (F := Ideal) (k0_pay93 x0 W x4 (pick c i x5 xt0 hw) x1) (k0_pay94 x6) (k0_pay95 x7) (Scalar.select (Scalar.cmpi .eq 224#32 0#32) 1#32 224#32) k0_pay96 k0_pay97 k0_pay98 0#32) (W4.read_pieces (S := S7168x1792) _ _ W4.hz2 _ S128x1792.size ?_ (wblk x2 x3) ?_)).trans ?_
  · sl_kernel_rfl
  · exact hp
  · rfl

theorem sout_A (hc : cond0_0 i) : sout0_A_0 (F := Ideal) c i arg3 harg3 arg4 harg4 arg5 harg5 arg6 harg6 arg7 harg7 arg8 harg8 arg9 harg9 arg10 harg10 arg11 harg11 arg12 harg12 hc x0 x1 x2 x3 x4 x5 x6 x7 xt0 hw = wblk x2 x3 := by
  unfold sout0_A_0
  refine (View.read_writes_junk_eq_canon _ _).trans (funext fun y => View.canon_apply_of_pieces _ _ (pieces c i arg3 harg3 arg4 harg4 arg5 harg5 arg6 harg6 arg7 harg7 arg8 harg8 arg9 harg9 arg10 harg10 arg11 harg11 arg12 harg12 x0 x1 x2 x3 x4 x5 x6 x7 xt0 hw hc).mem y (scover0_A_0 c i arg3 harg3 arg4 harg4 arg5 harg5 arg6 harg6 arg7 harg7 arg8 harg8 arg9 harg9 arg10 harg10 arg11 harg11 arg12 harg12 hc x0 x1 x2 x3 x4 x5 x6 x7 xt0 hw y))

end Point

end Cert.ProjQIdeal.Val
-- ==== Proof.ProjQValue.lean ====
/-
  The query projection kernel over its whole grid: the blocks its points read, the unpacked weights its scratch keeps from a
  column block's first point on (`scratch`), and the array its result ends as (`final8`, `run_blocks`).
-/
module

public import proofs.«01_k».proof.Proof.ProjQKernel
public import proofs.«01_k».proof.Proof.ProjSpec
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.ProjQIdeal.Val

open Cert.ProjQIdeal Cert.ProjQIdeal.Gen

variable (m : (ℓ : Loc nD τ sig) → Buf (Elt Ideal) ℓ) (hO : Ok m) (hH : Hyps m hO)

/-! ## The blocks -/

theorem idx0 : ∀ t : Fin grid0.N, cc0_transform_0 (grid0.coords t) = ![t.val % 12, 0] ∧ cc0_transform_1 (grid0.coords t) = ![t.val % 12, 0]
    ∧ cc0_transform_2 (grid0.coords t) = ![0, t.val / 12] ∧ cc0_transform_3 (grid0.coords t) = ![0, t.val / 12]
    ∧ cc0_transform_4 (grid0.coords t) = ![t.val % 12, 0] ∧ cc0_transform_5 (grid0.coords t) = ![0, 0, 0, t.val / 12]
    ∧ cc0_transform_6 (grid0.coords t) = ![t.val % 12, 0] ∧ cc0_transform_7 (grid0.coords t) = ![t.val % 12, 0]
    ∧ cc0_transform_8 (grid0.coords t) = ![t.val % 12, t.val / 12]
    ∧ (grid0.coords t 1).val = t.val % 12 :=
  (by decide +kernel : ∀ t : Fin grid0.N, _)

theorem idx (t : Fin (cfgM m hO).N) : ((cfgM m hO).win 0).index t = ![t.val % 12, 0] ∧ ((cfgM m hO).win 1).index t = ![t.val % 12, 0]
    ∧ ((cfgM m hO).win 2).index t = ![0, t.val / 12] ∧ ((cfgM m hO).win 3).index t = ![0, t.val / 12]
    ∧ ((cfgM m hO).win 4).index t = ![t.val % 12, 0] ∧ ((cfgM m hO).win 5).index t = ![0, 0, 0, t.val / 12]
    ∧ ((cfgM m hO).win 6).index t = ![t.val % 12, 0] ∧ ((cfgM m hO).win 7).index t = ![t.val % 12, 0]
    ∧ ((cfgM m hO).win 8).index t = ![t.val % 12, t.val / 12] := by
  obtain ⟨h0, h1, h2, h3, h4, h5, h6, h7, h8, -⟩ := idx0 t
  exact ⟨h0, h1, h2, h3, h4, h5, h6, h7, h8⟩

/-- The arguments. -/
abbrev ids (c : Dev nD) : S12.Idx → BitVec 32 := m ((c : Thread nD τ).loc main_arg0)
abbrev A1 (c : Dev nD) : S3072x7168.Idx → BitVec 8 := m ((c : Thread nD τ).loc main_arg1)
abbrev A2 (c : Dev nD) : S3072x1.Idx → EReal := m ((c : Thread nD τ).loc main_arg2)
abbrev A3 (c : Dev nD) : S3584x21504.Idx → BitVec 8 := m ((c : Thread nD τ).loc main_arg3)
abbrev A4 (c : Dev nD) : S56x21504.Idx → EReal := m ((c : Thread nD τ).loc main_arg4)
abbrev A5 (c : Dev nD) : S3072x384.Idx → EReal := m ((c : Thread nD τ).loc main_arg5)
abbrev A6 (c : Dev nD) : S2x3x128x7168.Idx → EReal := m ((c : Thread nD τ).loc main_arg6)

abbrev A7 (c : Dev nD) : S3072x112.Idx → EReal := m ((c : Thread nD τ).loc main_arg7)
abbrev A8 (c : Dev nD) : S3072x112.Idx → EReal := m ((c : Thread nD τ).loc main_arg8)

theorem blk0 (c : Dev nD) (t : Fin (cfgM m hO).N) (x : S256x7168.Idx) :
    (iblk m hO c 0 t : Vec Ideal S256x7168 .i8) x = W4.at2 (A1 m c) (256 * (t.val % 12) + (x 0).val) (x 1).val := by
  blk_simp [iblk, V, idx m hO t]
  refine W4.at2_eq (A1 m c) _ _ _ ?_ ?_ <;> blk_simp [idx m hO t] <;> omega

theorem blk1 (c : Dev nD) (t : Fin (cfgM m hO).N) (x : S256x1.Idx) :
    (iblk m hO c 1 t : Vec Ideal S256x1 .f32) x = W4.at2 (A2 m c) (256 * (t.val % 12) + (x 0).val) 0 := by
  have h1 : (x 1).val < 1 := (x 1).isLt
  blk_simp [iblk, V, idx m hO t]
  refine W4.at2_eq (A2 m c) _ _ _ ?_ ?_ <;> blk_simp [idx m hO t] <;> omega

theorem blk2 (c : Dev nD) (t : Fin (cfgM m hO).N) (x : S3584x1792.Idx) :
    (iblk m hO c 2 t : Vec Ideal S3584x1792 .i8) x = W4.at2 (A3 m c) (x 0).val (1792 * (t.val / 12) + (x 1).val) := by
  blk_simp [iblk, V, idx m hO t]
  refine W4.at2_eq (A3 m c) _ _ _ ?_ ?_ <;> blk_simp [idx m hO t] <;> omega

theorem blk3 (c : Dev nD) (t : Fin (cfgM m hO).N) (x : S56x1792.Idx) :
    (iblk m hO c 3 t : Vec Ideal S56x1792 .f32) x = W4.at2 (A4 m c) (x 0).val (1792 * (t.val / 12) + (x 1).val) := by
  blk_simp [iblk, V, idx m hO t]
  refine W4.at2_eq (A4 m c) _ _ _ ?_ ?_ <;> blk_simp [idx m hO t] <;> omega

theorem blk4 (c : Dev nD) (t : Fin (cfgM m hO).N) (x : S256x128.Idx) :
    (iblk m hO c 4 t : Vec Ideal S256x128 .bf16) x = W4.at2 (A5 m c) (256 * (t.val % 12) + (x 0).val) (128 * 0 + (x 1).val) := by
  blk_simp [iblk, V, idx m hO t]
  refine W4.at2_eq (A5 m c) _ _ _ ?_ ?_ <;> blk_simp [idx m hO t] <;> omega

theorem blk5 (c : Dev nD) (t : Fin (cfgM m hO).N) (x : S2x1x128x1792.Idx) :
    (iblk m hO c 5 t : Vec Ideal S2x1x128x1792 .bf16) x = W4.at4 (A6 m c) (x 0).val 0 (x 2).val (1792 * (t.val / 12) + (x 3).val) := by
  have h1 : (x 1).val < 1 := (x 1).isLt
  blk_simp [iblk, V, idx m hO t]
  refine W4.at4_eq (A6 m c) _ _ _ _ _ ?_ ?_ ?_ ?_ <;> blk_simp [idx m hO t] <;> omega

/-- The table of cosines: eight copies side by side. -/
theorem V_cos (c : Dev nD) (x : S3072x896.Idx) : (V m c main_v0 : S3072x896.Idx → EReal) x = W4.at2 (A7 m c) (x 0).val ((x 1).val % 112) := by
  entry_read
  refine (W4.eight_apply (A7 m c) (A7 m c) _ x).trans ?_
  split <;> rfl

/-- The sines, negated. -/
abbrev nsin (c : Dev nD) : S3072x112.Idx → EReal := (Host.negf (F := Ideal) (φ := .f32) (A8 m c) : FVec Ideal S3072x112 .f32)

theorem V_sin_eq (c : Dev nD) : (V m c main_v2 : S3072x896.Idx → EReal)
    = concatenate (α := EReal) S3072x896 1 [⟨S3072x112, nsin m c⟩, ⟨S3072x112, A8 m c⟩, ⟨S3072x112, nsin m c⟩, ⟨S3072x112, A8 m c⟩, ⟨S3072x112, nsin m c⟩, ⟨S3072x112, A8 m c⟩, ⟨S3072x112, nsin m c⟩, ⟨S3072x112, A8 m c⟩]
      (by decide : Shape.Concatenates [S3072x112, S3072x112, S3072x112, S3072x112, S3072x112, S3072x112, S3072x112, S3072x112] S3072x896 1) := by
  sl_kernel_rfl

/-- The table of sines: a negated copy, then a copy, four times. -/
theorem V_sin (c : Dev nD) (x : S3072x896.Idx) : (V m c main_v2 : S3072x896.Idx → EReal) x = W4.signed (W4.at2 (A8 m c)) (x 0).val (x 1).val := by
  refine (congrFun (V_sin_eq m c) x).trans ((W4.eight_apply (nsin m c) (A8 m c) _ x).trans ?_)
  unfold W4.signed
  split
  · have hx : (x 1).val % 112 < 112 := Nat.mod_lt _ (by norm_num)
    exact (W4.at2_at (nsin m c) (x 0) _ hx _ rfl).symm.trans (congrArg (fun v : EReal => -v) (W4.at2_at (A8 m c) (x 0) _ hx _ rfl))
  · rfl

theorem blk6 (c : Dev nD) (t : Fin (cfgM m hO).N) (x : S256x896.Idx) :
    (iblk m hO c 6 t : Vec Ideal S256x896 .f32) x = W4.at2 (A7 m c) (256 * (t.val % 12) + (x 0).val) ((x 1).val % 112) := by
  blk_simp [iblk, idx m hO t]
  refine (V_cos m c _).trans (congrArg₂ (W4.at2 (A7 m c)) ?_ (congrArg (· % 112) ?_)) <;> blk_simp [idx m hO t] <;> omega

theorem blk7 (c : Dev nD) (t : Fin (cfgM m hO).N) (x : S256x896.Idx) :
    (iblk m hO c 7 t : Vec Ideal S256x896 .f32) x = W4.signed (W4.at2 (A8 m c)) (256 * (t.val % 12) + (x 0).val) (x 1).val := by
  blk_simp [iblk, idx m hO t]
  refine (V_sin m c _).trans (congrArg₂ (W4.signed (W4.at2 (A8 m c))) ?_ ?_) <;> blk_simp [idx m hO t] <;> omega

/-- The batch's matrix: the one its table entry names. -/
theorem pick_apply (c : Dev nD) (t : Fin (cfgM m hO).N) (k : Fin 128) (l : Fin 1792) :
    (pick c (grid0.coords t) (iblk m hO c 5 t) (tbl m 0) (Hyps.c0 hH c t) (ValueIdx.ix4 0 0 k l) : EReal)
      = W4.at4 (A6 m c) (W4.wordAt (ids m c) (t.val % 12)) 0 k.val (1792 * (t.val / 12) + l.val) := by
  refine (blk5 m hO c t _).trans ?_
  have hb : (grid0.coords t 1).val = t.val % 12 := (idx0 t).2.2.2.2.2.2.2.2.2
  have hlt : t.val % 12 < 12 := Nat.mod_lt _ (by norm_num)
  obtain rfl : c = 0 := Subsingleton.elim _ _
  have ht : (tbl m 0 : S12.Idx → BitVec 32) = ids m 0 := V_main_arg0 m 0
  congr 1
  · refine (Nat.add_zero _).trans ?_
    refine Eq.trans (b := (BitVec.toNat ((tbl m 0 : S12.Idx → BitVec 32) _))) rfl ?_
    rw [ht]
    refine W4.wordAt_eq (ids m 0) _ _ ?_
    show (BitVec.ofNat 32 (grid0.coords t 1).val).toNat + 1 * 0 = _
    rw [hb, BitVec.toNat_ofNat]
    omega
  · show 0 + 1 * k.val = k.val
    omega
  · show 1792 * (t.val / 12) + (0 + 1 * l.val) = _
    omega

/-- The unpacked weights of a column block. -/
theorem wblk_apply (c : Dev nD) (t : Fin (cfgM m hO).N) (k : Fin 7168) (l : Fin 1792) :
    (wblk (iblk m hO c 2 t) (iblk m hO c 3 t) (ValueIdx.ix2 k l) : EReal)
      = W4.wat 3584 (A3 m c) (A4 m c) k.val (7168 * 0 + (1792 * (t.val / 12) + l.val)) := by
  have hk := k.isLt
  show W4.wat 3584 (iblk m hO c 2 t : Vec Ideal S3584x1792 .i8) (iblk m hO c 3 t : Vec Ideal S56x1792 .f32) k.val l.val = _
  unfold W4.wat
  have ec : 1792 * (t.val / 12) + l.val = 7168 * 0 + (1792 * (t.val / 12) + l.val) := by omega
  have e2 : W4.at2 (a := 3584) (b := 1792) (α := BitVec 8) (iblk m hO c 2 t) (k.val % 3584) l.val = W4.at2 (A3 m c) (k.val % 3584) (1792 * (t.val / 12) + l.val) :=
    (W4.at2_ix2 (a := 3584) (b := 1792) (α := BitVec 8) (iblk m hO c 2 t) ⟨k.val % 3584, Nat.mod_lt _ (by norm_num)⟩ l).symm.trans (blk2 m hO c t _)
  have e3 : W4.at2 (a := 56) (b := 1792) (α := EReal) (iblk m hO c 3 t) (k.val / 128) l.val = W4.at2 (A4 m c) (k.val / 128) (1792 * (t.val / 12) + l.val) :=
    (W4.at2_ix2 (a := 56) (b := 1792) (α := EReal) (iblk m hO c 3 t) ⟨k.val / 128, by omega⟩ l).symm.trans (blk3 m hO c t _)
  rw [e2, e3, ← ec]

/-- The projected values. -/
abbrev P (c : Dev nD) : ℕ → ℕ → EReal := W4.yval (A1 m c) (A2 m c) (A3 m c) (A4 m c) (A5 m c) (A6 m c) (ids m c) 0

theorem pblk_apply (c : Dev nD) (t : Fin (cfgM m hO).N) (W : Vec Ideal S7168x1792 .bf16)
    (hW : ∀ (k : Fin 7168) (l : Fin 1792), (W (ValueIdx.ix2 k l) : EReal) = W4.wat 3584 (A3 m c) (A4 m c) k.val (7168 * 0 + (1792 * (t.val / 12) + l.val)))
    (p : Fin 256) (l : Fin 1792) :
    (pblk c (grid0.coords t) (iblk m hO c 0 t) (iblk m hO c 1 t) (iblk m hO c 4 t) (iblk m hO c 5 t) (tbl m 0) (Hyps.c0 hH c t) W (ValueIdx.ix2 p l) : EReal)
      = P m c (256 * (t.val % 12) + p.val) (1792 * (t.val / 12) + l.val) := by
  have hp := p.isLt
  refine (W4.projY_apply _ _ _ _ _ p l
    (fun k => (((W4.at2 (A1 m c) (256 * (t.val % 12) + p.val) k).toInt : ℝ) : EReal) * W4.wat 3584 (A3 m c) (A4 m c) k (7168 * 0 + (1792 * (t.val / 12) + l.val)))
    (fun r => W4.at2 (A5 m c) (256 * (t.val % 12) + p.val) (128 * 0 + r) * W4.at4 (A6 m c) (W4.wordAt (ids m c) (t.val % 12)) 0 r (1792 * (t.val / 12) + l.val))
    _ (fun k => ?_) (fun k => ?_) (blk1 m hO c t _)).trans ?_
  · exact congrArg₂ (HMul.hMul (α := EReal)) (congrArg (fun b : BitVec 8 => ((b.toInt : ℝ) : EReal)) (blk0 m hO c t _)) (hW k l)
  · exact congrArg₂ (HMul.hMul (α := EReal)) (blk4 m hO c t _) (pick_apply m hO hH c t k l)
  · show _ = W4.yval _ _ _ _ _ _ _ 0 _ _
    unfold W4.yval
    have e : (256 * (t.val % 12) + p.val) / 256 = t.val % 12 := by omega
    rw [e]

/-- The projected values, rotated. -/
abbrev Y (c : Dev nD) : ℕ → ℕ → EReal := W4.rot (P m c) (W4.at2 (A7 m c)) (W4.at2 (A8 m c))

theorem yblk_apply (c : Dev nD) (t : Fin (cfgM m hO).N) (W : Vec Ideal S7168x1792 .bf16)
    (hW : ∀ (k : Fin 7168) (l : Fin 1792), (W (ValueIdx.ix2 k l) : EReal) = W4.wat 3584 (A3 m c) (A4 m c) k.val (7168 * 0 + (1792 * (t.val / 12) + l.val)))
    (p : Fin 256) (l : Fin 1792) :
    (yblk c (grid0.coords t) (iblk m hO c 0 t) (iblk m hO c 1 t) (iblk m hO c 4 t) (iblk m hO c 5 t) (iblk m hO c 6 t) (iblk m hO c 7 t) (tbl m 0) (Hyps.c0 hH c t) W (ValueIdx.ix2 p l) : EReal)
      = Y m c (256 * (t.val % 12) + p.val) (1792 * (t.val / 12) + l.val) :=
  W4.rotY_rot _ _ _ (P m c) _ _ _ _ (pblk_apply m hO hH c t W hW) (fun p l => blk6 m hO c t (ValueIdx.ix2 p l)) (fun p l => blk7 m hO c t (ValueIdx.ix2 p l)) p l

/-- After every point the scratch holds the weights of the point's column block. -/
theorem scratch (c : Dev nD) (n : ℕ) (hn : n < (cfgM m hO).N) (k : Fin 7168) (l : Fin 1792) :
    ((outsAt0 m hO hH c n hn).2 (ValueIdx.ix2 k l) : EReal) = W4.wat 3584 (A3 m c) (A4 m c) k.val (7168 * 0 + (1792 * (n / 12) + l.val)) := by
  induction n with
  | zero =>
    rw [outsAt0_A m hO hH c ⟨0, hn⟩ rfl]
    dsimp only
    exact (congrFun (sout_A ..) _).trans (wblk_apply m hO c ⟨0, hn⟩ k l)
  | succ n ih =>
    by_cases h0 : (n + 1) % 12 = 0
    · rw [outsAt0_A m hO hH c ⟨n + 1, hn⟩ h0]
      dsimp only
      exact (congrFun (sout_A ..) _).trans (wblk_apply m hO c ⟨n + 1, hn⟩ k l)
    · rw [outsAt0_B m hO hH c ⟨n + 1, hn⟩ h0]
      dsimp only
      have e : (n + 1) / 12 = n / 12 := by omega
      rw [e]
      exact (congrFun (sout_B ..) _).trans (ih (Nat.lt_of_succ_lt hn))

/-- What a point leaves: the rotated values of its block. -/
theorem values (c : Dev nD) (t : Fin (cfgM m hO).N) (p : Fin 256) (l : Fin 1792) :
    ((outsAt0 m hO hH c t.val t.isLt).1 (ValueIdx.ix2 p l) : EReal) = Y m c (256 * (t.val % 12) + p.val) (1792 * (t.val / 12) + l.val) := by
  by_cases h0 : t.val % 12 = 0
  · rw [outsAt0_A m hO hH c t h0]
    dsimp only
    exact (congrFun (out8_A ..) _).trans (yblk_apply m hO hH c t _ (wblk_apply m hO c t) p l)
  · rw [outsAt0_B m hO hH c t h0]
    dsimp only
    have e : (t.val - 1) / 12 = t.val / 12 := by omega
    exact (congrFun (out8_B ..) _).trans (yblk_apply m hO hH c t _ (by intro k l; rw [scratch, e]) p l)

/-! ## The result arrays -/

/-- The rotated values. -/
def G8 (c : Dev nD) : S3072x7168.Idx → EReal := fun x => Y m c (x 0).val (x 1).val

theorem covers8 : ((cfgM m hO).win 8).Covers := by
  refine Pipeline.Window.covers_of_index_surj _ rfl (by decide : ∀ a, 0 < S256x1792.size a) fun β => ?_
  have h0 : (β (0 : Fin 2)).val < 12 := Nat.lt_of_lt_of_eq (β (0 : Fin 2)).isLt (show (3072 + 256 - 1) / 256 = 12 by norm_num)
  have h1 : (β (1 : Fin 2)).val < 4 := Nat.lt_of_lt_of_eq (β (1 : Fin 2)).isLt (show (7168 + 1792 - 1) / 1792 = 4 by norm_num)
  let t : Fin (cfgM m hO).N := (⟨12 * (β (1 : Fin 2)).val + (β (0 : Fin 2)).val, by show _ < 48; omega⟩ : Fin 48)
  have ht : t.val = 12 * (β (1 : Fin 2)).val + (β (0 : Fin 2)).val := rfl
  refine ⟨t, fun a => ?_⟩
  rw [(idx m hO t).2.2.2.2.2.2.2.2]
  match a with
  | ⟨0, _⟩ => show t.val % 12 = (β (0 : Fin 2)).val; omega
  | ⟨1, _⟩ => show t.val / 12 = (β (1 : Fin 2)).val; omega

theorem final8 (c : Dev nD) : (dats m hO hH 0 c).arrAt 8 (cfgM m hO).N = G8 m c := by
  refine (dats m hO hH 0 c).arrAt_eq_of_covers 8 _ (covers8 m hO) fun t hf y => ?_
  have e0 : ((((cfgM m hO).win 8).blk t).view.emb y (0 : Fin 2)).val = 256 * (t.val % 12) + (y (0 : Fin 2)).val := by blk_simp [idx m hO t]; omega
  have e1 : ((((cfgM m hO).win 8).blk t).view.emb y (1 : Fin 2)).val = 1792 * (t.val / 12) + (y (1 : Fin 2)).val := by blk_simp [idx m hO t]; omega
  refine Eq.trans (b := Y m c (256 * (t.val % 12) + (y (0 : Fin 2)).val) (1792 * (t.val / 12) + (y (1 : Fin 2)).val)) ?_ ?_
  · obtain ⟨p, l, hy⟩ := W4.ix2_surj (a := 256) (b := 1792) y
    subst hy
    exact (congrFun (after0_8 m hO hH c t) _).trans (values m hO hH c t p l)
  · rw [← e0, ← e1]
    rfl

include hO hH in
/-- The run: the result holds the rotated values, the arguments are unchanged. -/
theorem run_blocks (ρ : Dev nD → PrngReg) : θ_run defs (onTc (τ := τ) (main (F := Ideal))) ⟨m, fun _ => 0, ρ⟩ (fun r => ∀ c : Dev nD,
      r.2.mem ((c.tc : Thread nD τ).loc main_v3) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 8).trans (final8 m hO hH c), h.2 c⟩)
    (θ_run_and (run_main m ρ hO hH) (unchanged m ρ hO hH))

end Cert.ProjQIdeal.Val
-- ==== Proof.ProjQRef.lean ====
/-
  The query projection's reference read over the extended reals: its values are the projected ones, rotated (`heads`), and its
  result ends as that array (`final9`). The projection is the value projection's reference's,
  at other columns, so its reading is taken from there.
-/
module

public import proofs.«01_k».proof.Proof.ProjVRef
public import proofs.«01_k».proof.Proof.ProjRot
public import proofs.«01_k».proof.Proof.Gen.ProjQRefIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ProjQRefIdeal.Val

open Cert.ProjQRefIdeal Cert.ProjQRefIdeal.Gen

/-! ## The result arrays -/

variable (m : (ℓ : Loc nD τ sig) → Buf (Elt Ideal) ℓ)

abbrev ids (c : Dev nD) : S12.Idx → BitVec 32 := m ((c : Thread nD τ).loc main_arg0)
abbrev A1 (c : Dev nD) : S3072x7168.Idx → BitVec 8 := m ((c : Thread nD τ).loc main_arg1)
abbrev A2 (c : Dev nD) : S3072x1.Idx → EReal := m ((c : Thread nD τ).loc main_arg2)
abbrev A3 (c : Dev nD) : S3584x21504.Idx → BitVec 8 := m ((c : Thread nD τ).loc main_arg3)
abbrev A4 (c : Dev nD) : S56x21504.Idx → EReal := m ((c : Thread nD τ).loc main_arg4)
abbrev A5 (c : Dev nD) : S3072x384.Idx → EReal := m ((c : Thread nD τ).loc main_arg5)
abbrev A6 (c : Dev nD) : S2x3x128x7168.Idx → EReal := m ((c : Thread nD τ).loc main_arg6)

abbrev A7 (c : Dev nD) : S3072x112.Idx → EReal := m ((c : Thread nD τ).loc main_arg7)
abbrev A8 (c : Dev nD) : S3072x112.Idx → EReal := m ((c : Thread nD τ).loc main_arg8)

/-- The projected values. -/
abbrev P (c : Dev nD) : ℕ → ℕ → EReal := W4.yval (A1 m c) (A2 m c) (A3 m c) (A4 m c) (A5 m c) (A6 m c) (ids m c) 0

/-- The projected values, rotated. -/
abbrev Y (c : Dev nD) : ℕ → ℕ → EReal := W4.rot (P m c) (W4.at2 (A7 m c)) (W4.at2 (A8 m c))

theorem V_ids (c : Dev nD) (b : Fin 12) : (V m c main_v0 : S12x1x1.Idx → BitVec 32) (ValueIdx.ix3 b 0 0) = ids m c (ValueIdx.ix1 b) := by
  entry_read
  pointwise
  rfl

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0, 0, 0]
    ∧ win0_7.index t = ![0, 0] ∧ win0_8.index t = ![0, 0] ∧ win0_9.index t = ![0, 0] :=
  (by decide +kernel : ∀ t : Fin grid0.N, _)

theorem blk0 (c : Dev nD) (t : Fin cfg0.N) (b : Fin 12) :
    (iblk m c 0 t : Vec Ideal S12x1x1 .i32) (ValueIdx.ix3 b 0 0) = ids m c (ValueIdx.ix1 b) := by
  refine Eq.trans ?_ (V_ids m c b)
  blk_ext [iblk, idx t]

theorem blk1 (c : Dev nD) (t : Fin cfg0.N) : (iblk m c 1 t : Vec Ideal S3072x7168 .i8) = A1 m c := by
  funext x
  blk_ext [iblk, V, idx t]

theorem blk2 (c : Dev nD) (t : Fin cfg0.N) : (iblk m c 2 t : Vec Ideal S3072x1 .f32) = A2 m c := by
  funext x
  blk_ext [iblk, V, idx t]

theorem blk3 (c : Dev nD) (t : Fin cfg0.N) : (iblk m c 3 t : Vec Ideal S3584x21504 .i8) = A3 m c := by
  funext x
  blk_ext [iblk, V, idx t]

theorem blk4 (c : Dev nD) (t : Fin cfg0.N) : (iblk m c 4 t : Vec Ideal S56x21504 .f32) = A4 m c := by
  funext x
  blk_ext [iblk, V, idx t]

theorem blk5 (c : Dev nD) (t : Fin cfg0.N) : (iblk m c 5 t : Vec Ideal S3072x384 .bf16) = A5 m c := by
  funext x
  blk_ext [iblk, V, idx t]

theorem blk6 (c : Dev nD) (t : Fin cfg0.N) : (iblk m c 6 t : Vec Ideal S2x3x128x7168 .bf16) = A6 m c := by
  funext x
  blk_ext [iblk, V, idx t]

theorem blk7 (c : Dev nD) (t : Fin cfg0.N) : (iblk m c 7 t : Vec Ideal S3072x112 .f32) = A7 m c := by
  funext x
  blk_ext [iblk, V, idx t]

theorem blk8 (c : Dev nD) (t : Fin cfg0.N) : (iblk m c 8 t : Vec Ideal S3072x112 .f32) = A8 m c := by
  funext x
  blk_ext [iblk, V, idx t]

/-- The values are the value projection's formula, rotated and laid flat. -/
theorem pay2_eq (x : Vec Ideal S3072x7168 .i8) (xs : Vec Ideal S3072x1 .f32) (w : Vec Ideal S3584x7168 .i8) (s : Vec Ideal S56x7168 .f32)
    (i : Vec Ideal S12x1x1 .i32) (t : Vec Ideal S3072x128 .bf16) (u v : Vec Ideal S1x1x128x7168 .bf16) (cs sn : Vec Ideal S3072x112 .f32) :
    k0_pay2 (k0_pay1 x xs w s) i t u v cs sn = W4.refFlat (W4.refRot (ProjVRefIdeal.Gen.k0_pay3 (ProjVRefIdeal.Gen.k0_pay2 x xs w s) i t u v) cs sn) := by
  unfold k0_pay2 k0_pay1 W4.refFlat W4.refRot ProjVRefIdeal.Gen.k0_pay3 ProjVRefIdeal.Gen.k0_pay2
  rfl

section
variable (x0 : Vec Ideal S12x1x1 .i32) (x1 : Vec Ideal S3072x7168 .i8) (x2 : Vec Ideal S3072x1 .f32) (x3 : Vec Ideal S3584x21504 .i8)
  (x4 : Vec Ideal S56x21504 .f32) (x5 : Vec Ideal S3072x384 .bf16) (x6 : Vec Ideal S2x3x128x7168 .bf16) (x7 x8 : Vec Ideal S3072x112 .f32)

/-- The rotated values as the body computes them. -/
abbrev val : FVec Ideal S12x256x32x224 .f32 :=
  W4.refRot (ProjVRefIdeal.Gen.k0_pay3 (ProjVRefIdeal.Gen.k0_pay2 (View.ld x1 r0_0) (View.ld x2 r0_1) (View.ld x3 r0_2) (View.ld x4 r0_3))
    (View.ld x0 r0_4) (View.ld x5 r0_5) (View.ld x6 r0_6) (View.ld x6 r0_7)) (View.ld x7 r0_8) (View.ld x8 r0_8)

theorem out9_apply : out0_9 x0 x1 x2 x3 x4 x5 x6 x7 x8
    = k0_pay2 (k0_pay1 (View.ld x1 r0_0) (View.ld x2 r0_1) (View.ld x3 r0_2) (View.ld x4 r0_3)) (View.ld x0 r0_4) (View.ld x5 r0_5) (View.ld x6 r0_6) (View.ld x6 r0_7) (View.ld x7 r0_8) (View.ld x8 r0_8) := by
  funext y
  unfold out0_9
  frame_out

theorem out9_eq : out0_9 x0 x1 x2 x3 x4 x5 x6 x7 x8 = W4.refFlat (val x0 x1 x2 x3 x4 x5 x6 x7 x8) := by
  rw [out9_apply, pay2_eq]

end

abbrev yv (c : Dev nD) (t : Fin cfg0.N) : FVec Ideal S12x256x32x224 .f32 :=
  val (iblk m c 0 t) (iblk m c 1 t) (iblk m c 2 t) (iblk m c 3 t) (iblk m c 4 t) (iblk m c 5 t) (iblk m c 6 t) (iblk m c 7 t) (iblk m c 8 t)

variable (hids : ∀ (c : Dev nD) (b : Fin 12), ids m c (ValueIdx.ix1 b) = 0#32 ∨ ids m c (ValueIdx.ix1 b) = 1#32)
include hids

theorem heads (c : Dev nD) (t : Fin cfg0.N) (b : Fin 12) (q : Fin 256) (h : Fin 32) (d : Fin 224) :
    (yv m c t (ValueIdx.ix4 b q h d) : EReal) = Y m c (256 * b.val + q.val) (224 * h.val + d.val) := by
  have e7 : (View.ld (iblk m c 7 t : Vec Ideal S3072x112 .f32) r0_8 : Vec Ideal S3072x112 .f32) = A7 m c := by
    funext x
    refine (congrFun (blk7 m c t) _).trans (congrArg (A7 m c) (funext fun a => Fin.ext ?_))
    fin_cases a <;> (show 0 + 1 * _ = _) <;> omega
  have e8 : (View.ld (iblk m c 8 t : Vec Ideal S3072x112 .f32) r0_8 : Vec Ideal S3072x112 .f32) = A8 m c := by
    funext x
    refine (congrFun (blk8 m c t) _).trans (congrArg (A8 m c) (funext fun a => Fin.ext ?_))
    fin_cases a <;> (show 0 + 1 * _ = _) <;> omega
  refine (W4.refRot_apply _ _ _ (P m c) (fun b q h d => ?_) b q h d).trans
    (congrArg₂ (fun u v : S3072x112.Idx → EReal => W4.rot (P m c) (W4.at2 u) (W4.at2 v) (256 * b.val + q.val) (224 * h.val + d.val)) e7 e8)
  refine ProjVRefIdeal.Val.refY_apply (A1 m c) (A2 m c) (A3 m c) (A4 m c) (A5 m c) (A6 m c) (ids m c) 0 (by norm_num) _ _ _ _ _ _ _ _ ?_ ?_ ?_ ?_ ?_ ?_ ?_ ?_ (hids c) b q h d
  · funext x
    refine (congrFun (blk1 m c t) _).trans (congrArg (A1 m c) (funext fun a => Fin.ext ?_))
    fin_cases a <;> (show 0 + 1 * _ = _) <;> omega
  · funext x
    refine (congrFun (blk2 m c t) _).trans (congrArg (A2 m c) (funext fun a => Fin.ext ?_))
    fin_cases a <;> (show 0 + 1 * _ = _) <;> omega
  · intro x
    exact ⟨r0_2.idx x, congrFun (blk3 m c t) _, (by show 0 + 1 * _ = _; omega), (by show 0 + 1 * _ = _; omega)⟩
  · intro x
    exact ⟨r0_3.idx x, congrFun (blk4 m c t) _, (by show 0 + 1 * _ = _; omega), (by show 0 + 1 * _ = _; omega)⟩
  · intro b
    exact (congrArg (iblk m c 0 t : Vec Ideal S12x1x1 .i32) (funext fun a => Fin.ext (by fin_cases a <;> (show 0 + 1 * _ = _) <;> omega))).trans (blk0 m c t b)
  · intro x
    exact ⟨r0_5.idx x, congrFun (blk5 m c t) _, (by show 0 + 1 * _ = _; omega), (by show 0 + 1 * _ = _; omega)⟩
  · intro k l
    refine (congrFun (blk6 m c t) _).trans (W4.at4_eq (A6 m c) _ _ _ _ _ ?_ ?_ ?_ ?_)
    · rfl
    · rfl
    · show 0 + 1 * k.val = k.val; omega
    · show 0 + 1 * l.val = l.val; omega
  · intro k l
    refine (congrFun (blk6 m c t) _).trans (W4.at4_eq (A6 m c) _ _ _ _ _ ?_ ?_ ?_ ?_)
    · rfl
    · rfl
    · show 0 + 1 * k.val = k.val; omega
    · show 0 + 1 * l.val = l.val; omega

/-- The values the reference leaves. -/
theorem final9 (c : Dev nD) : (dats m 0 c).arrAt 9 cfg0.N = (fun x => Y m c (x 0).val (x 1).val : S3072x7168.Idx → EReal) := by
  refine (dats m 0 c).arrAt_eq_of_covers 9 _ (by decide +kernel) fun t hf y => ?_
  have e0 : ((win0_9.blk t).view.emb y 0).val = (y 0).val := by blk_simp [idx t]
  have e1 : ((win0_9.blk t).view.emb y 1).val = (y 1).val := by blk_simp [idx t]
  have hy : (y : S3072x7168.Idx) = ValueIdx.ix2 (y 0) (y 1) := by funext a; fin_cases a <;> rfl
  rw [after0_9]
  show _ = Y m c ((win0_9.blk t).view.emb y 0).val ((win0_9.blk t).view.emb y 1).val
  rw [e0, e1]
  have key := W4.refFlat_apply _ (Y m c) (heads m hids c t) (y 0) (y 1)
  refine Eq.trans ?_ ((congrArg (W4.refFlat (yv m c t)) hy).trans key)
  blk_simp
  rw [out9_eq]

end Cert.ProjQRefIdeal.Val
-- ==== Proof.ProjQClaim.lean ====
/- The claim about the query projection: kernel and reference end with the same rotated values, at every argument whose
   batch indices name one of the two adapter matrices. -/
module

public import proofs.«01_k».proof.Defs
public import proofs.«01_k».proof.Proof.Gen.Pre_ok_ids_qk
public import proofs.«01_k».proof.Proof.Gen.ProjQ.Frame
public import proofs.«01_k».proof.Proof.ProjKClaim
public import proofs.«01_k».proof.Proof.ProjQValue
public import proofs.«01_k».proof.Proof.ProjQRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjQClaim

attribute [local instance] Cert.Pre_ok_ids_qk.Gen.facts

theorem chk (v : BitVec 32) (h : v = 0#32 ∨ v = 1#32) : Cert.ProjQ.k0_chk1 v := by
  have h1 := Cert.ProjVClaim.toNat_le v h
  intro a
  fin_cases a
  · show v.toNat + 1 ≤ 2
    omega
  · show 0 + 1 ≤ 1
    omega
  · show 0 + 128 ≤ 128
    omega
  · show 0 + 1792 ≤ 1792
    omega

theorem chkIdeal (v : BitVec 32) (h : v = 0#32 ∨ v = 1#32) : Cert.ProjQIdeal.k0_chk1 v := by
  have h1 := Cert.ProjVClaim.toNat_le v h
  intro a
  fin_cases a
  · show v.toNat + 1 ≤ 2
    omega
  · show 0 + 1 ≤ 1
    omega
  · show 0 + 128 ≤ 128
    omega
  · show 0 + 1792 ≤ 1792
    omega

section
open Cert.ProjQ Cert.ProjQ.Gen
variable (m : (ℓ : Loc nD τ sig) → Buf (Elt Bits) ℓ) (h : Cert.Pre_ProjQ m)
include h

theorem wordsProjQ (x : S12.Idx) : (tbl m 0 : S12.Idx → BitVec 32) x = 0#32 ∨ (tbl m 0 : S12.Idx → BitVec 32) x = 1#32 := by
  have ht : (tbl m 0 : S12.Idx → BitVec 32) = m (((0 : Dev nD) : Thread nD τ).loc main_arg0) := V_main_arg0 m 0
  rw [ht]
  exact Cert.ProjKClaim.ids_of_pre _ _ _ _ _ _ _ _ _ (h 0) x

/-- The table never moves a block, so every table is in order. -/
theorem okProjQ : Ok m := by
  exact (trivial : True)

/-- The kernel picks one of the two adapter matrices. -/
theorem hypsProjQ (hO : Ok m) : Hyps m hO :=
  Hyps.of fun c t => chk _ (wordsProjQ m h _)

end

section
open Cert.ProjQIdeal Cert.ProjQIdeal.Gen
variable (m : (ℓ : Loc nD τ sig) → Buf (Elt Ideal) ℓ) (h : Cert.Pre_ProjQIdeal m)
include h

theorem wordsProjQIdeal (x : S12.Idx) : (tbl m 0 : S12.Idx → BitVec 32) x = 0#32 ∨ (tbl m 0 : S12.Idx → BitVec 32) x = 1#32 := by
  have ht : (tbl m 0 : S12.Idx → BitVec 32) = m (((0 : Dev nD) : Thread nD τ).loc main_arg0) := V_main_arg0 m 0
  rw [ht]
  exact Cert.ProjKClaim.ids_of_pre _ _ _ _ _ _ _ _ _ (h 0) x

/-- The table never moves a block, so every table is in order. -/
theorem okProjQIdeal : Ok m := by
  exact (trivial : True)

/-- The kernel picks one of the two adapter matrices. -/
theorem hypsProjQIdeal (hO : Ok m) : Hyps m hO :=
  Hyps.of fun c t => chkIdeal _ (wordsProjQIdeal m h _)

end

theorem algebraic : Cert.algebraic_ProjQIdeal_ProjQRefIdeal := by
  intro m g m' g' hpre hagree
  have hO := okProjQIdeal m hpre
  have hH := hypsProjQIdeal m hpre hO
  have hids : ∀ (c : Dev Cert.ProjQRefIdeal.nD) (b : Fin 12), Cert.ProjQRefIdeal.Val.ids m' c (ValueIdx.ix1 b) = 0#32 ∨ Cert.ProjQRefIdeal.Val.ids m' c (ValueIdx.ix1 b) = 1#32 := by
    intro c b
    have e := (hagree c).1
    unfold Cert.ProjQRefIdeal.Val.ids
    rw [e]
    exact Cert.ProjKClaim.ids_of_pre _ _ _ _ _ _ _ _ _ (hpre c) _
  have hY : ∀ c, Cert.ProjQRefIdeal.Val.Y m' c = Cert.ProjQIdeal.Val.Y m c := by
    intro c
    obtain ⟨e0, e1, e2, e3, e4, e5, e6, e7, e8⟩ := hagree c
    unfold Cert.ProjQRefIdeal.Val.Y Cert.ProjQRefIdeal.Val.P Cert.ProjQRefIdeal.Val.ids Cert.ProjQRefIdeal.Val.A1 Cert.ProjQRefIdeal.Val.A2 Cert.ProjQRefIdeal.Val.A3
      Cert.ProjQRefIdeal.Val.A4 Cert.ProjQRefIdeal.Val.A5 Cert.ProjQRefIdeal.Val.A6 Cert.ProjQRefIdeal.Val.A7 Cert.ProjQRefIdeal.Val.A8
    rw [e0, e1, e2, e3, e4, e5, e6, e7, e8]
  refine ⟨fun c => Cert.ProjQIdeal.Val.G8 m c,
    Cert.ProjQIdeal.Val.run_blocks m hO hH g,
    (θ_run Cert.ProjQRefIdeal.defs _ _).mono (fun r h c => ?_) (Cert.ProjQRefIdeal.Value.run_blocks (F := Ideal) m' g')⟩
  obtain ⟨h0, hk⟩ := h c
  refine ⟨h0.trans ((Cert.ProjQRefIdeal.Val.final9 m' hids c).trans ?_), hk⟩
  rw [hY c]
  rfl

end Cert.ProjQClaim

end
-- ==== Proof.lean ====
module

public import proofs.«01_k».proof.Defs
public import proofs.«01_k».proof.Proof.Gen.Down.Frame
public import proofs.«01_k».proof.Proof.Gen.DownIdeal.Value
public import proofs.«01_k».proof.Proof.Gen.DownRefIdeal.Value
public import proofs.«01_k».proof.Proof.Gen.Pre_ok_scale
public import proofs.«01_k».proof.Proof.Gen.ProjV.Frame
public import proofs.«01_k».proof.Proof.Gen.ProjVIdeal.Frame
public import proofs.«01_k».proof.Proof.Gen.ProjVRefIdeal.Value
public import proofs.«01_k».proof.Proof.Gen.Pre_ok_ids_v
public import proofs.«01_k».proof.Proof.Gen.ProjK.Frame
public import proofs.«01_k».proof.Proof.Gen.ProjKIdeal.Frame
public import proofs.«01_k».proof.Proof.Gen.ProjKRefIdeal.Value
public import proofs.«01_k».proof.Proof.Gen.ProjQ.Frame
public import proofs.«01_k».proof.Proof.Gen.ProjQIdeal.Frame
public import proofs.«01_k».proof.Proof.Gen.ProjQRefIdeal.Value
public import proofs.«01_k».proof.Proof.Gen.Pre_ok_ids_qk
public import proofs.«01_k».proof.Proof.DownClaim
public import proofs.«01_k».proof.Proof.ProjVClaim
public import proofs.«01_k».proof.Proof.ProjKClaim
public import proofs.«01_k».proof.Proof.ProjQClaim

@[expose] public section

noncomputable section

namespace Cert.Proof

open Idealize.ShloMosaic Idealize.SL.Sem

theorem claim : Cert.Claim :=
  ⟨Cert.Down.Gen.facts, Cert.DownIdeal.Gen.facts, Cert.DownRefIdeal.Gen.facts,
    Cert.ProjV.Gen.facts, Cert.ProjVIdeal.Gen.facts, Cert.ProjVRefIdeal.Gen.facts,
    Cert.ProjK.Gen.facts, Cert.ProjKIdeal.Gen.facts, Cert.ProjKRefIdeal.Gen.facts,
    Cert.ProjQ.Gen.facts, Cert.ProjQIdeal.Gen.facts, Cert.ProjQRefIdeal.Gen.facts,
    Cert.Pre_ok_scale.Gen.facts, Cert.Pre_ok_ids_v.Gen.facts, Cert.Pre_ok_ids_qk.Gen.facts,
    fun m ρ _ => Cert.Down.Gen.frame m ρ,
    fun m ρ _ => Cert.DownIdeal.Gen.frame m ρ,
    fun m ρ _ => Cert.DownIdeal.Gen.frame m ρ,
    fun m ρ _ => Cert.DownRefIdeal.Gen.frame m ρ,
    fun m ρ _ => Cert.DownRefIdeal.Gen.frame m ρ,
    fun m ρ h => Cert.ProjV.Gen.frame m ρ (Cert.ProjVClaim.okProjV m h) (Cert.ProjVClaim.hypsProjV m h _),
    fun m ρ h => Cert.ProjVIdeal.Gen.frame m ρ (Cert.ProjVClaim.okProjVIdeal m h) (Cert.ProjVClaim.hypsProjVIdeal m h _),
    fun m ρ _ => Cert.ProjVRefIdeal.Gen.frame m ρ,
    fun m ρ h => Cert.ProjK.Gen.frame m ρ (Cert.ProjKClaim.okProjK m h) (Cert.ProjKClaim.hypsProjK m h _),
    fun m ρ h => Cert.ProjKIdeal.Gen.frame m ρ (Cert.ProjKClaim.okProjKIdeal m h) (Cert.ProjKClaim.hypsProjKIdeal m h _),
    fun m ρ _ => Cert.ProjKRefIdeal.Gen.frame m ρ,
    fun m ρ h => Cert.ProjQ.Gen.frame m ρ (Cert.ProjQClaim.okProjQ m h) (Cert.ProjQClaim.hypsProjQ m h _),
    fun m ρ h => Cert.ProjQIdeal.Gen.frame m ρ (Cert.ProjQClaim.okProjQIdeal m h) (Cert.ProjQClaim.hypsProjQIdeal m h _),
    fun m ρ _ => Cert.ProjQRefIdeal.Gen.frame m ρ,
    trivial,
    Cert.DownClaim.algebraic,
    trivial,
    Cert.ProjVClaim.algebraic,
    trivial,
    Cert.ProjKClaim.algebraic,
    trivial,
    Cert.ProjQClaim.algebraic⟩

end Cert.Proof

end
